-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sproj (m : (ℓ : Loc Cert.Sproj.nD Cert.Sproj.τ Cert.Sproj.sig) → Buf (Elt Bits) ℓ) : Prop :=
  True

def Pre_SprojIdeal (m : (ℓ : Loc Cert.SprojIdeal.nD Cert.SprojIdeal.τ Cert.SprojIdeal.sig) → Buf (Elt Ideal) ℓ) : Prop :=
  True

def Pre_SprojRefIdeal (m : (ℓ : Loc Cert.SprojRefIdeal.nD Cert.SprojRefIdeal.τ Cert.SprojRefIdeal.sig) → Buf (Elt Ideal) ℓ) : Prop :=
  True

def Pre_Pproj [hPre_pages_exist : Cert.Pre_pages_exist.Facts] (m : (ℓ : Loc Cert.Pproj.nD Cert.Pproj.τ Cert.Pproj.sig) → Buf (Elt Bits) ℓ) : Prop :=
  ∀ c : Dev Cert.Pproj.nD,
    (Cert.Pre_pages_exist.fn (F := Bits) (m ((c.tc : Thread Cert.Pproj.nD Cert.Pproj.τ).loc Cert.Pproj.main_arg0)) (m ((c.tc : Thread Cert.Pproj.nD Cert.Pproj.τ).loc Cert.Pproj.main_arg1)) (m ((c.tc : Thread Cert.Pproj.nD Cert.Pproj.τ).loc Cert.Pproj.main_arg2)) (m ((c.tc : Thread Cert.Pproj.nD Cert.Pproj.τ).loc Cert.Pproj.main_arg3)) (m ((c.tc : Thread Cert.Pproj.nD Cert.Pproj.τ).loc Cert.Pproj.main_arg4)) (m ((c.tc : Thread Cert.Pproj.nD Cert.Pproj.τ).loc Cert.Pproj.main_arg5)) (m ((c.tc : Thread Cert.Pproj.nD Cert.Pproj.τ).loc Cert.Pproj.main_arg6)) (m ((c.tc : Thread Cert.Pproj.nD Cert.Pproj.τ).loc Cert.Pproj.main_arg7)) (m ((c.tc : Thread Cert.Pproj.nD Cert.Pproj.τ).loc Cert.Pproj.main_arg8)) (m ((c.tc : Thread Cert.Pproj.nD Cert.Pproj.τ).loc Cert.Pproj.main_arg9))) = (fun _ => 1#1)

def Pre_PprojIdeal [hPre_pages_exist : Cert.Pre_pages_exist.Facts] (m : (ℓ : Loc Cert.PprojIdeal.nD Cert.PprojIdeal.τ Cert.PprojIdeal.sig) → Buf (Elt Ideal) ℓ) : Prop :=
  ∀ c : Dev Cert.PprojIdeal.nD,
    (Cert.Pre_pages_exist.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))) = (fun _ => 1#1)

def Pre_PprojRefIdeal [hPre_pages_exist : Cert.Pre_pages_exist.Facts] (m : (ℓ : Loc Cert.PprojRefIdeal.nD Cert.PprojRefIdeal.τ Cert.PprojRefIdeal.sig) → Buf (Elt Ideal) ℓ) : Prop :=
  ∀ c : Dev Cert.PprojRefIdeal.nD,
    (Cert.Pre_pages_exist.fn (F := Ideal) (m ((c.tc : Thread Cert.PprojRefIdeal.nD Cert.PprojRefIdeal.τ).loc Cert.PprojRefIdeal.main_arg0)) (m ((c.tc : Thread Cert.PprojRefIdeal.nD Cert.PprojRefIdeal.τ).loc Cert.PprojRefIdeal.main_arg1)) (m ((c.tc : Thread Cert.PprojRefIdeal.nD Cert.PprojRefIdeal.τ).loc Cert.PprojRefIdeal.main_arg2)) (m ((c.tc : Thread Cert.PprojRefIdeal.nD Cert.PprojRefIdeal.τ).loc Cert.PprojRefIdeal.main_arg3)) (m ((c.tc : Thread Cert.PprojRefIdeal.nD Cert.PprojRefIdeal.τ).loc Cert.PprojRefIdeal.main_arg4)) (m ((c.tc : Thread Cert.PprojRefIdeal.nD Cert.PprojRefIdeal.τ).loc Cert.PprojRefIdeal.main_arg5)) (m ((c.tc : Thread Cert.PprojRefIdeal.nD Cert.PprojRefIdeal.τ).loc Cert.PprojRefIdeal.main_arg6)) (m ((c.tc : Thread Cert.PprojRefIdeal.nD Cert.PprojRefIdeal.τ).loc Cert.PprojRefIdeal.main_arg7)) (m ((c.tc : Thread Cert.PprojRefIdeal.nD Cert.PprojRefIdeal.τ).loc Cert.PprojRefIdeal.main_arg8)) (m ((c.tc : Thread Cert.PprojRefIdeal.nD Cert.PprojRefIdeal.τ).loc Cert.PprojRefIdeal.main_arg9))) = (fun _ => 1#1)

def Pre_Smlp (m : (ℓ : Loc Cert.Smlp.nD Cert.Smlp.τ Cert.Smlp.sig) → Buf (Elt Bits) ℓ) : Prop :=
  True

def Pre_SmlpIdeal (m : (ℓ : Loc Cert.SmlpIdeal.nD Cert.SmlpIdeal.τ Cert.SmlpIdeal.sig) → Buf (Elt Ideal) ℓ) : Prop :=
  True

def Pre_SmlpRefIdeal (m : (ℓ : Loc Cert.SmlpRefIdeal.nD Cert.SmlpRefIdeal.τ Cert.SmlpRefIdeal.sig) → Buf (Elt Ideal) ℓ) : Prop :=
  True

def Pre_Smerge (m : (ℓ : Loc Cert.Smerge.nD Cert.Smerge.τ Cert.Smerge.sig) → Buf (Elt Bits) ℓ) : Prop :=
  True

def Pre_SmergeIdeal (m : (ℓ : Loc Cert.SmergeIdeal.nD Cert.SmergeIdeal.τ Cert.SmergeIdeal.sig) → Buf (Elt Ideal) ℓ) : Prop :=
  True

def Pre_SmergeRefIdeal (m : (ℓ : Loc Cert.SmergeRefIdeal.nD Cert.SmergeRefIdeal.τ Cert.SmergeRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Sproj [hSproj : Cert.Sproj.Facts] : Prop :=
  ∀ (m : (ℓ : Loc Cert.Sproj.nD Cert.Sproj.τ Cert.Sproj.sig) → Buf (Elt Bits) ℓ) (g : Dev Cert.Sproj.nD → PrngReg), Pre_Sproj m →
    θ_run (Cert.Sproj.defs (F := Bits)) (onTc (τ := Cert.Sproj.τ) (Cert.Sproj.main (F := Bits))) ⟨m, fun _ => 0, g⟩ (fun r => (∀ c : Dev Cert.Sproj.nD,
      r.2.mem ((c.tc : Thread Cert.Sproj.nD Cert.Sproj.τ).loc Cert.Sproj.main_arg0) = m ((c.tc : Thread Cert.Sproj.nD Cert.Sproj.τ).loc Cert.Sproj.main_arg0)
      ∧ r.2.mem ((c.tc : Thread Cert.Sproj.nD Cert.Sproj.τ).loc Cert.Sproj.main_arg1) = m ((c.tc : Thread Cert.Sproj.nD Cert.Sproj.τ).loc Cert.Sproj.main_arg1)
      ∧ r.2.mem ((c.tc : Thread Cert.Sproj.nD Cert.Sproj.τ).loc Cert.Sproj.main_arg2) = m ((c.tc : Thread Cert.Sproj.nD Cert.Sproj.τ).loc Cert.Sproj.main_arg2)
      ∧ r.2.mem ((c.tc : Thread Cert.Sproj.nD Cert.Sproj.τ).loc Cert.Sproj.main_arg3) = m ((c.tc : Thread Cert.Sproj.nD Cert.Sproj.τ).loc Cert.Sproj.main_arg3)
      ∧ r.2.mem ((c.tc : Thread Cert.Sproj.nD Cert.Sproj.τ).loc Cert.Sproj.main_arg4) = m ((c.tc : Thread Cert.Sproj.nD Cert.Sproj.τ).loc Cert.Sproj.main_arg4)
      ∧ r.2.mem ((c.tc : Thread Cert.Sproj.nD Cert.Sproj.τ).loc Cert.Sproj.main_arg5) = m ((c.tc : Thread Cert.Sproj.nD Cert.Sproj.τ).loc Cert.Sproj.main_arg5))
      ∧ r.2.sem = fun _ => 0)

def quiescent_SprojIdeal [hSprojIdeal : Cert.SprojIdeal.Facts] : Prop :=
  ∀ (m : (ℓ : Loc Cert.SprojIdeal.nD Cert.SprojIdeal.τ Cert.SprojIdeal.sig) → Buf (Elt Ideal) ℓ) (g : Dev Cert.SprojIdeal.nD → PrngReg), Pre_SprojIdeal m →
    θ_run (Cert.SprojIdeal.defs (F := Ideal)) (onTc (τ := Cert.SprojIdeal.τ) (Cert.SprojIdeal.main (F := Ideal))) ⟨m, fun _ => 0, g⟩ (fun r => (∀ c : Dev Cert.SprojIdeal.nD,
      r.2.mem ((c.tc : Thread Cert.SprojIdeal.nD Cert.SprojIdeal.τ).loc Cert.SprojIdeal.main_arg0) = m ((c.tc : Thread Cert.SprojIdeal.nD Cert.SprojIdeal.τ).loc Cert.SprojIdeal.main_arg0)
      ∧ r.2.mem ((c.tc : Thread Cert.SprojIdeal.nD Cert.SprojIdeal.τ).loc Cert.SprojIdeal.main_arg1) = m ((c.tc : Thread Cert.SprojIdeal.nD Cert.SprojIdeal.τ).loc Cert.SprojIdeal.main_arg1)
      ∧ r.2.mem ((c.tc : Thread Cert.SprojIdeal.nD Cert.SprojIdeal.τ).loc Cert.SprojIdeal.main_arg2) = m ((c.tc : Thread Cert.SprojIdeal.nD Cert.SprojIdeal.τ).loc Cert.SprojIdeal.main_arg2)
      ∧ r.2.mem ((c.tc : Thread Cert.SprojIdeal.nD Cert.SprojIdeal.τ).loc Cert.SprojIdeal.main_arg3) = m ((c.tc : Thread Cert.SprojIdeal.nD Cert.SprojIdeal.τ).loc Cert.SprojIdeal.main_arg3)
      ∧ r.2.mem ((c.tc : Thread Cert.SprojIdeal.nD Cert.SprojIdeal.τ).loc Cert.SprojIdeal.main_arg4) = m ((c.tc : Thread Cert.SprojIdeal.nD Cert.SprojIdeal.τ).loc Cert.SprojIdeal.main_arg4)
      ∧ r.2.mem ((c.tc : Thread Cert.SprojIdeal.nD Cert.SprojIdeal.τ).loc Cert.SprojIdeal.main_arg5) = m ((c.tc : Thread Cert.SprojIdeal.nD Cert.SprojIdeal.τ).loc Cert.SprojIdeal.main_arg5))
      ∧ r.2.sem = fun _ => 0)

def quiescent_SprojRefIdeal [hSprojRefIdeal : Cert.SprojRefIdeal.Facts] : Prop :=
  ∀ (m : (ℓ : Loc Cert.SprojRefIdeal.nD Cert.SprojRefIdeal.τ Cert.SprojRefIdeal.sig) → Buf (Elt Ideal) ℓ) (g : Dev Cert.SprojRefIdeal.nD → PrngReg), Pre_SprojRefIdeal m →
    θ_run (Cert.SprojRefIdeal.defs (F := Ideal)) (onTc (τ := Cert.SprojRefIdeal.τ) (Cert.SprojRefIdeal.main (F := Ideal))) ⟨m, fun _ => 0, g⟩ (fun r => (∀ c : Dev Cert.SprojRefIdeal.nD,
      r.2.mem ((c.tc : Thread Cert.SprojRefIdeal.nD Cert.SprojRefIdeal.τ).loc Cert.SprojRefIdeal.main_arg0) = m ((c.tc : Thread Cert.SprojRefIdeal.nD Cert.SprojRefIdeal.τ).loc Cert.SprojRefIdeal.main_arg0)
      ∧ r.2.mem ((c.tc : Thread Cert.SprojRefIdeal.nD Cert.SprojRefIdeal.τ).loc Cert.SprojRefIdeal.main_arg1) = m ((c.tc : Thread Cert.SprojRefIdeal.nD Cert.SprojRefIdeal.τ).loc Cert.SprojRefIdeal.main_arg1)
      ∧ r.2.mem ((c.tc : Thread Cert.SprojRefIdeal.nD Cert.SprojRefIdeal.τ).loc Cert.SprojRefIdeal.main_arg2) = m ((c.tc : Thread Cert.SprojRefIdeal.nD Cert.SprojRefIdeal.τ).loc Cert.SprojRefIdeal.main_arg2)
      ∧ r.2.mem ((c.tc : Thread Cert.SprojRefIdeal.nD Cert.SprojRefIdeal.τ).loc Cert.SprojRefIdeal.main_arg3) = m ((c.tc : Thread Cert.SprojRefIdeal.nD Cert.SprojRefIdeal.τ).loc Cert.SprojRefIdeal.main_arg3)
      ∧ r.2.mem ((c.tc : Thread Cert.SprojRefIdeal.nD Cert.SprojRefIdeal.τ).loc Cert.SprojRefIdeal.main_arg4) = m ((c.tc : Thread Cert.SprojRefIdeal.nD Cert.SprojRefIdeal.τ).loc Cert.SprojRefIdeal.main_arg4)
      ∧ r.2.mem ((c.tc : Thread Cert.SprojRefIdeal.nD Cert.SprojRefIdeal.τ).loc Cert.SprojRefIdeal.main_arg5) = m ((c.tc : Thread Cert.SprojRefIdeal.nD Cert.SprojRefIdeal.τ).loc Cert.SprojRefIdeal.main_arg5))
      ∧ r.2.sem = fun _ => 0)

def quiescent_Pproj [hPproj : Cert.Pproj.Facts] [hPre_pages_exist : Cert.Pre_pages_exist.Facts] : Prop :=
  ∀ (m : (ℓ : Loc Cert.Pproj.nD Cert.Pproj.τ Cert.Pproj.sig) → Buf (Elt Bits) ℓ) (g : Dev Cert.Pproj.nD → PrngReg), Pre_Pproj m →
    θ_run (Cert.Pproj.defs (F := Bits)) (onTc (τ := Cert.Pproj.τ) (Cert.Pproj.main (F := Bits))) ⟨m, fun _ => 0, g⟩ (fun r => (∀ c : Dev Cert.Pproj.nD,
      r.2.mem ((c.tc : Thread Cert.Pproj.nD Cert.Pproj.τ).loc Cert.Pproj.main_arg0) = m ((c.tc : Thread Cert.Pproj.nD Cert.Pproj.τ).loc Cert.Pproj.main_arg0)
      ∧ r.2.mem ((c.tc : Thread Cert.Pproj.nD Cert.Pproj.τ).loc Cert.Pproj.main_arg1) = m ((c.tc : Thread Cert.Pproj.nD Cert.Pproj.τ).loc Cert.Pproj.main_arg1)
      ∧ r.2.mem ((c.tc : Thread Cert.Pproj.nD Cert.Pproj.τ).loc Cert.Pproj.main_arg2) = m ((c.tc : Thread Cert.Pproj.nD Cert.Pproj.τ).loc Cert.Pproj.main_arg2)
      ∧ r.2.mem ((c.tc : Thread Cert.Pproj.nD Cert.Pproj.τ).loc Cert.Pproj.main_arg3) = m ((c.tc : Thread Cert.Pproj.nD Cert.Pproj.τ).loc Cert.Pproj.main_arg3)
      ∧ r.2.mem ((c.tc : Thread Cert.Pproj.nD Cert.Pproj.τ).loc Cert.Pproj.main_arg4) = m ((c.tc : Thread Cert.Pproj.nD Cert.Pproj.τ).loc Cert.Pproj.main_arg4)
      ∧ r.2.mem ((c.tc : Thread Cert.Pproj.nD Cert.Pproj.τ).loc Cert.Pproj.main_arg5) = m ((c.tc : Thread Cert.Pproj.nD Cert.Pproj.τ).loc Cert.Pproj.main_arg5)
      ∧ r.2.mem ((c.tc : Thread Cert.Pproj.nD Cert.Pproj.τ).loc Cert.Pproj.main_arg6) = m ((c.tc : Thread Cert.Pproj.nD Cert.Pproj.τ).loc Cert.Pproj.main_arg6)
      ∧ r.2.mem ((c.tc : Thread Cert.Pproj.nD Cert.Pproj.τ).loc Cert.Pproj.main_arg7) = m ((c.tc : Thread Cert.Pproj.nD Cert.Pproj.τ).loc Cert.Pproj.main_arg7)
      ∧ r.2.mem ((c.tc : Thread Cert.Pproj.nD Cert.Pproj.τ).loc Cert.Pproj.main_arg8) = m ((c.tc : Thread Cert.Pproj.nD Cert.Pproj.τ).loc Cert.Pproj.main_arg8)
      ∧ r.2.mem ((c.tc : Thread Cert.Pproj.nD Cert.Pproj.τ).loc Cert.Pproj.main_arg9) = m ((c.tc : Thread Cert.Pproj.nD Cert.Pproj.τ).loc Cert.Pproj.main_arg9))
      ∧ r.2.sem = fun _ => 0)

def quiescent_PprojIdeal [hPprojIdeal : Cert.PprojIdeal.Facts] [hPre_pages_exist : Cert.Pre_pages_exist.Facts] : Prop :=
  ∀ (m : (ℓ : Loc Cert.PprojIdeal.nD Cert.PprojIdeal.τ Cert.PprojIdeal.sig) → Buf (Elt Ideal) ℓ) (g : Dev Cert.PprojIdeal.nD → PrngReg), Pre_PprojIdeal m →
    θ_run (Cert.PprojIdeal.defs (F := Ideal)) (onTc (τ := Cert.PprojIdeal.τ) (Cert.PprojIdeal.main (F := Ideal))) ⟨m, fun _ => 0, g⟩ (fun r => (∀ c : Dev Cert.PprojIdeal.nD,
      r.2.mem ((c.tc : Thread Cert.PprojIdeal.nD Cert.PprojIdeal.τ).loc Cert.PprojIdeal.main_arg0) = m ((c.tc : Thread Cert.PprojIdeal.nD Cert.PprojIdeal.τ).loc Cert.PprojIdeal.main_arg0)
      ∧ r.2.mem ((c.tc : Thread Cert.PprojIdeal.nD Cert.PprojIdeal.τ).loc Cert.PprojIdeal.main_arg1) = m ((c.tc : Thread Cert.PprojIdeal.nD Cert.PprojIdeal.τ).loc Cert.PprojIdeal.main_arg1)
      ∧ r.2.mem ((c.tc : Thread Cert.PprojIdeal.nD Cert.PprojIdeal.τ).loc Cert.PprojIdeal.main_arg2) = m ((c.tc : Thread Cert.PprojIdeal.nD Cert.PprojIdeal.τ).loc Cert.PprojIdeal.main_arg2)
      ∧ r.2.mem ((c.tc : Thread Cert.PprojIdeal.nD Cert.PprojIdeal.τ).loc Cert.PprojIdeal.main_arg3) = m ((c.tc : Thread Cert.PprojIdeal.nD Cert.PprojIdeal.τ).loc Cert.PprojIdeal.main_arg3)
      ∧ r.2.mem ((c.tc : Thread Cert.PprojIdeal.nD Cert.PprojIdeal.τ).loc Cert.PprojIdeal.main_arg4) = m ((c.tc : Thread Cert.PprojIdeal.nD Cert.PprojIdeal.τ).loc Cert.PprojIdeal.main_arg4)
      ∧ r.2.mem ((c.tc : Thread Cert.PprojIdeal.nD Cert.PprojIdeal.τ).loc Cert.PprojIdeal.main_arg5) = m ((c.tc : Thread Cert.PprojIdeal.nD Cert.PprojIdeal.τ).loc Cert.PprojIdeal.main_arg5)
      ∧ r.2.mem ((c.tc : Thread Cert.PprojIdeal.nD Cert.PprojIdeal.τ).loc Cert.PprojIdeal.main_arg6) = m ((c.tc : Thread Cert.PprojIdeal.nD Cert.PprojIdeal.τ).loc Cert.PprojIdeal.main_arg6)
      ∧ r.2.mem ((c.tc : Thread Cert.PprojIdeal.nD Cert.PprojIdeal.τ).loc Cert.PprojIdeal.main_arg7) = m ((c.tc : Thread Cert.PprojIdeal.nD Cert.PprojIdeal.τ).loc Cert.PprojIdeal.main_arg7)
      ∧ r.2.mem ((c.tc : Thread Cert.PprojIdeal.nD Cert.PprojIdeal.τ).loc Cert.PprojIdeal.main_arg8) = m ((c.tc : Thread Cert.PprojIdeal.nD Cert.PprojIdeal.τ).loc Cert.PprojIdeal.main_arg8)
      ∧ r.2.mem ((c.tc : Thread Cert.PprojIdeal.nD Cert.PprojIdeal.τ).loc Cert.PprojIdeal.main_arg9) = m ((c.tc : Thread Cert.PprojIdeal.nD Cert.PprojIdeal.τ).loc Cert.PprojIdeal.main_arg9))
      ∧ r.2.sem = fun _ => 0)

def quiescent_PprojRefIdeal [hPprojRefIdeal : Cert.PprojRefIdeal.Facts] [hPre_pages_exist : Cert.Pre_pages_exist.Facts] : Prop :=
  ∀ (m : (ℓ : Loc Cert.PprojRefIdeal.nD Cert.PprojRefIdeal.τ Cert.PprojRefIdeal.sig) → Buf (Elt Ideal) ℓ) (g : Dev Cert.PprojRefIdeal.nD → PrngReg), Pre_PprojRefIdeal m →
    θ_run (Cert.PprojRefIdeal.defs (F := Ideal)) (onTc (τ := Cert.PprojRefIdeal.τ) (Cert.PprojRefIdeal.main (F := Ideal))) ⟨m, fun _ => 0, g⟩ (fun r => (∀ c : Dev Cert.PprojRefIdeal.nD,
      r.2.mem ((c.tc : Thread Cert.PprojRefIdeal.nD Cert.PprojRefIdeal.τ).loc Cert.PprojRefIdeal.main_arg0) = m ((c.tc : Thread Cert.PprojRefIdeal.nD Cert.PprojRefIdeal.τ).loc Cert.PprojRefIdeal.main_arg0)
      ∧ r.2.mem ((c.tc : Thread Cert.PprojRefIdeal.nD Cert.PprojRefIdeal.τ).loc Cert.PprojRefIdeal.main_arg1) = m ((c.tc : Thread Cert.PprojRefIdeal.nD Cert.PprojRefIdeal.τ).loc Cert.PprojRefIdeal.main_arg1)
      ∧ r.2.mem ((c.tc : Thread Cert.PprojRefIdeal.nD Cert.PprojRefIdeal.τ).loc Cert.PprojRefIdeal.main_arg2) = m ((c.tc : Thread Cert.PprojRefIdeal.nD Cert.PprojRefIdeal.τ).loc Cert.PprojRefIdeal.main_arg2)
      ∧ r.2.mem ((c.tc : Thread Cert.PprojRefIdeal.nD Cert.PprojRefIdeal.τ).loc Cert.PprojRefIdeal.main_arg3) = m ((c.tc : Thread Cert.PprojRefIdeal.nD Cert.PprojRefIdeal.τ).loc Cert.PprojRefIdeal.main_arg3)
      ∧ r.2.mem ((c.tc : Thread Cert.PprojRefIdeal.nD Cert.PprojRefIdeal.τ).loc Cert.PprojRefIdeal.main_arg4) = m ((c.tc : Thread Cert.PprojRefIdeal.nD Cert.PprojRefIdeal.τ).loc Cert.PprojRefIdeal.main_arg4)
      ∧ r.2.mem ((c.tc : Thread Cert.PprojRefIdeal.nD Cert.PprojRefIdeal.τ).loc Cert.PprojRefIdeal.main_arg5) = m ((c.tc : Thread Cert.PprojRefIdeal.nD Cert.PprojRefIdeal.τ).loc Cert.PprojRefIdeal.main_arg5)
      ∧ r.2.mem ((c.tc : Thread Cert.PprojRefIdeal.nD Cert.PprojRefIdeal.τ).loc Cert.PprojRefIdeal.main_arg6) = m ((c.tc : Thread Cert.PprojRefIdeal.nD Cert.PprojRefIdeal.τ).loc Cert.PprojRefIdeal.main_arg6)
      ∧ r.2.mem ((c.tc : Thread Cert.PprojRefIdeal.nD Cert.PprojRefIdeal.τ).loc Cert.PprojRefIdeal.main_arg7) = m ((c.tc : Thread Cert.PprojRefIdeal.nD Cert.PprojRefIdeal.τ).loc Cert.PprojRefIdeal.main_arg7)
      ∧ r.2.mem ((c.tc : Thread Cert.PprojRefIdeal.nD Cert.PprojRefIdeal.τ).loc Cert.PprojRefIdeal.main_arg8) = m ((c.tc : Thread Cert.PprojRefIdeal.nD Cert.PprojRefIdeal.τ).loc Cert.PprojRefIdeal.main_arg8)
      ∧ r.2.mem ((c.tc : Thread Cert.PprojRefIdeal.nD Cert.PprojRefIdeal.τ).loc Cert.PprojRefIdeal.main_arg9) = m ((c.tc : Thread Cert.PprojRefIdeal.nD Cert.PprojRefIdeal.τ).loc Cert.PprojRefIdeal.main_arg9))
      ∧ r.2.sem = fun _ => 0)

def quiescent_Smlp [hSmlp : Cert.Smlp.Facts] : Prop :=
  ∀ (m : (ℓ : Loc Cert.Smlp.nD Cert.Smlp.τ Cert.Smlp.sig) → Buf (Elt Bits) ℓ) (g : Dev Cert.Smlp.nD → PrngReg), Pre_Smlp m →
    θ_run (Cert.Smlp.defs (F := Bits)) (onTc (τ := Cert.Smlp.τ) (Cert.Smlp.main (F := Bits))) ⟨m, fun _ => 0, g⟩ (fun r => (∀ c : Dev Cert.Smlp.nD,
      r.2.mem ((c.tc : Thread Cert.Smlp.nD Cert.Smlp.τ).loc Cert.Smlp.main_arg0) = m ((c.tc : Thread Cert.Smlp.nD Cert.Smlp.τ).loc Cert.Smlp.main_arg0)
      ∧ r.2.mem ((c.tc : Thread Cert.Smlp.nD Cert.Smlp.τ).loc Cert.Smlp.main_arg1) = m ((c.tc : Thread Cert.Smlp.nD Cert.Smlp.τ).loc Cert.Smlp.main_arg1)
      ∧ r.2.mem ((c.tc : Thread Cert.Smlp.nD Cert.Smlp.τ).loc Cert.Smlp.main_arg2) = m ((c.tc : Thread Cert.Smlp.nD Cert.Smlp.τ).loc Cert.Smlp.main_arg2)
      ∧ r.2.mem ((c.tc : Thread Cert.Smlp.nD Cert.Smlp.τ).loc Cert.Smlp.main_arg3) = m ((c.tc : Thread Cert.Smlp.nD Cert.Smlp.τ).loc Cert.Smlp.main_arg3)
      ∧ r.2.mem ((c.tc : Thread Cert.Smlp.nD Cert.Smlp.τ).loc Cert.Smlp.main_arg4) = m ((c.tc : Thread Cert.Smlp.nD Cert.Smlp.τ).loc Cert.Smlp.main_arg4)
      ∧ r.2.mem ((c.tc : Thread Cert.Smlp.nD Cert.Smlp.τ).loc Cert.Smlp.main_arg5) = m ((c.tc : Thread Cert.Smlp.nD Cert.Smlp.τ).loc Cert.Smlp.main_arg5)
      ∧ r.2.mem ((c.tc : Thread Cert.Smlp.nD Cert.Smlp.τ).loc Cert.Smlp.main_arg6) = m ((c.tc : Thread Cert.Smlp.nD Cert.Smlp.τ).loc Cert.Smlp.main_arg6)
      ∧ r.2.mem ((c.tc : Thread Cert.Smlp.nD Cert.Smlp.τ).loc Cert.Smlp.main_arg7) = m ((c.tc : Thread Cert.Smlp.nD Cert.Smlp.τ).loc Cert.Smlp.main_arg7))
      ∧ r.2.sem = fun _ => 0)

def quiescent_SmlpIdeal [hSmlpIdeal : Cert.SmlpIdeal.Facts] : Prop :=
  ∀ (m : (ℓ : Loc Cert.SmlpIdeal.nD Cert.SmlpIdeal.τ Cert.SmlpIdeal.sig) → Buf (Elt Ideal) ℓ) (g : Dev Cert.SmlpIdeal.nD → PrngReg), Pre_SmlpIdeal m →
    θ_run (Cert.SmlpIdeal.defs (F := Ideal)) (onTc (τ := Cert.SmlpIdeal.τ) (Cert.SmlpIdeal.main (F := Ideal))) ⟨m, fun _ => 0, g⟩ (fun r => (∀ c : Dev Cert.SmlpIdeal.nD,
      r.2.mem ((c.tc : Thread Cert.SmlpIdeal.nD Cert.SmlpIdeal.τ).loc Cert.SmlpIdeal.main_arg0) = m ((c.tc : Thread Cert.SmlpIdeal.nD Cert.SmlpIdeal.τ).loc Cert.SmlpIdeal.main_arg0)
      ∧ r.2.mem ((c.tc : Thread Cert.SmlpIdeal.nD Cert.SmlpIdeal.τ).loc Cert.SmlpIdeal.main_arg1) = m ((c.tc : Thread Cert.SmlpIdeal.nD Cert.SmlpIdeal.τ).loc Cert.SmlpIdeal.main_arg1)
      ∧ r.2.mem ((c.tc : Thread Cert.SmlpIdeal.nD Cert.SmlpIdeal.τ).loc Cert.SmlpIdeal.main_arg2) = m ((c.tc : Thread Cert.SmlpIdeal.nD Cert.SmlpIdeal.τ).loc Cert.SmlpIdeal.main_arg2)
      ∧ r.2.mem ((c.tc : Thread Cert.SmlpIdeal.nD Cert.SmlpIdeal.τ).loc Cert.SmlpIdeal.main_arg3) = m ((c.tc : Thread Cert.SmlpIdeal.nD Cert.SmlpIdeal.τ).loc Cert.SmlpIdeal.main_arg3)
      ∧ r.2.mem ((c.tc : Thread Cert.SmlpIdeal.nD Cert.SmlpIdeal.τ).loc Cert.SmlpIdeal.main_arg4) = m ((c.tc : Thread Cert.SmlpIdeal.nD Cert.SmlpIdeal.τ).loc Cert.SmlpIdeal.main_arg4)
      ∧ r.2.mem ((c.tc : Thread Cert.SmlpIdeal.nD Cert.SmlpIdeal.τ).loc Cert.SmlpIdeal.main_arg5) = m ((c.tc : Thread Cert.SmlpIdeal.nD Cert.SmlpIdeal.τ).loc Cert.SmlpIdeal.main_arg5)
      ∧ r.2.mem ((c.tc : Thread Cert.SmlpIdeal.nD Cert.SmlpIdeal.τ).loc Cert.SmlpIdeal.main_arg6) = m ((c.tc : Thread Cert.SmlpIdeal.nD Cert.SmlpIdeal.τ).loc Cert.SmlpIdeal.main_arg6)
      ∧ r.2.mem ((c.tc : Thread Cert.SmlpIdeal.nD Cert.SmlpIdeal.τ).loc Cert.SmlpIdeal.main_arg7) = m ((c.tc : Thread Cert.SmlpIdeal.nD Cert.SmlpIdeal.τ).loc Cert.SmlpIdeal.main_arg7))
      ∧ r.2.sem = fun _ => 0)

def quiescent_SmlpRefIdeal [hSmlpRefIdeal : Cert.SmlpRefIdeal.Facts] : Prop :=
  ∀ (m : (ℓ : Loc Cert.SmlpRefIdeal.nD Cert.SmlpRefIdeal.τ Cert.SmlpRefIdeal.sig) → Buf (Elt Ideal) ℓ) (g : Dev Cert.SmlpRefIdeal.nD → PrngReg), Pre_SmlpRefIdeal m →
    θ_run (Cert.SmlpRefIdeal.defs (F := Ideal)) (onTc (τ := Cert.SmlpRefIdeal.τ) (Cert.SmlpRefIdeal.main (F := Ideal))) ⟨m, fun _ => 0, g⟩ (fun r => (∀ c : Dev Cert.SmlpRefIdeal.nD,
      r.2.mem ((c.tc : Thread Cert.SmlpRefIdeal.nD Cert.SmlpRefIdeal.τ).loc Cert.SmlpRefIdeal.main_arg0) = m ((c.tc : Thread Cert.SmlpRefIdeal.nD Cert.SmlpRefIdeal.τ).loc Cert.SmlpRefIdeal.main_arg0)
      ∧ r.2.mem ((c.tc : Thread Cert.SmlpRefIdeal.nD Cert.SmlpRefIdeal.τ).loc Cert.SmlpRefIdeal.main_arg1) = m ((c.tc : Thread Cert.SmlpRefIdeal.nD Cert.SmlpRefIdeal.τ).loc Cert.SmlpRefIdeal.main_arg1)
      ∧ r.2.mem ((c.tc : Thread Cert.SmlpRefIdeal.nD Cert.SmlpRefIdeal.τ).loc Cert.SmlpRefIdeal.main_arg2) = m ((c.tc : Thread Cert.SmlpRefIdeal.nD Cert.SmlpRefIdeal.τ).loc Cert.SmlpRefIdeal.main_arg2)
      ∧ r.2.mem ((c.tc : Thread Cert.SmlpRefIdeal.nD Cert.SmlpRefIdeal.τ).loc Cert.SmlpRefIdeal.main_arg3) = m ((c.tc : Thread Cert.SmlpRefIdeal.nD Cert.SmlpRefIdeal.τ).loc Cert.SmlpRefIdeal.main_arg3)
      ∧ r.2.mem ((c.tc : Thread Cert.SmlpRefIdeal.nD Cert.SmlpRefIdeal.τ).loc Cert.SmlpRefIdeal.main_arg4) = m ((c.tc : Thread Cert.SmlpRefIdeal.nD Cert.SmlpRefIdeal.τ).loc Cert.SmlpRefIdeal.main_arg4)
      ∧ r.2.mem ((c.tc : Thread Cert.SmlpRefIdeal.nD Cert.SmlpRefIdeal.τ).loc Cert.SmlpRefIdeal.main_arg5) = m ((c.tc : Thread Cert.SmlpRefIdeal.nD Cert.SmlpRefIdeal.τ).loc Cert.SmlpRefIdeal.main_arg5)
      ∧ r.2.mem ((c.tc : Thread Cert.SmlpRefIdeal.nD Cert.SmlpRefIdeal.τ).loc Cert.SmlpRefIdeal.main_arg6) = m ((c.tc : Thread Cert.SmlpRefIdeal.nD Cert.SmlpRefIdeal.τ).loc Cert.SmlpRefIdeal.main_arg6)
      ∧ r.2.mem ((c.tc : Thread Cert.SmlpRefIdeal.nD Cert.SmlpRefIdeal.τ).loc Cert.SmlpRefIdeal.main_arg7) = m ((c.tc : Thread Cert.SmlpRefIdeal.nD Cert.SmlpRefIdeal.τ).loc Cert.SmlpRefIdeal.main_arg7))
      ∧ r.2.sem = fun _ => 0)

def quiescent_Smerge [hSmerge : Cert.Smerge.Facts] : Prop :=
  ∀ (m : (ℓ : Loc Cert.Smerge.nD Cert.Smerge.τ Cert.Smerge.sig) → Buf (Elt Bits) ℓ) (g : Dev Cert.Smerge.nD → PrngReg), Pre_Smerge m →
    θ_run (Cert.Smerge.defs (F := Bits)) (onTc (τ := Cert.Smerge.τ) (Cert.Smerge.main (F := Bits))) ⟨m, fun _ => 0, g⟩ (fun r => (∀ c : Dev Cert.Smerge.nD,
      r.2.mem ((c.tc : Thread Cert.Smerge.nD Cert.Smerge.τ).loc Cert.Smerge.main_arg0) = m ((c.tc : Thread Cert.Smerge.nD Cert.Smerge.τ).loc Cert.Smerge.main_arg0)
      ∧ r.2.mem ((c.tc : Thread Cert.Smerge.nD Cert.Smerge.τ).loc Cert.Smerge.main_arg1) = m ((c.tc : Thread Cert.Smerge.nD Cert.Smerge.τ).loc Cert.Smerge.main_arg1)
      ∧ r.2.mem ((c.tc : Thread Cert.Smerge.nD Cert.Smerge.τ).loc Cert.Smerge.main_arg2) = m ((c.tc : Thread Cert.Smerge.nD Cert.Smerge.τ).loc Cert.Smerge.main_arg2)
      ∧ r.2.mem ((c.tc : Thread Cert.Smerge.nD Cert.Smerge.τ).loc Cert.Smerge.main_arg3) = m ((c.tc : Thread Cert.Smerge.nD Cert.Smerge.τ).loc Cert.Smerge.main_arg3)
      ∧ r.2.mem ((c.tc : Thread Cert.Smerge.nD Cert.Smerge.τ).loc Cert.Smerge.main_arg4) = m ((c.tc : Thread Cert.Smerge.nD Cert.Smerge.τ).loc Cert.Smerge.main_arg4)
      ∧ r.2.mem ((c.tc : Thread Cert.Smerge.nD Cert.Smerge.τ).loc Cert.Smerge.main_arg5) = m ((c.tc : Thread Cert.Smerge.nD Cert.Smerge.τ).loc Cert.Smerge.main_arg5)
      ∧ r.2.mem ((c.tc : Thread Cert.Smerge.nD Cert.Smerge.τ).loc Cert.Smerge.main_arg6) = m ((c.tc : Thread Cert.Smerge.nD Cert.Smerge.τ).loc Cert.Smerge.main_arg6)
      ∧ r.2.mem ((c.tc : Thread Cert.Smerge.nD Cert.Smerge.τ).loc Cert.Smerge.main_arg7) = m ((c.tc : Thread Cert.Smerge.nD Cert.Smerge.τ).loc Cert.Smerge.main_arg7)
      ∧ r.2.mem ((c.tc : Thread Cert.Smerge.nD Cert.Smerge.τ).loc Cert.Smerge.main_arg8) = m ((c.tc : Thread Cert.Smerge.nD Cert.Smerge.τ).loc Cert.Smerge.main_arg8)
      ∧ r.2.mem ((c.tc : Thread Cert.Smerge.nD Cert.Smerge.τ).loc Cert.Smerge.main_arg9) = m ((c.tc : Thread Cert.Smerge.nD Cert.Smerge.τ).loc Cert.Smerge.main_arg9)
      ∧ r.2.mem ((c.tc : Thread Cert.Smerge.nD Cert.Smerge.τ).loc Cert.Smerge.main_arg10) = m ((c.tc : Thread Cert.Smerge.nD Cert.Smerge.τ).loc Cert.Smerge.main_arg10)
      ∧ r.2.mem ((c.tc : Thread Cert.Smerge.nD Cert.Smerge.τ).loc Cert.Smerge.main_arg11) = m ((c.tc : Thread Cert.Smerge.nD Cert.Smerge.τ).loc Cert.Smerge.main_arg11))
      ∧ r.2.sem = fun _ => 0)

def quiescent_SmergeIdeal [hSmergeIdeal : Cert.SmergeIdeal.Facts] : Prop :=
  ∀ (m : (ℓ : Loc Cert.SmergeIdeal.nD Cert.SmergeIdeal.τ Cert.SmergeIdeal.sig) → Buf (Elt Ideal) ℓ) (g : Dev Cert.SmergeIdeal.nD → PrngReg), Pre_SmergeIdeal m →
    θ_run (Cert.SmergeIdeal.defs (F := Ideal)) (onTc (τ := Cert.SmergeIdeal.τ) (Cert.SmergeIdeal.main (F := Ideal))) ⟨m, fun _ => 0, g⟩ (fun r => (∀ c : Dev Cert.SmergeIdeal.nD,
      r.2.mem ((c.tc : Thread Cert.SmergeIdeal.nD Cert.SmergeIdeal.τ).loc Cert.SmergeIdeal.main_arg0) = m ((c.tc : Thread Cert.SmergeIdeal.nD Cert.SmergeIdeal.τ).loc Cert.SmergeIdeal.main_arg0)
      ∧ r.2.mem ((c.tc : Thread Cert.SmergeIdeal.nD Cert.SmergeIdeal.τ).loc Cert.SmergeIdeal.main_arg1) = m ((c.tc : Thread Cert.SmergeIdeal.nD Cert.SmergeIdeal.τ).loc Cert.SmergeIdeal.main_arg1)
      ∧ r.2.mem ((c.tc : Thread Cert.SmergeIdeal.nD Cert.SmergeIdeal.τ).loc Cert.SmergeIdeal.main_arg2) = m ((c.tc : Thread Cert.SmergeIdeal.nD Cert.SmergeIdeal.τ).loc Cert.SmergeIdeal.main_arg2)
      ∧ r.2.mem ((c.tc : Thread Cert.SmergeIdeal.nD Cert.SmergeIdeal.τ).loc Cert.SmergeIdeal.main_arg3) = m ((c.tc : Thread Cert.SmergeIdeal.nD Cert.SmergeIdeal.τ).loc Cert.SmergeIdeal.main_arg3)
      ∧ r.2.mem ((c.tc : Thread Cert.SmergeIdeal.nD Cert.SmergeIdeal.τ).loc Cert.SmergeIdeal.main_arg4) = m ((c.tc : Thread Cert.SmergeIdeal.nD Cert.SmergeIdeal.τ).loc Cert.SmergeIdeal.main_arg4)
      ∧ r.2.mem ((c.tc : Thread Cert.SmergeIdeal.nD Cert.SmergeIdeal.τ).loc Cert.SmergeIdeal.main_arg5) = m ((c.tc : Thread Cert.SmergeIdeal.nD Cert.SmergeIdeal.τ).loc Cert.SmergeIdeal.main_arg5)
      ∧ r.2.mem ((c.tc : Thread Cert.SmergeIdeal.nD Cert.SmergeIdeal.τ).loc Cert.SmergeIdeal.main_arg6) = m ((c.tc : Thread Cert.SmergeIdeal.nD Cert.SmergeIdeal.τ).loc Cert.SmergeIdeal.main_arg6)
      ∧ r.2.mem ((c.tc : Thread Cert.SmergeIdeal.nD Cert.SmergeIdeal.τ).loc Cert.SmergeIdeal.main_arg7) = m ((c.tc : Thread Cert.SmergeIdeal.nD Cert.SmergeIdeal.τ).loc Cert.SmergeIdeal.main_arg7)
      ∧ r.2.mem ((c.tc : Thread Cert.SmergeIdeal.nD Cert.SmergeIdeal.τ).loc Cert.SmergeIdeal.main_arg8) = m ((c.tc : Thread Cert.SmergeIdeal.nD Cert.SmergeIdeal.τ).loc Cert.SmergeIdeal.main_arg8)
      ∧ r.2.mem ((c.tc : Thread Cert.SmergeIdeal.nD Cert.SmergeIdeal.τ).loc Cert.SmergeIdeal.main_arg9) = m ((c.tc : Thread Cert.SmergeIdeal.nD Cert.SmergeIdeal.τ).loc Cert.SmergeIdeal.main_arg9)
      ∧ r.2.mem ((c.tc : Thread Cert.SmergeIdeal.nD Cert.SmergeIdeal.τ).loc Cert.SmergeIdeal.main_arg10) = m ((c.tc : Thread Cert.SmergeIdeal.nD Cert.SmergeIdeal.τ).loc Cert.SmergeIdeal.main_arg10)
      ∧ r.2.mem ((c.tc : Thread Cert.SmergeIdeal.nD Cert.SmergeIdeal.τ).loc Cert.SmergeIdeal.main_arg11) = m ((c.tc : Thread Cert.SmergeIdeal.nD Cert.SmergeIdeal.τ).loc Cert.SmergeIdeal.main_arg11))
      ∧ r.2.sem = fun _ => 0)

def quiescent_SmergeRefIdeal [hSmergeRefIdeal : Cert.SmergeRefIdeal.Facts] : Prop :=
  ∀ (m : (ℓ : Loc Cert.SmergeRefIdeal.nD Cert.SmergeRefIdeal.τ Cert.SmergeRefIdeal.sig) → Buf (Elt Ideal) ℓ) (g : Dev Cert.SmergeRefIdeal.nD → PrngReg), Pre_SmergeRefIdeal m →
    θ_run (Cert.SmergeRefIdeal.defs (F := Ideal)) (onTc (τ := Cert.SmergeRefIdeal.τ) (Cert.SmergeRefIdeal.main (F := Ideal))) ⟨m, fun _ => 0, g⟩ (fun r => (∀ c : Dev Cert.SmergeRefIdeal.nD,
      r.2.mem ((c.tc : Thread Cert.SmergeRefIdeal.nD Cert.SmergeRefIdeal.τ).loc Cert.SmergeRefIdeal.main_arg0) = m ((c.tc : Thread Cert.SmergeRefIdeal.nD Cert.SmergeRefIdeal.τ).loc Cert.SmergeRefIdeal.main_arg0)
      ∧ r.2.mem ((c.tc : Thread Cert.SmergeRefIdeal.nD Cert.SmergeRefIdeal.τ).loc Cert.SmergeRefIdeal.main_arg1) = m ((c.tc : Thread Cert.SmergeRefIdeal.nD Cert.SmergeRefIdeal.τ).loc Cert.SmergeRefIdeal.main_arg1)
      ∧ r.2.mem ((c.tc : Thread Cert.SmergeRefIdeal.nD Cert.SmergeRefIdeal.τ).loc Cert.SmergeRefIdeal.main_arg2) = m ((c.tc : Thread Cert.SmergeRefIdeal.nD Cert.SmergeRefIdeal.τ).loc Cert.SmergeRefIdeal.main_arg2)
      ∧ r.2.mem ((c.tc : Thread Cert.SmergeRefIdeal.nD Cert.SmergeRefIdeal.τ).loc Cert.SmergeRefIdeal.main_arg3) = m ((c.tc : Thread Cert.SmergeRefIdeal.nD Cert.SmergeRefIdeal.τ).loc Cert.SmergeRefIdeal.main_arg3)
      ∧ r.2.mem ((c.tc : Thread Cert.SmergeRefIdeal.nD Cert.SmergeRefIdeal.τ).loc Cert.SmergeRefIdeal.main_arg4) = m ((c.tc : Thread Cert.SmergeRefIdeal.nD Cert.SmergeRefIdeal.τ).loc Cert.SmergeRefIdeal.main_arg4)
      ∧ r.2.mem ((c.tc : Thread Cert.SmergeRefIdeal.nD Cert.SmergeRefIdeal.τ).loc Cert.SmergeRefIdeal.main_arg5) = m ((c.tc : Thread Cert.SmergeRefIdeal.nD Cert.SmergeRefIdeal.τ).loc Cert.SmergeRefIdeal.main_arg5)
      ∧ r.2.mem ((c.tc : Thread Cert.SmergeRefIdeal.nD Cert.SmergeRefIdeal.τ).loc Cert.SmergeRefIdeal.main_arg6) = m ((c.tc : Thread Cert.SmergeRefIdeal.nD Cert.SmergeRefIdeal.τ).loc Cert.SmergeRefIdeal.main_arg6)
      ∧ r.2.mem ((c.tc : Thread Cert.SmergeRefIdeal.nD Cert.SmergeRefIdeal.τ).loc Cert.SmergeRefIdeal.main_arg7) = m ((c.tc : Thread Cert.SmergeRefIdeal.nD Cert.SmergeRefIdeal.τ).loc Cert.SmergeRefIdeal.main_arg7)
      ∧ r.2.mem ((c.tc : Thread Cert.SmergeRefIdeal.nD Cert.SmergeRefIdeal.τ).loc Cert.SmergeRefIdeal.main_arg8) = m ((c.tc : Thread Cert.SmergeRefIdeal.nD Cert.SmergeRefIdeal.τ).loc Cert.SmergeRefIdeal.main_arg8)
      ∧ r.2.mem ((c.tc : Thread Cert.SmergeRefIdeal.nD Cert.SmergeRefIdeal.τ).loc Cert.SmergeRefIdeal.main_arg9) = m ((c.tc : Thread Cert.SmergeRefIdeal.nD Cert.SmergeRefIdeal.τ).loc Cert.SmergeRefIdeal.main_arg9)
      ∧ r.2.mem ((c.tc : Thread Cert.SmergeRefIdeal.nD Cert.SmergeRefIdeal.τ).loc Cert.SmergeRefIdeal.main_arg10) = m ((c.tc : Thread Cert.SmergeRefIdeal.nD Cert.SmergeRefIdeal.τ).loc Cert.SmergeRefIdeal.main_arg10)
      ∧ r.2.mem ((c.tc : Thread Cert.SmergeRefIdeal.nD Cert.SmergeRefIdeal.τ).loc Cert.SmergeRefIdeal.main_arg11) = m ((c.tc : Thread Cert.SmergeRefIdeal.nD Cert.SmergeRefIdeal.τ).loc Cert.SmergeRefIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v44) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Sproj_SprojIdeal : Prop :=
  True

def algebraic_SprojIdeal_SprojRefIdeal [hSprojIdeal : Cert.SprojIdeal.Facts] [hSprojRefIdeal : Cert.SprojRefIdeal.Facts] : Prop :=
  ∀ (m : (ℓ : Loc Cert.SprojIdeal.nD Cert.SprojIdeal.τ Cert.SprojIdeal.sig) → Buf (Elt Ideal) ℓ) (g : Dev Cert.SprojIdeal.nD → PrngReg)
    (m' : (ℓ : Loc Cert.SprojRefIdeal.nD Cert.SprojRefIdeal.τ Cert.SprojRefIdeal.sig) → Buf (Elt Ideal) ℓ) (g' : Dev Cert.SprojRefIdeal.nD → PrngReg), Pre_SprojIdeal m →
    (∀ c : Dev Cert.SprojIdeal.nD,
      m' ((c.tc : Thread Cert.SprojRefIdeal.nD Cert.SprojRefIdeal.τ).loc Cert.SprojRefIdeal.main_arg0) = m ((c.tc : Thread Cert.SprojIdeal.nD Cert.SprojIdeal.τ).loc Cert.SprojIdeal.main_arg0)
      ∧ m' ((c.tc : Thread Cert.SprojRefIdeal.nD Cert.SprojRefIdeal.τ).loc Cert.SprojRefIdeal.main_arg1) = m ((c.tc : Thread Cert.SprojIdeal.nD Cert.SprojIdeal.τ).loc Cert.SprojIdeal.main_arg1)
      ∧ m' ((c.tc : Thread Cert.SprojRefIdeal.nD Cert.SprojRefIdeal.τ).loc Cert.SprojRefIdeal.main_arg2) = m ((c.tc : Thread Cert.SprojIdeal.nD Cert.SprojIdeal.τ).loc Cert.SprojIdeal.main_arg2)
      ∧ m' ((c.tc : Thread Cert.SprojRefIdeal.nD Cert.SprojRefIdeal.τ).loc Cert.SprojRefIdeal.main_arg3) = m ((c.tc : Thread Cert.SprojIdeal.nD Cert.SprojIdeal.τ).loc Cert.SprojIdeal.main_arg3)
      ∧ m' ((c.tc : Thread Cert.SprojRefIdeal.nD Cert.SprojRefIdeal.τ).loc Cert.SprojRefIdeal.main_arg4) = m ((c.tc : Thread Cert.SprojIdeal.nD Cert.SprojIdeal.τ).loc Cert.SprojIdeal.main_arg4)
      ∧ m' ((c.tc : Thread Cert.SprojRefIdeal.nD Cert.SprojRefIdeal.τ).loc Cert.SprojRefIdeal.main_arg5) = m ((c.tc : Thread Cert.SprojIdeal.nD Cert.SprojIdeal.τ).loc Cert.SprojIdeal.main_arg5)) →
    ∃ (v0 : (c : Dev Cert.SprojIdeal.nD) → Buf (Elt Ideal) ((c.tc : Thread Cert.SprojIdeal.nD Cert.SprojIdeal.τ).loc Cert.SprojIdeal.main_v0_0)) (v1 : (c : Dev Cert.SprojIdeal.nD) → Buf (Elt Ideal) ((c.tc : Thread Cert.SprojIdeal.nD Cert.SprojIdeal.τ).loc Cert.SprojIdeal.main_v0_1)) (v2 : (c : Dev Cert.SprojIdeal.nD) → Buf (Elt Ideal) ((c.tc : Thread Cert.SprojIdeal.nD Cert.SprojIdeal.τ).loc Cert.SprojIdeal.main_v0_2)),
      θ_run (Cert.SprojIdeal.defs (F := Ideal)) (onTc (τ := Cert.SprojIdeal.τ) (Cert.SprojIdeal.main (F := Ideal))) ⟨m, fun _ => 0, g⟩ (fun r => ∀ c : Dev Cert.SprojIdeal.nD,
          r.2.mem ((c.tc : Thread Cert.SprojIdeal.nD Cert.SprojIdeal.τ).loc Cert.SprojIdeal.main_v0_0) = v0 c
          ∧ r.2.mem ((c.tc : Thread Cert.SprojIdeal.nD Cert.SprojIdeal.τ).loc Cert.SprojIdeal.main_v0_1) = v1 c
          ∧ r.2.mem ((c.tc : Thread Cert.SprojIdeal.nD Cert.SprojIdeal.τ).loc Cert.SprojIdeal.main_v0_2) = v2 c
          ∧ r.2.mem ((c.tc : Thread Cert.SprojIdeal.nD Cert.SprojIdeal.τ).loc Cert.SprojIdeal.main_arg0) = m ((c.tc : Thread Cert.SprojIdeal.nD Cert.SprojIdeal.τ).loc Cert.SprojIdeal.main_arg0)
          ∧ r.2.mem ((c.tc : Thread Cert.SprojIdeal.nD Cert.SprojIdeal.τ).loc Cert.SprojIdeal.main_arg1) = m ((c.tc : Thread Cert.SprojIdeal.nD Cert.SprojIdeal.τ).loc Cert.SprojIdeal.main_arg1)
          ∧ r.2.mem ((c.tc : Thread Cert.SprojIdeal.nD Cert.SprojIdeal.τ).loc Cert.SprojIdeal.main_arg2) = m ((c.tc : Thread Cert.SprojIdeal.nD Cert.SprojIdeal.τ).loc Cert.SprojIdeal.main_arg2)
          ∧ r.2.mem ((c.tc : Thread Cert.SprojIdeal.nD Cert.SprojIdeal.τ).loc Cert.SprojIdeal.main_arg3) = m ((c.tc : Thread Cert.SprojIdeal.nD Cert.SprojIdeal.τ).loc Cert.SprojIdeal.main_arg3)
          ∧ r.2.mem ((c.tc : Thread Cert.SprojIdeal.nD Cert.SprojIdeal.τ).loc Cert.SprojIdeal.main_arg4) = m ((c.tc : Thread Cert.SprojIdeal.nD Cert.SprojIdeal.τ).loc Cert.SprojIdeal.main_arg4)
          ∧ r.2.mem ((c.tc : Thread Cert.SprojIdeal.nD Cert.SprojIdeal.τ).loc Cert.SprojIdeal.main_arg5) = m ((c.tc : Thread Cert.SprojIdeal.nD Cert.SprojIdeal.τ).loc Cert.SprojIdeal.main_arg5))
      ∧ θ_run (Cert.SprojRefIdeal.defs (F := Ideal)) (onTc (τ := Cert.SprojRefIdeal.τ) (Cert.SprojRefIdeal.main (F := Ideal))) ⟨m', fun _ => 0, g'⟩ (fun r => ∀ c : Dev Cert.SprojRefIdeal.nD,
          r.2.mem ((c.tc : Thread Cert.SprojRefIdeal.nD Cert.SprojRefIdeal.τ).loc Cert.SprojRefIdeal.main_v20) = v0 c
          ∧ r.2.mem ((c.tc : Thread Cert.SprojRefIdeal.nD Cert.SprojRefIdeal.τ).loc Cert.SprojRefIdeal.main_v26) = v1 c
          ∧ r.2.mem ((c.tc : Thread Cert.SprojRefIdeal.nD Cert.SprojRefIdeal.τ).loc Cert.SprojRefIdeal.main_v28) = v2 c
          ∧ r.2.mem ((c.tc : Thread Cert.SprojRefIdeal.nD Cert.SprojRefIdeal.τ).loc Cert.SprojRefIdeal.main_arg0) = m' ((c.tc : Thread Cert.SprojRefIdeal.nD Cert.SprojRefIdeal.τ).loc Cert.SprojRefIdeal.main_arg0)
          ∧ r.2.mem ((c.tc : Thread Cert.SprojRefIdeal.nD Cert.SprojRefIdeal.τ).loc Cert.SprojRefIdeal.main_arg1) = m' ((c.tc : Thread Cert.SprojRefIdeal.nD Cert.SprojRefIdeal.τ).loc Cert.SprojRefIdeal.main_arg1)
          ∧ r.2.mem ((c.tc : Thread Cert.SprojRefIdeal.nD Cert.SprojRefIdeal.τ).loc Cert.SprojRefIdeal.main_arg2) = m' ((c.tc : Thread Cert.SprojRefIdeal.nD Cert.SprojRefIdeal.τ).loc Cert.SprojRefIdeal.main_arg2)
          ∧ r.2.mem ((c.tc : Thread Cert.SprojRefIdeal.nD Cert.SprojRefIdeal.τ).loc Cert.SprojRefIdeal.main_arg3) = m' ((c.tc : Thread Cert.SprojRefIdeal.nD Cert.SprojRefIdeal.τ).loc Cert.SprojRefIdeal.main_arg3)
          ∧ r.2.mem ((c.tc : Thread Cert.SprojRefIdeal.nD Cert.SprojRefIdeal.τ).loc Cert.SprojRefIdeal.main_arg4) = m' ((c.tc : Thread Cert.SprojRefIdeal.nD Cert.SprojRefIdeal.τ).loc Cert.SprojRefIdeal.main_arg4)
          ∧ r.2.mem ((c.tc : Thread Cert.SprojRefIdeal.nD Cert.SprojRefIdeal.τ).loc Cert.SprojRefIdeal.main_arg5) = m' ((c.tc : Thread Cert.SprojRefIdeal.nD Cert.SprojRefIdeal.τ).loc Cert.SprojRefIdeal.main_arg5))

def preserves_Pproj_PprojIdeal : Prop :=
  True

def algebraic_PprojIdeal_PprojRefIdeal_on_but_cache [hPprojIdeal : Cert.PprojIdeal.Facts] [hPprojRefIdeal : Cert.PprojRefIdeal.Facts] [hPre_pages_exist : Cert.Pre_pages_exist.Facts] [hOn_but_cache : Cert.On_but_cache.Facts] : Prop :=
  ∀ (m : (ℓ : Loc Cert.PprojIdeal.nD Cert.PprojIdeal.τ Cert.PprojIdeal.sig) → Buf (Elt Ideal) ℓ) (g : Dev Cert.PprojIdeal.nD → PrngReg)
    (m' : (ℓ : Loc Cert.PprojRefIdeal.nD Cert.PprojRefIdeal.τ Cert.PprojRefIdeal.sig) → Buf (Elt Ideal) ℓ) (g' : Dev Cert.PprojRefIdeal.nD → PrngReg), Pre_PprojIdeal m →
    (∀ c : Dev Cert.PprojIdeal.nD,
      m' ((c.tc : Thread Cert.PprojRefIdeal.nD Cert.PprojRefIdeal.τ).loc Cert.PprojRefIdeal.main_arg0) = m ((c.tc : Thread Cert.PprojIdeal.nD Cert.PprojIdeal.τ).loc Cert.PprojIdeal.main_arg0)
      ∧ m' ((c.tc : Thread Cert.PprojRefIdeal.nD Cert.PprojRefIdeal.τ).loc Cert.PprojRefIdeal.main_arg1) = m ((c.tc : Thread Cert.PprojIdeal.nD Cert.PprojIdeal.τ).loc Cert.PprojIdeal.main_arg1)
      ∧ m' ((c.tc : Thread Cert.PprojRefIdeal.nD Cert.PprojRefIdeal.τ).loc Cert.PprojRefIdeal.main_arg2) = m ((c.tc : Thread Cert.PprojIdeal.nD Cert.PprojIdeal.τ).loc Cert.PprojIdeal.main_arg2)
      ∧ m' ((c.tc : Thread Cert.PprojRefIdeal.nD Cert.PprojRefIdeal.τ).loc Cert.PprojRefIdeal.main_arg3) = m ((c.tc : Thread Cert.PprojIdeal.nD Cert.PprojIdeal.τ).loc Cert.PprojIdeal.main_arg3)
      ∧ m' ((c.tc : Thread Cert.PprojRefIdeal.nD Cert.PprojRefIdeal.τ).loc Cert.PprojRefIdeal.main_arg4) = m ((c.tc : Thread Cert.PprojIdeal.nD Cert.PprojIdeal.τ).loc Cert.PprojIdeal.main_arg4)
      ∧ m' ((c.tc : Thread Cert.PprojRefIdeal.nD Cert.PprojRefIdeal.τ).loc Cert.PprojRefIdeal.main_arg5) = m ((c.tc : Thread Cert.PprojIdeal.nD Cert.PprojIdeal.τ).loc Cert.PprojIdeal.main_arg5)
      ∧ m' ((c.tc : Thread Cert.PprojRefIdeal.nD Cert.PprojRefIdeal.τ).loc Cert.PprojRefIdeal.main_arg6) = m ((c.tc : Thread Cert.PprojIdeal.nD Cert.PprojIdeal.τ).loc Cert.PprojIdeal.main_arg6)
      ∧ m' ((c.tc : Thread Cert.PprojRefIdeal.nD Cert.PprojRefIdeal.τ).loc Cert.PprojRefIdeal.main_arg7) = m ((c.tc : Thread Cert.PprojIdeal.nD Cert.PprojIdeal.τ).loc Cert.PprojIdeal.main_arg7)
      ∧ m' ((c.tc : Thread Cert.PprojRefIdeal.nD Cert.PprojRefIdeal.τ).loc Cert.PprojRefIdeal.main_arg8) = m ((c.tc : Thread Cert.PprojIdeal.nD Cert.PprojIdeal.τ).loc Cert.PprojIdeal.main_arg8)
      ∧ m' ((c.tc : Thread Cert.PprojRefIdeal.nD Cert.PprojRefIdeal.τ).loc Cert.PprojRefIdeal.main_arg9) = m ((c.tc : Thread Cert.PprojIdeal.nD Cert.PprojIdeal.τ).loc Cert.PprojIdeal.main_arg9)) →
    ∃ (v0 : (c : Dev Cert.PprojIdeal.nD) → Buf (Elt Ideal) ((c.tc : Thread Cert.PprojIdeal.nD Cert.PprojIdeal.τ).loc Cert.PprojIdeal.main_v10_0)) (v1 : (c : Dev Cert.PprojIdeal.nD) → Buf (Elt Ideal) ((c.tc : Thread Cert.PprojIdeal.nD Cert.PprojIdeal.τ).loc Cert.PprojIdeal.main_v10_1)) (v2 : (c : Dev Cert.PprojIdeal.nD) → Buf (Elt Ideal) ((c.tc : Thread Cert.PprojIdeal.nD Cert.PprojIdeal.τ).loc Cert.PprojIdeal.main_v10_2)) (v3 : (c : Dev Cert.PprojIdeal.nD) → Buf (Elt Ideal) ((c.tc : Thread Cert.PprojIdeal.nD Cert.PprojIdeal.τ).loc Cert.PprojIdeal.main_v10_3)) (v4 : (c : Dev Cert.PprojIdeal.nD) → Buf (Elt Ideal) ((c.tc : Thread Cert.PprojIdeal.nD Cert.PprojIdeal.τ).loc Cert.PprojIdeal.main_v10_4)) (v5 : (c : Dev Cert.PprojIdeal.nD) → Buf (Elt Ideal) ((c.tc : Thread Cert.PprojIdeal.nD Cert.PprojIdeal.τ).loc Cert.PprojIdeal.main_v10_5)) (v6 : (c : Dev Cert.PprojIdeal.nD) → Buf (Elt Ideal) ((c.tc : Thread Cert.PprojIdeal.nD Cert.PprojIdeal.τ).loc Cert.PprojIdeal.main_v10_6)) (v7 : (c : Dev Cert.PprojIdeal.nD) → Buf (Elt Ideal) ((c.tc : Thread Cert.PprojIdeal.nD Cert.PprojIdeal.τ).loc Cert.PprojIdeal.main_v10_7)) (v8 : (c : Dev Cert.PprojIdeal.nD) → Buf (Elt Ideal) ((c.tc : Thread Cert.PprojIdeal.nD Cert.PprojIdeal.τ).loc Cert.PprojIdeal.main_v10_8)) (v9 : (c : Dev Cert.PprojIdeal.nD) → Buf (Elt Ideal) ((c.tc : Thread Cert.PprojIdeal.nD Cert.PprojIdeal.τ).loc Cert.PprojIdeal.main_v10_9)) (v10 : (c : Dev Cert.PprojIdeal.nD) → Buf (Elt Ideal) ((c.tc : Thread Cert.PprojIdeal.nD Cert.PprojIdeal.τ).loc Cert.PprojIdeal.main_v10_10)) (v11 : (c : Dev Cert.PprojIdeal.nD) → Buf (Elt Ideal) ((c.tc : Thread Cert.PprojIdeal.nD Cert.PprojIdeal.τ).loc Cert.PprojIdeal.main_v10_11)) (v12 : (c : Dev Cert.PprojIdeal.nD) → Buf (Elt Ideal) ((c.tc : Thread Cert.PprojIdeal.nD Cert.PprojIdeal.τ).loc Cert.PprojIdeal.main_v10_12)),
      θ_run (Cert.PprojIdeal.defs (F := Ideal)) (onTc (τ := Cert.PprojIdeal.τ) (Cert.PprojIdeal.main (F := Ideal))) ⟨m, fun _ => 0, g⟩ (fun r => ∀ c : Dev Cert.PprojIdeal.nD,
          (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).1 i = 1#1 → r.2.mem ((c.tc : Thread Cert.PprojIdeal.nD Cert.PprojIdeal.τ).loc Cert.PprojIdeal.main_v10_0) i = v0 c i)
          ∧ (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.1 i = 1#1 → r.2.mem ((c.tc : Thread Cert.PprojIdeal.nD Cert.PprojIdeal.τ).loc Cert.PprojIdeal.main_v10_1) i = v1 c i)
          ∧ (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.1 i = 1#1 → r.2.mem ((c.tc : Thread Cert.PprojIdeal.nD Cert.PprojIdeal.τ).loc Cert.PprojIdeal.main_v10_2) i = v2 c i)
          ∧ (∀ i : (⟨2, ![17408, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.1 i = 1#1 → r.2.mem ((c.tc : Thread Cert.PprojIdeal.nD Cert.PprojIdeal.τ).loc Cert.PprojIdeal.main_v10_3) i = v3 c i)
          ∧ (∀ i : (⟨2, ![17408, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.1 i = 1#1 → r.2.mem ((c.tc : Thread Cert.PprojIdeal.nD Cert.PprojIdeal.τ).loc Cert.PprojIdeal.main_v10_4) i = v4 c i)
          ∧ (∀ i : (⟨2, ![16384, 512]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.1 i = 1#1 → r.2.mem ((c.tc : Thread Cert.PprojIdeal.nD Cert.PprojIdeal.τ).loc Cert.PprojIdeal.main_v10_5) i = v5 c i)
          ∧ (∀ i : (⟨3, ![2, 512, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.1 i = 1#1 → r.2.mem ((c.tc : Thread Cert.PprojIdeal.nD Cert.PprojIdeal.τ).loc Cert.PprojIdeal.main_v10_6) i = v6 c i)
          ∧ (∀ i : (⟨3, ![2, 8192, 256]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.1 i = 1#1 → r.2.mem ((c.tc : Thread Cert.PprojIdeal.nD Cert.PprojIdeal.τ).loc Cert.PprojIdeal.main_v10_7) i = v7 c i)
          ∧ (∀ i : (⟨5, ![2, 16, 2, 80, 512]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.1 i = 1#1 → r.2.mem ((c.tc : Thread Cert.PprojIdeal.nD Cert.PprojIdeal.τ).loc Cert.PprojIdeal.main_v10_8) i = v8 c i)
          ∧ (∀ i : (⟨3, ![2, 8192, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.1 i = 1#1 → r.2.mem ((c.tc : Thread Cert.PprojIdeal.nD Cert.PprojIdeal.τ).loc Cert.PprojIdeal.main_v10_9) i = v9 c i)
          ∧ (∀ i : (⟨5, ![2, 64, 2, 80, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.1 i = 1#1 → r.2.mem ((c.tc : Thread Cert.PprojIdeal.nD Cert.PprojIdeal.τ).loc Cert.PprojIdeal.main_v10_10) i = v10 c i)
          ∧ (∀ i : (⟨3, ![2, 32, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.2.1 i = 1#1 → r.2.mem ((c.tc : Thread Cert.PprojIdeal.nD Cert.PprojIdeal.τ).loc Cert.PprojIdeal.main_v10_11) i = v11 c i)
          ∧ (∀ i : (⟨2, ![4096, 256]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.2.2 i = 1#1 → r.2.mem ((c.tc : Thread Cert.PprojIdeal.nD Cert.PprojIdeal.τ).loc Cert.PprojIdeal.main_v10_12) i = v12 c i)
          ∧ r.2.mem ((c.tc : Thread Cert.PprojIdeal.nD Cert.PprojIdeal.τ).loc Cert.PprojIdeal.main_arg0) = m ((c.tc : Thread Cert.PprojIdeal.nD Cert.PprojIdeal.τ).loc Cert.PprojIdeal.main_arg0)
          ∧ r.2.mem ((c.tc : Thread Cert.PprojIdeal.nD Cert.PprojIdeal.τ).loc Cert.PprojIdeal.main_arg1) = m ((c.tc : Thread Cert.PprojIdeal.nD Cert.PprojIdeal.τ).loc Cert.PprojIdeal.main_arg1)
          ∧ r.2.mem ((c.tc : Thread Cert.PprojIdeal.nD Cert.PprojIdeal.τ).loc Cert.PprojIdeal.main_arg2) = m ((c.tc : Thread Cert.PprojIdeal.nD Cert.PprojIdeal.τ).loc Cert.PprojIdeal.main_arg2)
          ∧ r.2.mem ((c.tc : Thread Cert.PprojIdeal.nD Cert.PprojIdeal.τ).loc Cert.PprojIdeal.main_arg3) = m ((c.tc : Thread Cert.PprojIdeal.nD Cert.PprojIdeal.τ).loc Cert.PprojIdeal.main_arg3)
          ∧ r.2.mem ((c.tc : Thread Cert.PprojIdeal.nD Cert.PprojIdeal.τ).loc Cert.PprojIdeal.main_arg4) = m ((c.tc : Thread Cert.PprojIdeal.nD Cert.PprojIdeal.τ).loc Cert.PprojIdeal.main_arg4)
          ∧ r.2.mem ((c.tc : Thread Cert.PprojIdeal.nD Cert.PprojIdeal.τ).loc Cert.PprojIdeal.main_arg5) = m ((c.tc : Thread Cert.PprojIdeal.nD Cert.PprojIdeal.τ).loc Cert.PprojIdeal.main_arg5)
          ∧ r.2.mem ((c.tc : Thread Cert.PprojIdeal.nD Cert.PprojIdeal.τ).loc Cert.PprojIdeal.main_arg6) = m ((c.tc : Thread Cert.PprojIdeal.nD Cert.PprojIdeal.τ).loc Cert.PprojIdeal.main_arg6)
          ∧ r.2.mem ((c.tc : Thread Cert.PprojIdeal.nD Cert.PprojIdeal.τ).loc Cert.PprojIdeal.main_arg7) = m ((c.tc : Thread Cert.PprojIdeal.nD Cert.PprojIdeal.τ).loc Cert.PprojIdeal.main_arg7)
          ∧ r.2.mem ((c.tc : Thread Cert.PprojIdeal.nD Cert.PprojIdeal.τ).loc Cert.PprojIdeal.main_arg8) = m ((c.tc : Thread Cert.PprojIdeal.nD Cert.PprojIdeal.τ).loc Cert.PprojIdeal.main_arg8)
          ∧ r.2.mem ((c.tc : Thread Cert.PprojIdeal.nD Cert.PprojIdeal.τ).loc Cert.PprojIdeal.main_arg9) = m ((c.tc : Thread Cert.PprojIdeal.nD Cert.PprojIdeal.τ).loc Cert.PprojIdeal.main_arg9))
      ∧ θ_run (Cert.PprojRefIdeal.defs (F := Ideal)) (onTc (τ := Cert.PprojRefIdeal.τ) (Cert.PprojRefIdeal.main (F := Ideal))) ⟨m', fun _ => 0, g'⟩ (fun r => ∀ c : Dev Cert.PprojRefIdeal.nD,
          (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).1 i = 1#1 → r.2.mem ((c.tc : Thread Cert.PprojRefIdeal.nD Cert.PprojRefIdeal.τ).loc Cert.PprojRefIdeal.main_v32) i = v0 c i)
          ∧ (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.1 i = 1#1 → r.2.mem ((c.tc : Thread Cert.PprojRefIdeal.nD Cert.PprojRefIdeal.τ).loc Cert.PprojRefIdeal.main_v33) i = v1 c i)
          ∧ (∀ i : (⟨3, ![2, 256, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.1 i = 1#1 → r.2.mem ((c.tc : Thread Cert.PprojRefIdeal.nD Cert.PprojRefIdeal.τ).loc Cert.PprojRefIdeal.main_v34) i = v2 c i)
          ∧ (∀ i : (⟨2, ![17408, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.1 i = 1#1 → r.2.mem ((c.tc : Thread Cert.PprojRefIdeal.nD Cert.PprojRefIdeal.τ).loc Cert.PprojRefIdeal.main_v60) i = v3 c i)
          ∧ (∀ i : (⟨2, ![17408, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.1 i = 1#1 → r.2.mem ((c.tc : Thread Cert.PprojRefIdeal.nD Cert.PprojRefIdeal.τ).loc Cert.PprojRefIdeal.main_v63) i = v4 c i)
          ∧ (∀ i : (⟨2, ![16384, 512]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.1 i = 1#1 → r.2.mem ((c.tc : Thread Cert.PprojRefIdeal.nD Cert.PprojRefIdeal.τ).loc Cert.PprojRefIdeal.main_v64) i = v5 c i)
          ∧ (∀ i : (⟨3, ![2, 512, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.1 i = 1#1 → r.2.mem ((c.tc : Thread Cert.PprojRefIdeal.nD Cert.PprojRefIdeal.τ).loc Cert.PprojRefIdeal.main_v67) i = v6 c i)
          ∧ (∀ i : (⟨3, ![2, 8192, 256]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.1 i = 1#1 → r.2.mem ((c.tc : Thread Cert.PprojRefIdeal.nD Cert.PprojRefIdeal.τ).loc Cert.PprojRefIdeal.main_v68) i = v7 c i)
          ∧ (∀ i : (⟨5, ![2, 16, 2, 80, 512]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.1 i = 1#1 → r.2.mem ((c.tc : Thread Cert.PprojRefIdeal.nD Cert.PprojRefIdeal.τ).loc Cert.PprojRefIdeal.main_v75) i = v8 c i)
          ∧ (∀ i : (⟨3, ![2, 8192, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.1 i = 1#1 → r.2.mem ((c.tc : Thread Cert.PprojRefIdeal.nD Cert.PprojRefIdeal.τ).loc Cert.PprojRefIdeal.main_v76) i = v9 c i)
          ∧ (∀ i : (⟨5, ![2, 64, 2, 80, 128]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.1 i = 1#1 → r.2.mem ((c.tc : Thread Cert.PprojRefIdeal.nD Cert.PprojRefIdeal.τ).loc Cert.PprojRefIdeal.main_v83) i = v10 c i)
          ∧ (∀ i : (⟨3, ![2, 32, 8192]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.2.1 i = 1#1 → r.2.mem ((c.tc : Thread Cert.PprojRefIdeal.nD Cert.PprojRefIdeal.τ).loc Cert.PprojRefIdeal.main_v89) i = v11 c i)
          ∧ (∀ i : (⟨2, ![4096, 256]⟩ : Shape).Idx, (Cert.On_but_cache.fn (F := Ideal) (m ((c.tc : Thread Cert.PprojIdeal.nD Cert.PprojIdeal.τ).loc Cert.PprojIdeal.main_arg0)) (m ((c.tc : Thread Cert.PprojIdeal.nD Cert.PprojIdeal.τ).loc Cert.PprojIdeal.main_arg1)) (m ((c.tc : Thread Cert.PprojIdeal.nD Cert.PprojIdeal.τ).loc Cert.PprojIdeal.main_arg2)) (m ((c.tc : Thread Cert.PprojIdeal.nD Cert.PprojIdeal.τ).loc Cert.PprojIdeal.main_arg3)) (m ((c.tc : Thread Cert.PprojIdeal.nD Cert.PprojIdeal.τ).loc Cert.PprojIdeal.main_arg4)) (m ((c.tc : Thread Cert.PprojIdeal.nD Cert.PprojIdeal.τ).loc Cert.PprojIdeal.main_arg5)) (m ((c.tc : Thread Cert.PprojIdeal.nD Cert.PprojIdeal.τ).loc Cert.PprojIdeal.main_arg6)) (m ((c.tc : Thread Cert.PprojIdeal.nD Cert.PprojIdeal.τ).loc Cert.PprojIdeal.main_arg7)) (m ((c.tc : Thread Cert.PprojIdeal.nD Cert.PprojIdeal.τ).loc Cert.PprojIdeal.main_arg8)) (m ((c.tc : Thread Cert.PprojIdeal.nD Cert.PprojIdeal.τ).loc Cert.PprojIdeal.main_arg9))).2.2.2.2.2.2.2.2.2.2.2.2 i = 1#1 → r.2.mem ((c.tc : Thread Cert.PprojRefIdeal.nD Cert.PprojRefIdeal.τ).loc Cert.PprojRefIdeal.main_v97) i = v12 c i)
          ∧ r.2.mem ((c.tc : Thread Cert.PprojRefIdeal.nD Cert.PprojRefIdeal.τ).loc Cert.PprojRefIdeal.main_arg0) = m' ((c.tc : Thread Cert.PprojRefIdeal.nD Cert.PprojRefIdeal.τ).loc Cert.PprojRefIdeal.main_arg0)
          ∧ r.2.mem ((c.tc : Thread Cert.PprojRefIdeal.nD Cert.PprojRefIdeal.τ).loc Cert.PprojRefIdeal.main_arg1) = m' ((c.tc : Thread Cert.PprojRefIdeal.nD Cert.PprojRefIdeal.τ).loc Cert.PprojRefIdeal.main_arg1)
          ∧ r.2.mem ((c.tc : Thread Cert.PprojRefIdeal.nD Cert.PprojRefIdeal.τ).loc Cert.PprojRefIdeal.main_arg2) = m' ((c.tc : Thread Cert.PprojRefIdeal.nD Cert.PprojRefIdeal.τ).loc Cert.PprojRefIdeal.main_arg2)
          ∧ r.2.mem ((c.tc : Thread Cert.PprojRefIdeal.nD Cert.PprojRefIdeal.τ).loc Cert.PprojRefIdeal.main_arg3) = m' ((c.tc : Thread Cert.PprojRefIdeal.nD Cert.PprojRefIdeal.τ).loc Cert.PprojRefIdeal.main_arg3)
          ∧ r.2.mem ((c.tc : Thread Cert.PprojRefIdeal.nD Cert.PprojRefIdeal.τ).loc Cert.PprojRefIdeal.main_arg4) = m' ((c.tc : Thread Cert.PprojRefIdeal.nD Cert.PprojRefIdeal.τ).loc Cert.PprojRefIdeal.main_arg4)
          ∧ r.2.mem ((c.tc : Thread Cert.PprojRefIdeal.nD Cert.PprojRefIdeal.τ).loc Cert.PprojRefIdeal.main_arg5) = m' ((c.tc : Thread Cert.PprojRefIdeal.nD Cert.PprojRefIdeal.τ).loc Cert.PprojRefIdeal.main_arg5)
          ∧ r.2.mem ((c.tc : Thread Cert.PprojRefIdeal.nD Cert.PprojRefIdeal.τ).loc Cert.PprojRefIdeal.main_arg6) = m' ((c.tc : Thread Cert.PprojRefIdeal.nD Cert.PprojRefIdeal.τ).loc Cert.PprojRefIdeal.main_arg6)
          ∧ r.2.mem ((c.tc : Thread Cert.PprojRefIdeal.nD Cert.PprojRefIdeal.τ).loc Cert.PprojRefIdeal.main_arg7) = m' ((c.tc : Thread Cert.PprojRefIdeal.nD Cert.PprojRefIdeal.τ).loc Cert.PprojRefIdeal.main_arg7)
          ∧ r.2.mem ((c.tc : Thread Cert.PprojRefIdeal.nD Cert.PprojRefIdeal.τ).loc Cert.PprojRefIdeal.main_arg8) = m' ((c.tc : Thread Cert.PprojRefIdeal.nD Cert.PprojRefIdeal.τ).loc Cert.PprojRefIdeal.main_arg8)
          ∧ r.2.mem ((c.tc : Thread Cert.PprojRefIdeal.nD Cert.PprojRefIdeal.τ).loc Cert.PprojRefIdeal.main_arg9) = m' ((c.tc : Thread Cert.PprojRefIdeal.nD Cert.PprojRefIdeal.τ).loc Cert.PprojRefIdeal.main_arg9))

def preserves_Smlp_SmlpIdeal : Prop :=
  True

def algebraic_SmlpIdeal_SmlpRefIdeal [hSmlpIdeal : Cert.SmlpIdeal.Facts] [hSmlpRefIdeal : Cert.SmlpRefIdeal.Facts] : Prop :=
  ∀ (m : (ℓ : Loc Cert.SmlpIdeal.nD Cert.SmlpIdeal.τ Cert.SmlpIdeal.sig) → Buf (Elt Ideal) ℓ) (g : Dev Cert.SmlpIdeal.nD → PrngReg)
    (m' : (ℓ : Loc Cert.SmlpRefIdeal.nD Cert.SmlpRefIdeal.τ Cert.SmlpRefIdeal.sig) → Buf (Elt Ideal) ℓ) (g' : Dev Cert.SmlpRefIdeal.nD → PrngReg), Pre_SmlpIdeal m →
    (∀ c : Dev Cert.SmlpIdeal.nD,
      m' ((c.tc : Thread Cert.SmlpRefIdeal.nD Cert.SmlpRefIdeal.τ).loc Cert.SmlpRefIdeal.main_arg0) = m ((c.tc : Thread Cert.SmlpIdeal.nD Cert.SmlpIdeal.τ).loc Cert.SmlpIdeal.main_arg0)
      ∧ m' ((c.tc : Thread Cert.SmlpRefIdeal.nD Cert.SmlpRefIdeal.τ).loc Cert.SmlpRefIdeal.main_arg1) = m ((c.tc : Thread Cert.SmlpIdeal.nD Cert.SmlpIdeal.τ).loc Cert.SmlpIdeal.main_arg1)
      ∧ m' ((c.tc : Thread Cert.SmlpRefIdeal.nD Cert.SmlpRefIdeal.τ).loc Cert.SmlpRefIdeal.main_arg2) = m ((c.tc : Thread Cert.SmlpIdeal.nD Cert.SmlpIdeal.τ).loc Cert.SmlpIdeal.main_arg2)
      ∧ m' ((c.tc : Thread Cert.SmlpRefIdeal.nD Cert.SmlpRefIdeal.τ).loc Cert.SmlpRefIdeal.main_arg3) = m ((c.tc : Thread Cert.SmlpIdeal.nD Cert.SmlpIdeal.τ).loc Cert.SmlpIdeal.main_arg3)
      ∧ m' ((c.tc : Thread Cert.SmlpRefIdeal.nD Cert.SmlpRefIdeal.τ).loc Cert.SmlpRefIdeal.main_arg4) = m ((c.tc : Thread Cert.SmlpIdeal.nD Cert.SmlpIdeal.τ).loc Cert.SmlpIdeal.main_arg4)
      ∧ m' ((c.tc : Thread Cert.SmlpRefIdeal.nD Cert.SmlpRefIdeal.τ).loc Cert.SmlpRefIdeal.main_arg5) = m ((c.tc : Thread Cert.SmlpIdeal.nD Cert.SmlpIdeal.τ).loc Cert.SmlpIdeal.main_arg5)
      ∧ m' ((c.tc : Thread Cert.SmlpRefIdeal.nD Cert.SmlpRefIdeal.τ).loc Cert.SmlpRefIdeal.main_arg6) = m ((c.tc : Thread Cert.SmlpIdeal.nD Cert.SmlpIdeal.τ).loc Cert.SmlpIdeal.main_arg6)
      ∧ m' ((c.tc : Thread Cert.SmlpRefIdeal.nD Cert.SmlpRefIdeal.τ).loc Cert.SmlpRefIdeal.main_arg7) = m ((c.tc : Thread Cert.SmlpIdeal.nD Cert.SmlpIdeal.τ).loc Cert.SmlpIdeal.main_arg7)) →
    ∃ (v0 : (c : Dev Cert.SmlpIdeal.nD) → Buf (Elt Ideal) ((c.tc : Thread Cert.SmlpIdeal.nD Cert.SmlpIdeal.τ).loc Cert.SmlpIdeal.main_v0)),
      θ_run (Cert.SmlpIdeal.defs (F := Ideal)) (onTc (τ := Cert.SmlpIdeal.τ) (Cert.SmlpIdeal.main (F := Ideal))) ⟨m, fun _ => 0, g⟩ (fun r => ∀ c : Dev Cert.SmlpIdeal.nD,
          r.2.mem ((c.tc : Thread Cert.SmlpIdeal.nD Cert.SmlpIdeal.τ).loc Cert.SmlpIdeal.main_v0) = v0 c
          ∧ r.2.mem ((c.tc : Thread Cert.SmlpIdeal.nD Cert.SmlpIdeal.τ).loc Cert.SmlpIdeal.main_arg0) = m ((c.tc : Thread Cert.SmlpIdeal.nD Cert.SmlpIdeal.τ).loc Cert.SmlpIdeal.main_arg0)
          ∧ r.2.mem ((c.tc : Thread Cert.SmlpIdeal.nD Cert.SmlpIdeal.τ).loc Cert.SmlpIdeal.main_arg1) = m ((c.tc : Thread Cert.SmlpIdeal.nD Cert.SmlpIdeal.τ).loc Cert.SmlpIdeal.main_arg1)
          ∧ r.2.mem ((c.tc : Thread Cert.SmlpIdeal.nD Cert.SmlpIdeal.τ).loc Cert.SmlpIdeal.main_arg2) = m ((c.tc : Thread Cert.SmlpIdeal.nD Cert.SmlpIdeal.τ).loc Cert.SmlpIdeal.main_arg2)
          ∧ r.2.mem ((c.tc : Thread Cert.SmlpIdeal.nD Cert.SmlpIdeal.τ).loc Cert.SmlpIdeal.main_arg3) = m ((c.tc : Thread Cert.SmlpIdeal.nD Cert.SmlpIdeal.τ).loc Cert.SmlpIdeal.main_arg3)
          ∧ r.2.mem ((c.tc : Thread Cert.SmlpIdeal.nD Cert.SmlpIdeal.τ).loc Cert.SmlpIdeal.main_arg4) = m ((c.tc : Thread Cert.SmlpIdeal.nD Cert.SmlpIdeal.τ).loc Cert.SmlpIdeal.main_arg4)
          ∧ r.2.mem ((c.tc : Thread Cert.SmlpIdeal.nD Cert.SmlpIdeal.τ).loc Cert.SmlpIdeal.main_arg5) = m ((c.tc : Thread Cert.SmlpIdeal.nD Cert.SmlpIdeal.τ).loc Cert.SmlpIdeal.main_arg5)
          ∧ r.2.mem ((c.tc : Thread Cert.SmlpIdeal.nD Cert.SmlpIdeal.τ).loc Cert.SmlpIdeal.main_arg6) = m ((c.tc : Thread Cert.SmlpIdeal.nD Cert.SmlpIdeal.τ).loc Cert.SmlpIdeal.main_arg6)
          ∧ r.2.mem ((c.tc : Thread Cert.SmlpIdeal.nD Cert.SmlpIdeal.τ).loc Cert.SmlpIdeal.main_arg7) = m ((c.tc : Thread Cert.SmlpIdeal.nD Cert.SmlpIdeal.τ).loc Cert.SmlpIdeal.main_arg7))
      ∧ θ_run (Cert.SmlpRefIdeal.defs (F := Ideal)) (onTc (τ := Cert.SmlpRefIdeal.τ) (Cert.SmlpRefIdeal.main (F := Ideal))) ⟨m', fun _ => 0, g'⟩ (fun r => ∀ c : Dev Cert.SmlpRefIdeal.nD,
          r.2.mem ((c.tc : Thread Cert.SmlpRefIdeal.nD Cert.SmlpRefIdeal.τ).loc Cert.SmlpRefIdeal.main_v42) = v0 c
          ∧ r.2.mem ((c.tc : Thread Cert.SmlpRefIdeal.nD Cert.SmlpRefIdeal.τ).loc Cert.SmlpRefIdeal.main_arg0) = m' ((c.tc : Thread Cert.SmlpRefIdeal.nD Cert.SmlpRefIdeal.τ).loc Cert.SmlpRefIdeal.main_arg0)
          ∧ r.2.mem ((c.tc : Thread Cert.SmlpRefIdeal.nD Cert.SmlpRefIdeal.τ).loc Cert.SmlpRefIdeal.main_arg1) = m' ((c.tc : Thread Cert.SmlpRefIdeal.nD Cert.SmlpRefIdeal.τ).loc Cert.SmlpRefIdeal.main_arg1)
          ∧ r.2.mem ((c.tc : Thread Cert.SmlpRefIdeal.nD Cert.SmlpRefIdeal.τ).loc Cert.SmlpRefIdeal.main_arg2) = m' ((c.tc : Thread Cert.SmlpRefIdeal.nD Cert.SmlpRefIdeal.τ).loc Cert.SmlpRefIdeal.main_arg2)
          ∧ r.2.mem ((c.tc : Thread Cert.SmlpRefIdeal.nD Cert.SmlpRefIdeal.τ).loc Cert.SmlpRefIdeal.main_arg3) = m' ((c.tc : Thread Cert.SmlpRefIdeal.nD Cert.SmlpRefIdeal.τ).loc Cert.SmlpRefIdeal.main_arg3)
          ∧ r.2.mem ((c.tc : Thread Cert.SmlpRefIdeal.nD Cert.SmlpRefIdeal.τ).loc Cert.SmlpRefIdeal.main_arg4) = m' ((c.tc : Thread Cert.SmlpRefIdeal.nD Cert.SmlpRefIdeal.τ).loc Cert.SmlpRefIdeal.main_arg4)
          ∧ r.2.mem ((c.tc : Thread Cert.SmlpRefIdeal.nD Cert.SmlpRefIdeal.τ).loc Cert.SmlpRefIdeal.main_arg5) = m' ((c.tc : Thread Cert.SmlpRefIdeal.nD Cert.SmlpRefIdeal.τ).loc Cert.SmlpRefIdeal.main_arg5)
          ∧ r.2.mem ((c.tc : Thread Cert.SmlpRefIdeal.nD Cert.SmlpRefIdeal.τ).loc Cert.SmlpRefIdeal.main_arg6) = m' ((c.tc : Thread Cert.SmlpRefIdeal.nD Cert.SmlpRefIdeal.τ).loc Cert.SmlpRefIdeal.main_arg6)
          ∧ r.2.mem ((c.tc : Thread Cert.SmlpRefIdeal.nD Cert.SmlpRefIdeal.τ).loc Cert.SmlpRefIdeal.main_arg7) = m' ((c.tc : Thread Cert.SmlpRefIdeal.nD Cert.SmlpRefIdeal.τ).loc Cert.SmlpRefIdeal.main_arg7))

def preserves_Smerge_SmergeIdeal : Prop :=
  True

def algebraic_SmergeIdeal_SmergeRefIdeal [hSmergeIdeal : Cert.SmergeIdeal.Facts] [hSmergeRefIdeal : Cert.SmergeRefIdeal.Facts] : Prop :=
  ∀ (m : (ℓ : Loc Cert.SmergeIdeal.nD Cert.SmergeIdeal.τ Cert.SmergeIdeal.sig) → Buf (Elt Ideal) ℓ) (g : Dev Cert.SmergeIdeal.nD → PrngReg)
    (m' : (ℓ : Loc Cert.SmergeRefIdeal.nD Cert.SmergeRefIdeal.τ Cert.SmergeRefIdeal.sig) → Buf (Elt Ideal) ℓ) (g' : Dev Cert.SmergeRefIdeal.nD → PrngReg), Pre_SmergeIdeal m →
    (∀ c : Dev Cert.SmergeIdeal.nD,
      m' ((c.tc : Thread Cert.SmergeRefIdeal.nD Cert.SmergeRefIdeal.τ).loc Cert.SmergeRefIdeal.main_arg0) = m ((c.tc : Thread Cert.SmergeIdeal.nD Cert.SmergeIdeal.τ).loc Cert.SmergeIdeal.main_arg0)
      ∧ m' ((c.tc : Thread Cert.SmergeRefIdeal.nD Cert.SmergeRefIdeal.τ).loc Cert.SmergeRefIdeal.main_arg1) = m ((c.tc : Thread Cert.SmergeIdeal.nD Cert.SmergeIdeal.τ).loc Cert.SmergeIdeal.main_arg1)
      ∧ m' ((c.tc : Thread Cert.SmergeRefIdeal.nD Cert.SmergeRefIdeal.τ).loc Cert.SmergeRefIdeal.main_arg2) = m ((c.tc : Thread Cert.SmergeIdeal.nD Cert.SmergeIdeal.τ).loc Cert.SmergeIdeal.main_arg2)
      ∧ m' ((c.tc : Thread Cert.SmergeRefIdeal.nD Cert.SmergeRefIdeal.τ).loc Cert.SmergeRefIdeal.main_arg3) = m ((c.tc : Thread Cert.SmergeIdeal.nD Cert.SmergeIdeal.τ).loc Cert.SmergeIdeal.main_arg3)
      ∧ m' ((c.tc : Thread Cert.SmergeRefIdeal.nD Cert.SmergeRefIdeal.τ).loc Cert.SmergeRefIdeal.main_arg4) = m ((c.tc : Thread Cert.SmergeIdeal.nD Cert.SmergeIdeal.τ).loc Cert.SmergeIdeal.main_arg4)
      ∧ m' ((c.tc : Thread Cert.SmergeRefIdeal.nD Cert.SmergeRefIdeal.τ).loc Cert.SmergeRefIdeal.main_arg5) = m ((c.tc : Thread Cert.SmergeIdeal.nD Cert.SmergeIdeal.τ).loc Cert.SmergeIdeal.main_arg5)
      ∧ m' ((c.tc : Thread Cert.SmergeRefIdeal.nD Cert.SmergeRefIdeal.τ).loc Cert.SmergeRefIdeal.main_arg6) = m ((c.tc : Thread Cert.SmergeIdeal.nD Cert.SmergeIdeal.τ).loc Cert.SmergeIdeal.main_arg6)
      ∧ m' ((c.tc : Thread Cert.SmergeRefIdeal.nD Cert.SmergeRefIdeal.τ).loc Cert.SmergeRefIdeal.main_arg7) = m ((c.tc : Thread Cert.SmergeIdeal.nD Cert.SmergeIdeal.τ).loc Cert.SmergeIdeal.main_arg7)
      ∧ m' ((c.tc : Thread Cert.SmergeRefIdeal.nD Cert.SmergeRefIdeal.τ).loc Cert.SmergeRefIdeal.main_arg8) = m ((c.tc : Thread Cert.SmergeIdeal.nD Cert.SmergeIdeal.τ).loc Cert.SmergeIdeal.main_arg8)
      ∧ m' ((c.tc : Thread Cert.SmergeRefIdeal.nD Cert.SmergeRefIdeal.τ).loc Cert.SmergeRefIdeal.main_arg9) = m ((c.tc : Thread Cert.SmergeIdeal.nD Cert.SmergeIdeal.τ).loc Cert.SmergeIdeal.main_arg9)
      ∧ m' ((c.tc : Thread Cert.SmergeRefIdeal.nD Cert.SmergeRefIdeal.τ).loc Cert.SmergeRefIdeal.main_arg10) = m ((c.tc : Thread Cert.SmergeIdeal.nD Cert.SmergeIdeal.τ).loc Cert.SmergeIdeal.main_arg10)
      ∧ m' ((c.tc : Thread Cert.SmergeRefIdeal.nD Cert.SmergeRefIdeal.τ).loc Cert.SmergeRefIdeal.main_arg11) = m ((c.tc : Thread Cert.SmergeIdeal.nD Cert.SmergeIdeal.τ).loc Cert.SmergeIdeal.main_arg11)) →
    ∃ (v0 : (c : Dev Cert.SmergeIdeal.nD) → Buf (Elt Ideal) ((c.tc : Thread Cert.SmergeIdeal.nD Cert.SmergeIdeal.τ).loc Cert.SmergeIdeal.main_v0)),
      θ_run (Cert.SmergeIdeal.defs (F := Ideal)) (onTc (τ := Cert.SmergeIdeal.τ) (Cert.SmergeIdeal.main (F := Ideal))) ⟨m, fun _ => 0, g⟩ (fun r => ∀ c : Dev Cert.SmergeIdeal.nD,
          r.2.mem ((c.tc : Thread Cert.SmergeIdeal.nD Cert.SmergeIdeal.τ).loc Cert.SmergeIdeal.main_v0) = v0 c
          ∧ r.2.mem ((c.tc : Thread Cert.SmergeIdeal.nD Cert.SmergeIdeal.τ).loc Cert.SmergeIdeal.main_arg0) = m ((c.tc : Thread Cert.SmergeIdeal.nD Cert.SmergeIdeal.τ).loc Cert.SmergeIdeal.main_arg0)
          ∧ r.2.mem ((c.tc : Thread Cert.SmergeIdeal.nD Cert.SmergeIdeal.τ).loc Cert.SmergeIdeal.main_arg1) = m ((c.tc : Thread Cert.SmergeIdeal.nD Cert.SmergeIdeal.τ).loc Cert.SmergeIdeal.main_arg1)
          ∧ r.2.mem ((c.tc : Thread Cert.SmergeIdeal.nD Cert.SmergeIdeal.τ).loc Cert.SmergeIdeal.main_arg2) = m ((c.tc : Thread Cert.SmergeIdeal.nD Cert.SmergeIdeal.τ).loc Cert.SmergeIdeal.main_arg2)
          ∧ r.2.mem ((c.tc : Thread Cert.SmergeIdeal.nD Cert.SmergeIdeal.τ).loc Cert.SmergeIdeal.main_arg3) = m ((c.tc : Thread Cert.SmergeIdeal.nD Cert.SmergeIdeal.τ).loc Cert.SmergeIdeal.main_arg3)
          ∧ r.2.mem ((c.tc : Thread Cert.SmergeIdeal.nD Cert.SmergeIdeal.τ).loc Cert.SmergeIdeal.main_arg4) = m ((c.tc : Thread Cert.SmergeIdeal.nD Cert.SmergeIdeal.τ).loc Cert.SmergeIdeal.main_arg4)
          ∧ r.2.mem ((c.tc : Thread Cert.SmergeIdeal.nD Cert.SmergeIdeal.τ).loc Cert.SmergeIdeal.main_arg5) = m ((c.tc : Thread Cert.SmergeIdeal.nD Cert.SmergeIdeal.τ).loc Cert.SmergeIdeal.main_arg5)
          ∧ r.2.mem ((c.tc : Thread Cert.SmergeIdeal.nD Cert.SmergeIdeal.τ).loc Cert.SmergeIdeal.main_arg6) = m ((c.tc : Thread Cert.SmergeIdeal.nD Cert.SmergeIdeal.τ).loc Cert.SmergeIdeal.main_arg6)
          ∧ r.2.mem ((c.tc : Thread Cert.SmergeIdeal.nD Cert.SmergeIdeal.τ).loc Cert.SmergeIdeal.main_arg7) = m ((c.tc : Thread Cert.SmergeIdeal.nD Cert.SmergeIdeal.τ).loc Cert.SmergeIdeal.main_arg7)
          ∧ r.2.mem ((c.tc : Thread Cert.SmergeIdeal.nD Cert.SmergeIdeal.τ).loc Cert.SmergeIdeal.main_arg8) = m ((c.tc : Thread Cert.SmergeIdeal.nD Cert.SmergeIdeal.τ).loc Cert.SmergeIdeal.main_arg8)
          ∧ r.2.mem ((c.tc : Thread Cert.SmergeIdeal.nD Cert.SmergeIdeal.τ).loc Cert.SmergeIdeal.main_arg9) = m ((c.tc : Thread Cert.SmergeIdeal.nD Cert.SmergeIdeal.τ).loc Cert.SmergeIdeal.main_arg9)
          ∧ r.2.mem ((c.tc : Thread Cert.SmergeIdeal.nD Cert.SmergeIdeal.τ).loc Cert.SmergeIdeal.main_arg10) = m ((c.tc : Thread Cert.SmergeIdeal.nD Cert.SmergeIdeal.τ).loc Cert.SmergeIdeal.main_arg10)
          ∧ r.2.mem ((c.tc : Thread Cert.SmergeIdeal.nD Cert.SmergeIdeal.τ).loc Cert.SmergeIdeal.main_arg11) = m ((c.tc : Thread Cert.SmergeIdeal.nD Cert.SmergeIdeal.τ).loc Cert.SmergeIdeal.main_arg11))
      ∧ θ_run (Cert.SmergeRefIdeal.defs (F := Ideal)) (onTc (τ := Cert.SmergeRefIdeal.τ) (Cert.SmergeRefIdeal.main (F := Ideal))) ⟨m', fun _ => 0, g'⟩ (fun r => ∀ c : Dev Cert.SmergeRefIdeal.nD,
          r.2.mem ((c.tc : Thread Cert.SmergeRefIdeal.nD Cert.SmergeRefIdeal.τ).loc Cert.SmergeRefIdeal.main_v57) = v0 c
          ∧ r.2.mem ((c.tc : Thread Cert.SmergeRefIdeal.nD Cert.SmergeRefIdeal.τ).loc Cert.SmergeRefIdeal.main_arg0) = m' ((c.tc : Thread Cert.SmergeRefIdeal.nD Cert.SmergeRefIdeal.τ).loc Cert.SmergeRefIdeal.main_arg0)
          ∧ r.2.mem ((c.tc : Thread Cert.SmergeRefIdeal.nD Cert.SmergeRefIdeal.τ).loc Cert.SmergeRefIdeal.main_arg1) = m' ((c.tc : Thread Cert.SmergeRefIdeal.nD Cert.SmergeRefIdeal.τ).loc Cert.SmergeRefIdeal.main_arg1)
          ∧ r.2.mem ((c.tc : Thread Cert.SmergeRefIdeal.nD Cert.SmergeRefIdeal.τ).loc Cert.SmergeRefIdeal.main_arg2) = m' ((c.tc : Thread Cert.SmergeRefIdeal.nD Cert.SmergeRefIdeal.τ).loc Cert.SmergeRefIdeal.main_arg2)
          ∧ r.2.mem ((c.tc : Thread Cert.SmergeRefIdeal.nD Cert.SmergeRefIdeal.τ).loc Cert.SmergeRefIdeal.main_arg3) = m' ((c.tc : Thread Cert.SmergeRefIdeal.nD Cert.SmergeRefIdeal.τ).loc Cert.SmergeRefIdeal.main_arg3)
          ∧ r.2.mem ((c.tc : Thread Cert.SmergeRefIdeal.nD Cert.SmergeRefIdeal.τ).loc Cert.SmergeRefIdeal.main_arg4) = m' ((c.tc : Thread Cert.SmergeRefIdeal.nD Cert.SmergeRefIdeal.τ).loc Cert.SmergeRefIdeal.main_arg4)
          ∧ r.2.mem ((c.tc : Thread Cert.SmergeRefIdeal.nD Cert.SmergeRefIdeal.τ).loc Cert.SmergeRefIdeal.main_arg5) = m' ((c.tc : Thread Cert.SmergeRefIdeal.nD Cert.SmergeRefIdeal.τ).loc Cert.SmergeRefIdeal.main_arg5)
          ∧ r.2.mem ((c.tc : Thread Cert.SmergeRefIdeal.nD Cert.SmergeRefIdeal.τ).loc Cert.SmergeRefIdeal.main_arg6) = m' ((c.tc : Thread Cert.SmergeRefIdeal.nD Cert.SmergeRefIdeal.τ).loc Cert.SmergeRefIdeal.main_arg6)
          ∧ r.2.mem ((c.tc : Thread Cert.SmergeRefIdeal.nD Cert.SmergeRefIdeal.τ).loc Cert.SmergeRefIdeal.main_arg7) = m' ((c.tc : Thread Cert.SmergeRefIdeal.nD Cert.SmergeRefIdeal.τ).loc Cert.SmergeRefIdeal.main_arg7)
          ∧ r.2.mem ((c.tc : Thread Cert.SmergeRefIdeal.nD Cert.SmergeRefIdeal.τ).loc Cert.SmergeRefIdeal.main_arg8) = m' ((c.tc : Thread Cert.SmergeRefIdeal.nD Cert.SmergeRefIdeal.τ).loc Cert.SmergeRefIdeal.main_arg8)
          ∧ r.2.mem ((c.tc : Thread Cert.SmergeRefIdeal.nD Cert.SmergeRefIdeal.τ).loc Cert.SmergeRefIdeal.main_arg9) = m' ((c.tc : Thread Cert.SmergeRefIdeal.nD Cert.SmergeRefIdeal.τ).loc Cert.SmergeRefIdeal.main_arg9)
          ∧ r.2.mem ((c.tc : Thread Cert.SmergeRefIdeal.nD Cert.SmergeRefIdeal.τ).loc Cert.SmergeRefIdeal.main_arg10) = m' ((c.tc : Thread Cert.SmergeRefIdeal.nD Cert.SmergeRefIdeal.τ).loc Cert.SmergeRefIdeal.main_arg10)
          ∧ r.2.mem ((c.tc : Thread Cert.SmergeRefIdeal.nD Cert.SmergeRefIdeal.τ).loc Cert.SmergeRefIdeal.main_arg11) = m' ((c.tc : Thread Cert.SmergeRefIdeal.nD Cert.SmergeRefIdeal.τ).loc Cert.SmergeRefIdeal.main_arg11))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hSproj : Cert.Sproj.Facts) (hSprojIdeal : Cert.SprojIdeal.Facts) (hSprojRefIdeal : Cert.SprojRefIdeal.Facts) (hPproj : Cert.Pproj.Facts) (hPprojIdeal : Cert.PprojIdeal.Facts) (hPprojRefIdeal : Cert.PprojRefIdeal.Facts) (hSmlp : Cert.Smlp.Facts) (hSmlpIdeal : Cert.SmlpIdeal.Facts) (hSmlpRefIdeal : Cert.SmlpRefIdeal.Facts) (hSmerge : Cert.Smerge.Facts) (hSmergeIdeal : Cert.SmergeIdeal.Facts) (hSmergeRefIdeal : Cert.SmergeRefIdeal.Facts) (hAda : Cert.Ada.Facts) (hAdaIdeal : Cert.AdaIdeal.Facts) (hAdaRefIdeal : Cert.AdaRefIdeal.Facts) (hPre_pages_exist : Cert.Pre_pages_exist.Facts) (hOn_but_cache : Cert.On_but_cache.Facts),
    quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sproj (hSproj := hSproj)
    ∧ quiescent_SprojIdeal (hSprojIdeal := hSprojIdeal)
    ∧ quiescent_SprojRefIdeal (hSprojRefIdeal := hSprojRefIdeal)
    ∧ quiescent_Pproj (hPproj := hPproj) (hPre_pages_exist := hPre_pages_exist)
    ∧ quiescent_PprojIdeal (hPprojIdeal := hPprojIdeal) (hPre_pages_exist := hPre_pages_exist)
    ∧ quiescent_PprojRefIdeal (hPprojRefIdeal := hPprojRefIdeal) (hPre_pages_exist := hPre_pages_exist)
    ∧ quiescent_Smlp (hSmlp := hSmlp)
    ∧ quiescent_SmlpIdeal (hSmlpIdeal := hSmlpIdeal)
    ∧ quiescent_SmlpRefIdeal (hSmlpRefIdeal := hSmlpRefIdeal)
    ∧ quiescent_Smerge (hSmerge := hSmerge)
    ∧ quiescent_SmergeIdeal (hSmergeIdeal := hSmergeIdeal)
    ∧ quiescent_SmergeRefIdeal (hSmergeRefIdeal := hSmergeRefIdeal)
    ∧ quiescent_Ada (hAda := hAda)
    ∧ quiescent_AdaIdeal (hAdaIdeal := hAdaIdeal)
    ∧ quiescent_AdaRefIdeal (hAdaRefIdeal := hAdaRefIdeal)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Sproj_SprojIdeal
    ∧ algebraic_SprojIdeal_SprojRefIdeal (hSprojIdeal := hSprojIdeal) (hSprojRefIdeal := hSprojRefIdeal)
    ∧ preserves_Pproj_PprojIdeal
    ∧ algebraic_PprojIdeal_PprojRefIdeal_on_but_cache (hPprojIdeal := hPprojIdeal) (hPprojRefIdeal := hPprojRefIdeal) (hPre_pages_exist := hPre_pages_exist) (hOn_but_cache := hOn_but_cache)
    ∧ preserves_Smlp_SmlpIdeal
    ∧ algebraic_SmlpIdeal_SmlpRefIdeal (hSmlpIdeal := hSmlpIdeal) (hSmlpRefIdeal := hSmlpRefIdeal)
    ∧ preserves_Smerge_SmergeIdeal
    ∧ algebraic_SmergeIdeal_SmergeRefIdeal (hSmergeIdeal := hSmergeIdeal) (hSmergeRefIdeal := hSmergeRefIdeal)
    ∧ preserves_Ada_AdaIdeal
    ∧ algebraic_AdaIdeal_AdaRefIdeal (hAdaIdeal := hAdaIdeal) (hAdaRefIdeal := hAdaRefIdeal)
-- ==== On_but_cache.lean ====
abbrev S2048 : Shape := ⟨1, ![2048]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S1312x1024 : Shape := ⟨2, ![1312, 1024]⟩
abbrev S2560x256x128 : Shape := ⟨3, ![2560, 256, 128]⟩
abbrev S2x64x64x64 : Shape := ⟨4, ![2, 64, 64, 64]⟩
abbrev S64x2x64 : Shape := ⟨3, ![64, 2, 64]⟩
abbrev S_ : Shape := ⟨0, ![]⟩
abbrev S2x256x8192 : Shape := ⟨3, ![2, 256, 8192]⟩
abbrev S17408x128 : Shape := ⟨2, ![17408, 128]⟩
abbrev S16384x512 : Shape := ⟨2, ![16384, 512]⟩
abbrev S2x512x8192 : Shape := ⟨3, ![2, 512, 8192]⟩
abbrev S2x8192x256 : Shape := ⟨3, ![2, 8192, 256]⟩
abbrev S2x16x2x80x512 : Shape := ⟨5, ![2, 16, 2, 80, 512]⟩
abbrev S2x8192x128 : Shape := ⟨3, ![2, 8192, 128]⟩
abbrev S2x64x2x80x128 : Shape := ⟨5, ![2, 64, 2, 80, 128]⟩
abbrev S2x32x8192 : Shape := ⟨3, ![2, 32, 8192]⟩
abbrev S4096x256 : Shape := ⟨2, ![4096, 256]⟩

class Facts : Prop where
  bcast_S_S2x256x8192 : S_.BroadcastsInDim S2x256x8192 (![] : Fin 0 → Fin S2x256x8192.rank)
  bcast_S_S17408x128 : S_.BroadcastsInDim S17408x128 (![] : Fin 0 → Fin S17408x128.rank)
  bcast_S_S16384x512 : S_.BroadcastsInDim S16384x512 (![] : Fin 0 → Fin S16384x512.rank)
  bcast_S_S2x512x8192 : S_.BroadcastsInDim S2x512x8192 (![] : Fin 0 → Fin S2x512x8192.rank)
  bcast_S_S2x8192x256 : S_.BroadcastsInDim S2x8192x256 (![] : Fin 0 → Fin S2x8192x256.rank)
  bcast_S_S2x16x2x80x512 : S_.BroadcastsInDim S2x16x2x80x512 (![] : Fin 0 → Fin S2x16x2x80x512.rank)
  bcast_S_S2x8192x128 : S_.BroadcastsInDim S2x8192x128 (![] : Fin 0 → Fin S2x8192x128.rank)
  bcast_S_S2x64x2x80x128 : S_.BroadcastsInDim S2x64x2x80x128 (![] : Fin 0 → Fin S2x64x2x80x128.rank)
  bcast_S_S2x32x8192 : S_.BroadcastsInDim S2x32x8192 (![] : Fin 0 → Fin S2x32x8192.rank)
  bcast_S_S4096x256 : S_.BroadcastsInDim S4096x256 (![] : Fin 0 → Fin S4096x256.rank)

variable [Facts]

def fn_part1 {F : FTy → Type} [FloatOps F] (main_v0 : IVec S2x256x8192 1) (main_v1 : IVec S2x256x8192 1) (main_v2 : IVec S2x256x8192 1) (main_v3 : IVec S17408x128 1) (main_v4 : IVec S17408x128 1) (main_v5 : IVec S16384x512 1) (main_v6 : IVec S2x512x8192 1) (main_v7 : IVec S2x8192x256 1) (main_v8 : IVec S2x16x2x80x512 1) (main_v9 : IVec S2x8192x128 1) (main_v10 : IVec S2x64x2x80x128 1) (main_v11 : IVec S2x32x8192 1) : IVec S2x256x8192 1 × IVec S2x256x8192 1 × IVec S2x256x8192 1 × IVec S17408x128 1 × IVec S17408x128 1 × IVec S16384x512 1 × IVec S2x512x8192 1 × IVec S2x8192x256 1 × IVec S2x16x2x80x512 1 × IVec S2x8192x128 1 × IVec S2x64x2x80x128 1 × IVec S2x32x8192 1 × IVec S4096x256 1 :=
  let main_c_11 : IVec S_ 1 := constantI S_ 1 0#1
  let main_v12 : IVec S4096x256 1 := broadcastInDim S4096x256 ![] bcast_S_S4096x256 main_c_11
  (main_v0, main_v1, main_v2, main_v3, main_v4, main_v5, main_v6, main_v7, main_v8, main_v9, main_v10, main_v11, main_v12)

def fn {F : FTy → Type} [FloatOps F] (main_arg0 : IVec S2048 32) (main_arg1 : FVec F S16384x1024 .f32) (main_arg2 : FVec F S2x1x1024 .f32) (main_arg3 : FVec F S2x1x1024 .f32) (main_arg4 : FVec F S1x1024 .f32) (main_arg5 : FVec F S1024x1024 .bf16) (main_arg6 : FVec F S1312x1024 .bf16) (main_arg7 : FVec F S2560x256x128 .f32) (main_arg8 : FVec F S2x64x64x64 .f32) (main_arg9 : FVec F S64x2x64 .f32) : IVec S2x256x8192 1 × IVec S2x256x8192 1 × IVec S2x256x8192 1 × IVec S17408x128 1 × IVec S17408x128 1 × IVec S16384x512 1 × IVec S2x512x8192 1 × IVec S2x8192x256 1 × IVec S2x16x2x80x512 1 × IVec S2x8192x128 1 × IVec S2x64x2x80x128 1 × IVec S2x32x8192 1 × IVec S4096x256 1 :=
  let main_c : IVec S_ 1 := constantI S_ 1 1#1
  let main_v0 : IVec S2x256x8192 1 := broadcastInDim S2x256x8192 ![] bcast_S_S2x256x8192 main_c
  let main_c_0 : IVec S_ 1 := constantI S_ 1 1#1
  let main_v1 : IVec S2x256x8192 1 := broadcastInDim S2x256x8192 ![] bcast_S_S2x256x8192 main_c_0
  let main_c_1 : IVec S_ 1 := constantI S_ 1 1#1
  let main_v2 : IVec S2x256x8192 1 := broadcastInDim S2x256x8192 ![] bcast_S_S2x256x8192 main_c_1
  let main_c_2 : IVec S_ 1 := constantI S_ 1 1#1
  let main_v3 : IVec S17408x128 1 := broadcastInDim S17408x128 ![] bcast_S_S17408x128 main_c_2
  let main_c_3 : IVec S_ 1 := constantI S_ 1 1#1
  let main_v4 : IVec S17408x128 1 := broadcastInDim S17408x128 ![] bcast_S_S17408x128 main_c_3
  let main_c_4 : IVec S_ 1 := constantI S_ 1 1#1
  let main_v5 : IVec S16384x512 1 := broadcastInDim S16384x512 ![] bcast_S_S16384x512 main_c_4
  let main_c_5 : IVec S_ 1 := constantI S_ 1 1#1
  let main_v6 : IVec S2x512x8192 1 := broadcastInDim S2x512x8192 ![] bcast_S_S2x512x8192 main_c_5
  let main_c_6 : IVec S_ 1 := constantI S_ 1 1#1
  let main_v7 : IVec S2x8192x256 1 := broadcastInDim S2x8192x256 ![] bcast_S_S2x8192x256 main_c_6
  let main_c_7 : IVec S_ 1 := constantI S_ 1 1#1
  let main_v8 : IVec S2x16x2x80x512 1 := broadcastInDim S2x16x2x80x512 ![] bcast_S_S2x16x2x80x512 main_c_7
  let main_c_8 : IVec S_ 1 := constantI S_ 1 1#1
  let main_v9 : IVec S2x8192x128 1 := broadcastInDim S2x8192x128 ![] bcast_S_S2x8192x128 main_c_8
  let main_c_9 : IVec S_ 1 := constantI S_ 1 1#1
  let main_v10 : IVec S2x64x2x80x128 1 := broadcastInDim S2x64x2x80x128 ![] bcast_S_S2x64x2x80x128 main_c_9
  let main_c_10 : IVec S_ 1 := constantI S_ 1 1#1
  let main_v11 : IVec S2x32x8192 1 := broadcastInDim S2x32x8192 ![] bcast_S_S2x32x8192 main_c_10
  fn_part1 (F := F) main_v0 main_v1 main_v2 main_v3 main_v4 main_v5 main_v6 main_v7 main_v8 main_v9 main_v10 main_v11
-- ==== Pre_pages_exist.lean ====
abbrev S2048 : Shape := ⟨1, ![2048]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S1312x1024 : Shape := ⟨2, ![1312, 1024]⟩
abbrev S2560x256x128 : Shape := ⟨3, ![2560, 256, 128]⟩
abbrev S2x64x64x64 : Shape := ⟨4, ![2, 64, 64, 64]⟩
abbrev S64x2x64 : Shape := ⟨3, ![64, 2, 64]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) (main_arg2 : FVec F S2x1x1024 .f32) (main_arg3 : FVec F S2x1x1024 .f32) (main_arg4 : FVec F S1x1024 .f32) (main_arg5 : FVec F S1024x1024 .bf16) (main_arg6 : FVec F S1312x1024 .bf16) (main_arg7 : FVec F S2560x256x128 .f32) (main_arg8 : FVec F S2x64x64x64 .f32) (main_arg9 : FVec F S64x2x64 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 2559#32
  let main_v2 : IVec S2048 32 := broadcastInDim S2048 ![] bcast_S_S2048 main_c_0
  let main_v3 : IVec S2048 1 := cmpi .sle main_arg0 main_v2
  let main_v4 : IVec S2048 1 := andi main_v1 main_v3
  main_v4
-- ==== Mlp.lean ====
abbrev S16384x1024 : Shape := ⟨2, ![16384, 1024]⟩
abbrev S2x1x1024 : Shape := ⟨3, ![2, 1, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S16384x1024 : Shape := ⟨2, ![16384, 1024]⟩
abbrev S2x1x1024 : Shape := ⟨3, ![2, 1, 1024]⟩
abbrev S1x1024 : Shape := ⟨2, ![1, 1024]⟩
abbrev S1024x4096 : Shape := ⟨2, ![1024, 4096]⟩
abbrev S4096x1024 : Shape := ⟨2, ![4096, 1024]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S2x8192x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x4096, .f32⟩
  | .hbm, ⟨36, _⟩ => ⟨S_, .f32⟩
  | .hbm, ⟨37, _⟩ => ⟨S2x8192x4096, .f32⟩
  | .hbm, ⟨38, _⟩ => ⟨S2x8192x4096, .f32⟩
  | .hbm, ⟨39, _⟩ => ⟨S2x8192x4096, .f32⟩
  | .hbm, ⟨40, _⟩ => ⟨S2x8192x1024, .f32⟩
  | .hbm, ⟨41, _⟩ => ⟨S1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Merge.lean ====
abbrev S16384x1024 : Shape := ⟨2, ![16384, 1024]⟩
abbrev S2x1x1024 : Shape := ⟨3, ![2, 1, 1024]⟩
abbrev S1x1024 : Shape := ⟨2, ![1, 1024]⟩
abbrev S16384x512 : Shape := ⟨2, ![16384, 512]⟩
abbrev S2048x1024 : Shape := ⟨2, ![2048, 1024]⟩
abbrev S512x1024 : Shape := ⟨2, ![512, 1024]⟩
abbrev S1024x1024 : Shape := ⟨2, ![1024, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S16384x512, .bf16⟩
  | .hbm, ⟨7, _⟩ => ⟨S16384x512, .bf16⟩
  | .hbm, ⟨8, _⟩ => ⟨S2048x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S2048x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S2x1x1024 : Shape := ⟨3, ![2, 1, 1024]⟩
abbrev S1x1024 : Shape := ⟨2, ![1, 1024]⟩
abbrev S16384x512 : Shape := ⟨2, ![16384, 512]⟩
abbrev S2048x1024 : Shape := ⟨2, ![2048, 1024]⟩
abbrev S512x1024 : Shape := ⟨2, ![512, 1024]⟩
abbrev S1024x1024 : Shape := ⟨2, ![1024, 1024]⟩
abbrev S2x8192x1024 : Shape := ⟨3, ![2, 8192, 1024]⟩
abbrev S2x8192x512 : Shape := ⟨3, ![2, 8192, 512]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S16384x512, .bf16⟩
  | .hbm, ⟨7, _⟩ => ⟨S16384x512, .bf16⟩
  | .hbm, ⟨8, _⟩ => ⟨S2048x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S2x8192x1024, .f32⟩
  | .hbm, ⟨13, _⟩ => ⟨S16384x512, .f32⟩
  | .hbm, ⟨14, _⟩ => ⟨S2x8192x512, .f32⟩
  | .hbm, ⟨15, _⟩ => ⟨S16384x512, .f32⟩
  | .hbm, ⟨16, _⟩ => ⟨S2x8192x512, .f32⟩
  | .hbm, ⟨17, _⟩ => ⟨S2048x1024, .f32⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S_, .f32⟩
  | .hbm, ⟨49, _⟩ => ⟨S2x8192x2048, .f32⟩
  | .hbm, ⟨50, _⟩ => ⟨S2x8192x2048, .f32⟩
  | .hbm, ⟨51, _⟩ => ⟨S_, .f32⟩
  | .hbm, ⟨52, _⟩ => ⟨S2x8192x2048, .f32⟩
  | .hbm, ⟨53, _⟩ => ⟨S2x8192x2048, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Sproj.lean ====
abbrev S128x1024 : Shape := ⟨2, ![128, 1024]⟩
abbrev S1x1024 : Shape := ⟨2, ![1, 1024]⟩
abbrev S1920x1024 : Shape := ⟨2, ![1920, 1024]⟩
abbrev S1312x1024 : Shape := ⟨2, ![1312, 1024]⟩
abbrev S128x1920 : Shape := ⟨2, ![128, 1920]⟩
abbrev S1312x128 : Shape := ⟨2, ![1312, 128]⟩
abbrev S128 : Shape := ⟨1, ![128]⟩
abbrev S128x1 : Shape := ⟨2, ![128, 1]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024, .f32⟩
  | .hbm, ⟨4, _⟩ => ⟨S1920x1024, .bf16⟩
  | .hbm, ⟨5, _⟩ => ⟨S1312x1024, .bf16⟩
  | .hbm, ⟨6, _⟩ => ⟨S128x1920, .f32⟩
  | .hbm, ⟨7, _⟩ => ⟨S128x1920, .f32⟩
  | .hbm, ⟨8, _⟩ => ⟨S1312x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1920x1024, .bf16⟩
  | .local _ .vmem, ⟨5, _⟩ => ⟨S1312x1024, .bf16⟩
  | .local _ .vmem, ⟨6, _⟩ => ⟨S128x1920, .f32⟩
  | .local _ .vmem, ⟨7, _⟩ => ⟨S128x1920, .f32⟩
  | .local _ .vmem, ⟨8, _⟩ => ⟨S1312x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1312x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1920 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1312x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SprojRefIdeal.lean ====
abbrev S128x1024 : Shape := ⟨2, ![128, 1024]⟩
abbrev S1x1024 : Shape := ⟨2, ![1, 1024]⟩
abbrev S1920x1024 : Shape := ⟨2, ![1920, 1024]⟩
abbrev S1312x1024 : Shape := ⟨2, ![1312, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x1920 : Shape := ⟨2, ![128, 1920]⟩
abbrev S128x1312 : Shape := ⟨2, ![128, 1312]⟩
abbrev S1312x128 : Shape := ⟨2, ![1312, 128]⟩

abbrev nBuf : Space → Nat
  | .hbm => 41
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024, .f32⟩
  | .hbm, ⟨4, _⟩ => ⟨S1920x1024, .bf16⟩
  | .hbm, ⟨5, _⟩ => ⟨S1312x1024, .bf16⟩
  | .hbm, ⟨6, _⟩ => ⟨S1920x1024, .f32⟩
  | .hbm, ⟨7, _⟩ => ⟨S1312x1024, .f32⟩
  | .hbm, ⟨8, _⟩ => ⟨S1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1920, .f32⟩
  | .hbm, ⟨31, _⟩ => ⟨S128x1920, .f32⟩
  | .hbm, ⟨32, _⟩ => ⟨S128x1920, .f32⟩
  | .hbm, ⟨33, _⟩ => ⟨S_, .f32⟩
  | .hbm, ⟨34, _⟩ => ⟨S128x1920, .f32⟩
  | .hbm, ⟨35, _⟩ => ⟨S128x1920, .f32⟩
  | .hbm, ⟨36, _⟩ => ⟨S_, .f32⟩
  | .hbm, ⟨37, _⟩ => ⟨S128x1920, .f32⟩
  | .hbm, ⟨38, _⟩ => ⟨S128x1920, .f32⟩
  | .hbm, ⟨39, _⟩ => ⟨S128x1312, .f32⟩
  | .hbm, ⟨40, _⟩ => ⟨S1312x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Pproj.lean ====
abbrev S2048 : Shape := ⟨1, ![2048]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S1312x1024 : Shape := ⟨2, ![1312, 1024]⟩
abbrev S2560x256x128 : Shape := ⟨3, ![2560, 256, 128]⟩
abbrev S2x64x64x64 : Shape := ⟨4, ![2, 64, 64, 64]⟩
abbrev S64x2x64 : Shape := ⟨3, ![64, 2, 64]⟩
abbrev S_ : Shape := ⟨0, ![]⟩
abbrev S2x64x64x128 : Shape := ⟨4, ![2, 64, 64, 128]⟩
abbrev S2x64x128x128 : Shape := ⟨4, ![2, 64, 128, 128]⟩
abbrev S2x4x2048x128 : Shape := ⟨4, ![2, 4, 2048, 128]⟩
abbrev S2x64x64 : Shape := ⟨3, ![2, 64, 64]⟩
abbrev S2x64x1x64 : Shape := ⟨4, ![2, 64, 1, 64]⟩
abbrev S2x64x2x64 : Shape := ⟨4, ![2, 64, 2, 64]⟩
abbrev S2x4x1x2048 : Shape := ⟨4, ![2, 4, 1, 2048]⟩
abbrev S2x256x8192 : Shape := ⟨3, ![2, 256, 8192]⟩
abbrev S17408x128 : Shape := ⟨2, ![17408, 128]⟩
abbrev S16384x512 : Shape := ⟨2, ![16384, 512]⟩
abbrev S2x512x8192 : Shape := ⟨3, ![2, 512, 8192]⟩
abbrev S2x8192x256 : Shape := ⟨3, ![2, 8192, 256]⟩
abbrev S2x16x2x80x512 : Shape := ⟨5, ![2, 16, 2, 80, 512]⟩
abbrev S2x8192x128 : Shape := ⟨3, ![2, 8192, 128]⟩
abbrev S2x64x2x80x128 : Shape := ⟨5, ![2, 64, 2, 80, 128]⟩
abbrev S2x32x8192 : Shape := ⟨3, ![2, 32, 8192]⟩
abbrev S4096x256 : Shape := ⟨2, ![4096, 256]⟩
abbrev S256x1024 : Shape := ⟨2, ![256, 1024]⟩
abbrev S1x1x1024 : Shape := ⟨3, ![1, 1, 1024]⟩
abbrev S1x256x128 : Shape := ⟨3, ![1, 256, 128]⟩
abbrev S1 : Shape := ⟨1, ![1]⟩
abbrev S1x256x256 : Shape := ⟨3, ![1, 256, 256]⟩
abbrev S272x128 : Shape := ⟨2, ![272, 128]⟩
abbrev S256x512 : Shape := ⟨2, ![256, 512]⟩
abbrev S1x512x256 : Shape := ⟨3, ![1, 512, 256]⟩
abbrev S1x1x2x80x256 : Shape := ⟨5, ![1, 1, 2, 80, 256]⟩
abbrev S1x2x2x80x128 : Shape := ⟨5, ![1, 2, 2, 80, 128]⟩
abbrev S1x32x256 : Shape := ⟨3, ![1, 32, 256]⟩
abbrev S64x256 : Shape := ⟨2, ![64, 256]⟩
abbrev S4352x128 : Shape := ⟨2, ![4352, 128]⟩
abbrev S256 : Shape := ⟨1, ![256]⟩
abbrev S256x1 : Shape := ⟨2, ![256, 1]⟩
abbrev S1312x256 : Shape := ⟨2, ![1312, 256]⟩
abbrev S256x256 : Shape := ⟨2, ![256, 256]⟩
abbrev S4x128 : Shape := ⟨2, ![4, 128]⟩
abbrev S64x128 : Shape := ⟨2, ![64, 128]⟩
abbrev S512x256 : Shape := ⟨2, ![512, 256]⟩
abbrev S16x256 : Shape := ⟨2, ![16, 256]⟩
abbrev S1x1x1x64x256 : Shape := ⟨5, ![1, 1, 1, 64, 256]⟩
abbrev S1x1x1x16x256 : Shape := ⟨5, ![1, 1, 1, 16, 256]⟩
abbrev S1x1x1x64x128 : Shape := ⟨5, ![1, 1, 1, 64, 128]⟩
abbrev S16x128 : Shape := ⟨2, ![16, 128]⟩
abbrev S1x1x1x16x128 : Shape := ⟨5, ![1, 1, 1, 16, 128]⟩
abbrev S32x256 : Shape := ⟨2, ![32, 256]⟩
abbrev S256x128 : Shape := ⟨2, ![256, 128]⟩
abbrev S128x128 : Shape := ⟨2, ![128, 128]⟩
abbrev S64x2048 : Shape := ⟨2, ![64, 2048]⟩
abbrev S1x1x1x2048 : Shape := ⟨4, ![1, 1, 1, 2048]⟩
abbrev S1x2048 : Shape := ⟨2, ![1, 2048]⟩
abbrev S1x1x2048x128 : Shape := ⟨4, ![1, 1, 2048, 128]⟩
abbrev S2048x128 : Shape := ⟨2, ![2048, 128]⟩

abbrev nBuf : Space → Nat
  | .hbm => 33
  | .vmem => 103
  | .smem => 1
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x1024, .bf16⟩
  | .hbm, ⟨5, _⟩ => ⟨S1312x1024, .bf16⟩
  | .hbm, ⟨6, _⟩ => ⟨S2560x256x128, .f32⟩
  | .hbm, ⟨7, _⟩ => ⟨S2x64x64x64, .f32⟩
  | .hbm, ⟨8, _⟩ => ⟨S64x2x64, .f32⟩
  | .hbm, ⟨9, _⟩ => ⟨S2x64x64x64, .bf16⟩
  | .hbm, ⟨10, _⟩ => ⟨S_, .bf16⟩
  | .hbm, ⟨11, _⟩ => ⟨S2x64x64x64, .bf16⟩
  | .hbm, ⟨12, _⟩ => ⟨S2x64x64x128, .bf16⟩
  | .hbm, ⟨13, _⟩ => ⟨S2x64x64x128, .bf16⟩
  | .hbm, ⟨14, _⟩ => ⟨S2x64x128x128, .bf16⟩
  | .hbm, ⟨15, _⟩ => ⟨S2x4x2048x128, .bf16⟩
  | .hbm, ⟨16, _⟩ => ⟨S2x64x64, .f32⟩
  | .hbm, ⟨17, _⟩ => ⟨S2x64x1x64, .f32⟩
  | .hbm, ⟨18, _⟩ => ⟨S2x64x2x64, .f32⟩
  | .hbm, ⟨19, _⟩ => ⟨S2x4x1x2048, .f32⟩
  | .hbm, ⟨20, _⟩ => ⟨S2x256x8192, .f32⟩
  | .hbm, ⟨21, _⟩ => ⟨S2x256x8192, .f32⟩
  | .hbm, ⟨22, _⟩ => ⟨S2x256x8192, .f32⟩
  | .hbm, ⟨23, _⟩ => ⟨S17408x128, .f32⟩
  | .hbm, ⟨24, _⟩ => ⟨S17408x128, .f32⟩
  | .hbm, ⟨25, _⟩ => ⟨S16384x512, .f32⟩
  | .hbm, ⟨26, _⟩ => ⟨S2x512x8192, .bf16⟩
  | .hbm, ⟨27, _⟩ => ⟨S2x8192x256, .bf16⟩
  | .hbm, ⟨28, _⟩ => ⟨S2x16x2x80x512, .bf16⟩
  | .hbm, ⟨29, _⟩ => ⟨S2x8192x128, .bf16⟩
  | .hbm, ⟨30, _⟩ => ⟨S2x64x2x80x128, .bf16⟩
  | .hbm, ⟨31, _⟩ => ⟨S2x32x8192, .f32⟩
  | .hbm, ⟨32, _⟩ => ⟨S4096x256, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1312x1024, .bf16⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x128, .f32⟩
  | .local _ .vmem, ⟨33, _⟩ => ⟨S1x256x128, .f32⟩
  | .local _ .vmem, ⟨34, _⟩ => ⟨S1x256x128, .f32⟩
  | .local _ .vmem, ⟨35, _⟩ => ⟨S1x256x128, .f32⟩
  | .local _ .vmem, ⟨36, _⟩ => ⟨S1x256x128, .f32⟩
  | .local _ .vmem, ⟨37, _⟩ => ⟨S1x256x128, .f32⟩
  | .local _ .vmem, ⟨38, _⟩ => ⟨S1x256x128, .f32⟩
  | .local _ .vmem, ⟨39, _⟩ => ⟨S1x256x128, .f32⟩
  | .local _ .vmem, ⟨40, _⟩ => ⟨S1x256x128, .f32⟩
  | .local _ .vmem, ⟨41, _⟩ => ⟨S1x256x128, .f32⟩
  | .local _ .vmem, ⟨42, _⟩ => ⟨S1x256x128, .f32⟩
  | .local _ .vmem, ⟨43, _⟩ => ⟨S1x256x128, .f32⟩
  | .local _ .vmem, ⟨44, _⟩ => ⟨S1x256x128, .f32⟩
  | .local _ .vmem, ⟨45, _⟩ => ⟨S1x256x128, .f32⟩
  | .local _ .vmem, ⟨46, _⟩ => ⟨S1x256x128, .f32⟩
  | .local _ .vmem, ⟨47, _⟩ => ⟨S1x256x128, .f32⟩
  | .local _ .vmem, ⟨48, _⟩ => ⟨S1x256x128, .f32⟩
  | .local _ .vmem, ⟨49, _⟩ => ⟨S1x256x128, .f32⟩
  | .local _ .vmem, ⟨50, _⟩ => ⟨S1x256x128, .f32⟩
  | .local _ .vmem, ⟨51, _⟩ => ⟨S1x256x128, .f32⟩
  | .local _ .vmem, ⟨52, _⟩ => ⟨S1x256x128, .f32⟩
  | .local _ .vmem, ⟨53, _⟩ => ⟨S1x256x128, .f32⟩
  | .local _ .vmem, ⟨54, _⟩ => ⟨S1x256x128, .f32⟩
  | .local _ .vmem, ⟨55, _⟩ => ⟨S1x256x128, .f32⟩
  | .local _ .vmem, ⟨56, _⟩ => ⟨S1x256x128, .f32⟩
  | .local _ .vmem, ⟨57, _⟩ => ⟨S1x256x128, .f32⟩
  | .local _ .vmem, ⟨58, _⟩ => ⟨S1x256x128, .f32⟩
  | .local _ .vmem, ⟨59, _⟩ => ⟨S1x256x128, .f32⟩
  | .local _ .vmem, ⟨60, _⟩ => ⟨S1x256x128, .f32⟩
  | .local _ .vmem, ⟨61, _⟩ => ⟨S1x256x128, .f32⟩
  | .local _ .vmem, ⟨62, _⟩ => ⟨S1x256x128, .f32⟩
  | .local _ .vmem, ⟨63, _⟩ => ⟨S1x256x128, .f32⟩
  | .local _ .vmem, ⟨64, _⟩ => ⟨S1x256x128, .f32⟩
  | .local _ .vmem, ⟨65, _⟩ => ⟨S1x256x128, .f32⟩
  | .local _ .vmem, ⟨66, _⟩ => ⟨S1x256x128, .f32⟩
  | .local _ .vmem, ⟨67, _⟩ => ⟨S1x256x128, .f32⟩
  | .local _ .vmem, ⟨68, _⟩ => ⟨S1x256x128, .f32⟩
  | .local _ .vmem, ⟨69, _⟩ => ⟨S1x256x128, .f32⟩
  | .local _ .vmem, ⟨70, _⟩ => ⟨S1x256x128, .f32⟩
  | .local _ .vmem, ⟨71, _⟩ => ⟨S1x256x128, .f32⟩
  | .local _ .vmem, ⟨72, _⟩ => ⟨S1x256x128, .f32⟩
  | .local _ .vmem, ⟨73, _⟩ => ⟨S2x4x1x2048, .f32⟩
  | .local _ .vmem, ⟨74, _⟩ => ⟨S2x4x2048x128, .bf16⟩
  | .local _ .vmem, ⟨75, _⟩ => ⟨S1x256x256, .f32⟩
  | .local _ .vmem, ⟨76, _⟩ => ⟨S1x256x256, .f32⟩
  | .local _ .vmem, ⟨77, _⟩ => ⟨S1x256x256, .f32⟩
  | .local _ .vmem, ⟨78, _⟩ => ⟨S1x256x256, .f32⟩
  | .local _ .vmem, ⟨79, _⟩ => ⟨S1x256x256, .f32⟩
  | .local _ .vmem, ⟨80, _⟩ => ⟨S1x256x256, .f32⟩
  | .local _ .vmem, ⟨81, _⟩ => ⟨S272x128, .f32⟩
  | .local _ .vmem, ⟨82, _⟩ => ⟨S272x128, .f32⟩
  | .local _ .vmem, ⟨83, _⟩ => ⟨S272x128, .f32⟩
  | .local _ .vmem, ⟨84, _⟩ => ⟨S272x128, .f32⟩
  | .local _ .vmem, ⟨85, _⟩ => ⟨S256x512, .f32⟩
  | .local _ .vmem, ⟨86, _⟩ => ⟨S256x512, .f32⟩
  | .local _ .vmem, ⟨87, _⟩ => ⟨S1x512x256, .bf16⟩
  | .local _ .vmem, ⟨88, _⟩ => ⟨S1x512x256, .bf16⟩
  | .local _ .vmem, ⟨89, _⟩ => ⟨S1x256x256, .bf16⟩
  | .local _ .vmem, ⟨90, _⟩ => ⟨S1x256x256, .bf16⟩
  | .local _ .vmem, ⟨91, _⟩ => ⟨S1x1x2x80x256, .bf16⟩
  | .local _ .vmem, ⟨92, _⟩ => ⟨S1x1x2x80x256, .bf16⟩
  | .local _ .vmem, ⟨93, _⟩ => ⟨S1x256x128, .bf16⟩
  | .local _ .vmem, ⟨94, _⟩ => ⟨S1x256x128, .bf16⟩
  | .local _ .vmem, ⟨95, _⟩ => ⟨S1x2x2x80x128, .bf16⟩
  | .local _ .vmem, ⟨96, _⟩ => ⟨S1x2x2x80x128, .bf16⟩
  | .local _ .vmem, ⟨97, _⟩ => ⟨S1x32x256, .f32⟩
  | .local _ .vmem, ⟨98, _⟩ => ⟨S1x32x256, .f32⟩
  | .local _ .vmem, ⟨99, _⟩ => ⟨S64x256, .f32⟩
  | .local _ .vmem, ⟨100, _⟩ => ⟨S64x256, .f32⟩
  | .local _ .vmem, ⟨101, _⟩ => ⟨S4352x128, .f32⟩
  | .local _ .vmem, ⟨102, _⟩ => ⟨S4352x128, .f32⟩
  | .local _ .smem, ⟨0, _⟩ => ⟨S2048, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev main_v10_10 : Ref sig .tc := ⟨.hbm, 30, rfl⟩
abbrev main_v10_11 : Ref sig .tc := ⟨.hbm, 31, rfl⟩
abbrev main_v10_12 : Ref sig .tc := ⟨.hbm, 32, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_stg27_0 : Ref sig .tc := ⟨.vmem, 51, rfl⟩
abbrev cc0_stg27_1 : Ref sig .tc := ⟨.vmem, 52, rfl⟩
abbrev cc0_stg28_0 : Ref sig .tc := ⟨.vmem, 53, rfl⟩
abbrev cc0_stg28_1 : Ref sig .tc := ⟨.vmem, 54, rfl⟩
abbrev cc0_stg29_0 : Ref sig .tc := ⟨.vmem, 55, rfl⟩
abbrev cc0_stg29_1 : Ref sig .tc := ⟨.vmem, 56, rfl⟩
abbrev cc0_stg30_0 : Ref sig .tc := ⟨.vmem, 57, rfl⟩
abbrev cc0_stg30_1 : Ref sig .tc := ⟨.vmem, 58, rfl⟩
abbrev cc0_stg31_0 : Ref sig .tc := ⟨.vmem, 59, rfl⟩
abbrev cc0_stg31_1 : Ref sig .tc := ⟨.vmem, 60, rfl⟩
abbrev cc0_stg32_0 : Ref sig .tc := ⟨.vmem, 61, rfl⟩
abbrev cc0_stg32_1 : Ref sig .tc := ⟨.vmem, 62, rfl⟩
abbrev cc0_stg33_0 : Ref sig .tc := ⟨.vmem, 63, rfl⟩
abbrev cc0_stg33_1 : Ref sig .tc := ⟨.vmem, 64, rfl⟩
abbrev cc0_stg34_0 : Ref sig .tc := ⟨.vmem, 65, rfl⟩
abbrev cc0_stg34_1 : Ref sig .tc := ⟨.vmem, 66, rfl⟩
abbrev cc0_stg35_0 : Ref sig .tc := ⟨.vmem, 67, rfl⟩
abbrev cc0_stg35_1 : Ref sig .tc := ⟨.vmem, 68, rfl⟩
abbrev cc0_stg36_0 : Ref sig .tc := ⟨.vmem, 69, rfl⟩
abbrev cc0_stg36_1 : Ref sig .tc := ⟨.vmem, 70, rfl⟩
abbrev cc0_stg37_0 : Ref sig .tc := ⟨.vmem, 71, rfl⟩
abbrev cc0_stg37_1 : Ref sig .tc := ⟨.vmem, 72, rfl⟩
abbrev cc0_stg38_0 : Ref sig .tc := ⟨.vmem, 73, rfl⟩
abbrev cc0_stg39_0 : Ref sig .tc := ⟨.vmem, 74, rfl⟩
abbrev cc0_stg40_0 : Ref sig .tc := ⟨.vmem, 75, rfl⟩
abbrev cc0_stg40_1 : Ref sig .tc := ⟨.vmem, 76, rfl⟩
abbrev cc0_stg41_0 : Ref sig .tc := ⟨.vmem, 77, rfl⟩
abbrev cc0_stg41_1 : Ref sig .tc := ⟨.vmem, 78, rfl⟩
abbrev cc0_stg42_0 : Ref sig .tc := ⟨.vmem, 79, rfl⟩
abbrev cc0_stg42_1 : Ref sig .tc := ⟨.vmem, 80, rfl⟩
abbrev cc0_stg43_0 : Ref sig .tc := ⟨.vmem, 81, rfl⟩
abbrev cc0_stg43_1 : Ref sig .tc := ⟨.vmem, 82, rfl⟩
abbrev cc0_stg44_0 : Ref sig .tc := ⟨.vmem, 83, rfl⟩
abbrev cc0_stg44_1 : Ref sig .tc := ⟨.vmem, 84, rfl⟩
abbrev cc0_stg45_0 : Ref sig .tc := ⟨.vmem, 85, rfl⟩
abbrev cc0_stg45_1 : Ref sig .tc := ⟨.vmem, 86, rfl⟩
abbrev cc0_stg46_0 : Ref sig .tc := ⟨.vmem, 87, rfl⟩
abbrev cc0_stg46_1 : Ref sig .tc := ⟨.vmem, 88, rfl⟩
abbrev cc0_stg47_0 : Ref sig .tc := ⟨.vmem, 89, rfl⟩
abbrev cc0_stg47_1 : Ref sig .tc := ⟨.vmem, 90, rfl⟩
abbrev cc0_stg48_0 : Ref sig .tc := ⟨.vmem, 91, rfl⟩
abbrev cc0_stg48_1 : Ref sig .tc := ⟨.vmem, 92, rfl⟩
abbrev cc0_stg49_0 : Ref sig .tc := ⟨.vmem, 93, rfl⟩
abbrev cc0_stg49_1 : Ref sig .tc := ⟨.vmem, 94, rfl⟩
abbrev cc0_stg50_0 : Ref sig .tc := ⟨.vmem, 95, rfl⟩
abbrev cc0_stg50_1 : Ref sig .tc := ⟨.vmem, 96, rfl⟩
abbrev cc0_stg51_0 : Ref sig .tc := ⟨.vmem, 97, rfl⟩
abbrev cc0_stg51_1 : Ref sig .tc := ⟨.vmem, 98, rfl⟩
abbrev cc0_stg52_0 : Ref sig .tc := ⟨.vmem, 99, rfl⟩
abbrev cc0_stg52_1 : Ref sig .tc := ⟨.vmem, 100, rfl⟩
abbrev cc0_scratch0 : Ref sig .tc := ⟨.vmem, 101, rfl⟩
abbrev cc0_scratch1 : Ref sig .tc := ⟨.vmem, 102, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem26_1 : DmaSem sig := 50
abbrev cc0_sem27_0 : DmaSem sig := 51
abbrev cc0_sem27_1 : DmaSem sig := 52
abbrev cc0_sem28_0 : DmaSem sig := 53
abbrev cc0_sem28_1 : DmaSem sig := 54
abbrev cc0_sem29_0 : DmaSem sig := 55
abbrev cc0_sem29_1 : DmaSem sig := 56
abbrev cc0_sem30_0 : DmaSem sig := 57
abbrev cc0_sem30_1 : DmaSem sig := 58
abbrev cc0_sem31_0 : DmaSem sig := 59
abbrev cc0_sem31_1 : DmaSem sig := 60
abbrev cc0_sem32_0 : DmaSem sig := 61
abbrev cc0_sem32_1 : DmaSem sig := 62
abbrev cc0_sem33_0 : DmaSem sig := 63
abbrev cc0_sem33_1 : DmaSem sig := 64
abbrev cc0_sem34_0 : DmaSem sig := 65
abbrev cc0_sem34_1 : DmaSem sig := 66
abbrev cc0_sem35_0 : DmaSem sig := 67
abbrev cc0_sem35_1 : DmaSem sig := 68
abbrev cc0_sem36_0 : DmaSem sig := 69
abbrev cc0_sem36_1 : DmaSem sig := 70
abbrev cc0_sem37_0 : DmaSem sig := 71
abbrev cc0_sem37_1 : DmaSem sig := 72
abbrev cc0_sem38_0 : DmaSem sig := 73
abbrev cc0_sem39_0 : DmaSem sig := 74
abbrev cc0_sem40_0 : DmaSem sig := 75
abbrev cc0_sem40_1 : DmaSem sig := 76
abbrev cc0_sem41_0 : DmaSem sig := 77
abbrev cc0_sem41_1 : DmaSem sig := 78
abbrev cc0_sem42_0 : DmaSem sig := 79
abbrev cc0_sem42_1 : DmaSem sig := 80
abbrev cc0_sem43_0 : DmaSem sig := 81
abbrev cc0_sem43_1 : DmaSem sig := 82
abbrev cc0_sem44_0 : DmaSem sig := 83
abbrev cc0_sem44_1 : DmaSem sig := 84
abbrev cc0_sem45_0 : DmaSem sig := 85
abbrev cc0_sem45_1 : DmaSem sig := 86
abbrev cc0_sem46_0 : DmaSem sig := 87
abbrev cc0_sem46_1 : DmaSem sig := 88
abbrev cc0_sem47_0 : DmaSem sig := 89
abbrev cc0_sem47_1 : DmaSem sig := 90
abbrev cc0_sem48_0 : DmaSem sig := 91
abbrev cc0_sem48_1 : DmaSem sig := 92
abbrev cc0_sem49_0 : DmaSem sig := 93
abbrev cc0_sem49_1 : DmaSem sig := 94
abbrev cc0_sem50_0 : DmaSem sig := 95
abbrev cc0_sem50_1 : DmaSem sig := 96
abbrev cc0_sem51_0 : DmaSem sig := 97
abbrev cc0_sem51_1 : DmaSem sig := 98
abbrev cc0_sem52_0 : DmaSem sig := 99
abbrev cc0_sem52_1 : DmaSem sig := 100

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c32_i32 : BitVec 32 := 32#32
  let v0 : BitVec 32 := Scalar.muli arg0 c32_i32
  let v1 : BitVec 32 := Scalar.addi v0 c0_i32
  let v2 : Index := Scalar.indexCast v1
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_7 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c8_i32 : BitVec 32 := 8#32
  let v1 : BitVec 32 := Scalar.addi v0 c8_i32
  let v2 : Index := Scalar.indexCast v1
  let v3 : BitVec 32 := pf.at 0 (Rect.unit (s := S2048) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c9_i32 : BitVec 32 := 9#32
  let v1 : BitVec 32 := Scalar.addi v0 c9_i32
  let v2 : Index := Scalar.indexCast v1
  let v3 : BitVec 32 := pf.at 0 (Rect.unit (s := S2048) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c10_i32 : BitVec 32 := 10#32
  let v1 : BitVec 32 := Scalar.addi v0 c10_i32
  let v2 : Index := Scalar.indexCast v1
  let v3 : BitVec 32 := pf.at 0 (Rect.unit (s := S2048) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c11_i32 : BitVec 32 := 11#32
  let v1 : BitVec 32 := Scalar.addi v0 c11_i32
  let v2 : Index := Scalar.indexCast v1
  let v3 : BitVec 32 := pf.at 0 (Rect.unit (s := S2048) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c12_i32 : BitVec 32 := 12#32
  let v1 : BitVec 32 := Scalar.addi v0 c12_i32
  let v2 : Index := Scalar.indexCast v1
  let v3 : BitVec 32 := pf.at 0 (Rect.unit (s := S2048) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c13_i32 : BitVec 32 := 13#32
  let v1 : BitVec 32 := Scalar.addi v0 c13_i32
  let v2 : Index := Scalar.indexCast v1
  let v3 : BitVec 32 := pf.at 0 (Rect.unit (s := S2048) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c14_i32 : BitVec 32 := 14#32
  let v1 : BitVec 32 := Scalar.addi v0 c14_i32
  let v2 : Index := Scalar.indexCast v1
  let v3 : BitVec 32 := pf.at 0 (Rect.unit (s := S2048) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c15_i32 : BitVec 32 := 15#32
  let v1 : BitVec 32 := Scalar.addi v0 c15_i32
  let v2 : Index := Scalar.indexCast v1
  let v3 : BitVec 32 := pf.at 0 (Rect.unit (s := S2048) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c16_i32 : BitVec 32 := 16#32
  let v1 : BitVec 32 := Scalar.addi v0 c16_i32
  let v2 : Index := Scalar.indexCast v1
  let v3 : BitVec 32 := pf.at 0 (Rect.unit (s := S2048) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c17_i32 : BitVec 32 := 17#32
  let v1 : BitVec 32 := Scalar.addi v0 c17_i32
  let v2 : Index := Scalar.indexCast v1
  let v3 : BitVec 32 := pf.at 0 (Rect.unit (s := S2048) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c18_i32 : BitVec 32 := 18#32
  let v1 : BitVec 32 := Scalar.addi v0 c18_i32
  let v2 : Index := Scalar.indexCast v1
  let v3 : BitVec 32 := pf.at 0 (Rect.unit (s := S2048) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c19_i32 : BitVec 32 := 19#32
  let v1 : BitVec 32 := Scalar.addi v0 c19_i32
  let v2 : Index := Scalar.indexCast v1
  let v3 : BitVec 32 := pf.at 0 (Rect.unit (s := S2048) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c20_i32 : BitVec 32 := 20#32
  let v1 : BitVec 32 := Scalar.addi v0 c20_i32
  let v2 : Index := Scalar.indexCast v1
  let v3 : BitVec 32 := pf.at 0 (Rect.unit (s := S2048) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c21_i32 : BitVec 32 := 21#32
  let v1 : BitVec 32 := Scalar.addi v0 c21_i32
  let v2 : Index := Scalar.indexCast v1
  let v3 : BitVec 32 := pf.at 0 (Rect.unit (s := S2048) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c22_i32 : BitVec 32 := 22#32
  let v1 : BitVec 32 := Scalar.addi v0 c22_i32
  let v2 : Index := Scalar.indexCast v1
  let v3 : BitVec 32 := pf.at 0 (Rect.unit (s := S2048) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c23_i32 : BitVec 32 := 23#32
  let v1 : BitVec 32 := Scalar.addi v0 c23_i32
  let v2 : Index := Scalar.indexCast v1
  let v3 : BitVec 32 := pf.at 0 (Rect.unit (s := S2048) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c24_i32 : BitVec 32 := 24#32
  let v1 : BitVec 32 := Scalar.addi v0 c24_i32
  let v2 : Index := Scalar.indexCast v1
  let v3 : BitVec 32 := pf.at 0 (Rect.unit (s := S2048) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c25_i32 : BitVec 32 := 25#32
  let v1 : BitVec 32 := Scalar.addi v0 c25_i32
  let v2 : Index := Scalar.indexCast v1
  let v3 : BitVec 32 := pf.at 0 (Rect.unit (s := S2048) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c26_i32 : BitVec 32 := 26#32
  let v1 : BitVec 32 := Scalar.addi v0 c26_i32
  let v2 : Index := Scalar.indexCast v1
  let v3 : BitVec 32 := pf.at 0 (Rect.unit (s := S2048) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_33 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c27_i32 : BitVec 32 := 27#32
  let v1 : BitVec 32 := Scalar.addi v0 c27_i32
  let v2 : Index := Scalar.indexCast v1
  let v3 : BitVec 32 := pf.at 0 (Rect.unit (s := S2048) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c28_i32 : BitVec 32 := 28#32
  let v1 : BitVec 32 := Scalar.addi v0 c28_i32
  let v2 : Index := Scalar.indexCast v1
  let v3 : BitVec 32 := pf.at 0 (Rect.unit (s := S2048) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c29_i32 : BitVec 32 := 29#32
  let v1 : BitVec 32 := Scalar.addi v0 c29_i32
  let v2 : Index := Scalar.indexCast v1
  let v3 : BitVec 32 := pf.at 0 (Rect.unit (s := S2048) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c30_i32 : BitVec 32 := 30#32
  let v1 : BitVec 32 := Scalar.addi v0 c30_i32
  let v2 : Index := Scalar.indexCast v1
  let v3 : BitVec 32 := pf.at 0 (Rect.unit (s := S2048) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 32), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let v2 : Index := Scalar.indexCast v1
  let v3 : BitVec 32 := pf.at 0 (Rect.unit (s := S2048) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_38 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_39 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_40 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_41 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_42 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_45 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_46 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_47 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_48 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, v43.toNat, c0_i32_22.toNat, c0_i32_23.toNat, v53.toNat]

def cc0_transform_49 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_50 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_51 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_52 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1312x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x256x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x256x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x256x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x256x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x256x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x256x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x256x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x256x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x256x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x256x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 1 → Memref sig .tc .vmem S2x4x1x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S2x4x2048x128 .bf16 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 2 → Memref sig .tc .vmem S1x256x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x256x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x256x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S272x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S272x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S256x512 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x512x256 .bf16 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x256x256 .bf16 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x2x80x256 .bf16 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x256x128 .bf16 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x2x2x80x128 .bf16 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x32x256 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S64x256 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]
-- ==== PprojRefIdeal.lean ====
abbrev S2048 : Shape := ⟨1, ![2048]⟩
abbrev S16384x1024 : Shape := ⟨2, ![16384, 1024]⟩
abbrev S2x1x1024 : Shape := ⟨3, ![2, 1, 1024]⟩
abbrev S1x1024 : Shape := ⟨2, ![1, 1024]⟩
abbrev S1024x1024 : Shape := ⟨2, ![1024, 1024]⟩
abbrev S1312x1024 : Shape := ⟨2, ![1312, 1024]⟩
abbrev S2560x256x128 : Shape := ⟨3, ![2560, 256, 128]⟩
abbrev S2x64x64x64 : Shape := ⟨4, ![2, 64, 64, 64]⟩
abbrev S64x2x64 : Shape := ⟨3, ![64, 2, 64]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x128 : Shape := ⟨3, ![2, 8192, 128]⟩
abbrev S2x8192x512 : Shape := ⟨3, ![2, 8192, 512]⟩
abbrev S2x8192x1312 : Shape := ⟨3, ![2, 8192, 1312]⟩
abbrev S2x1312x8192 : Shape := ⟨3, ![2, 1312, 8192]⟩
abbrev S2x512x8192 : Shape := ⟨3, ![2, 512, 8192]⟩
abbrev S2x256x8192 : Shape := ⟨3, ![2, 256, 8192]⟩
abbrev S2x32x8192 : Shape := ⟨3, ![2, 32, 8192]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S1x8192x128 : Shape := ⟨3, ![1, 8192, 128]⟩
abbrev S2x8192x256 : Shape := ⟨3, ![2, 8192, 256]⟩
abbrev S2048x1 : Shape := ⟨2, ![2048, 1]⟩
abbrev S2048x256x128 : Shape := ⟨3, ![2048, 256, 128]⟩
abbrev S2048x128x256 : Shape := ⟨3, ![2048, 128, 256]⟩
abbrev S128x2048x2x2x64 : Shape := ⟨5, ![128, 2048, 2, 2, 64]⟩
abbrev S256x64x128 : Shape := ⟨3, ![256, 64, 128]⟩
abbrev S256x68x128 : Shape := ⟨3, ![256, 68, 128]⟩
abbrev S17408x128 : Shape := ⟨2, ![17408, 128]⟩
abbrev S16384x512 : Shape := ⟨2, ![16384, 512]⟩
abbrev S2x128x8192 : Shape := ⟨3, ![2, 128, 8192]⟩
abbrev S2x2x64x8192 : Shape := ⟨4, ![2, 2, 64, 8192]⟩
abbrev S2x2x16x8192 : Shape := ⟨4, ![2, 2, 16, 8192]⟩
abbrev S2x2x80x8192 : Shape := ⟨4, ![2, 2, 80, 8192]⟩
abbrev S2x2x80x16x512 : Shape := ⟨5, ![2, 2, 80, 16, 512]⟩
abbrev S2x16x2x80x512 : Shape := ⟨5, ![2, 16, 2, 80, 512]⟩
abbrev S2x2x80x64x128 : Shape := ⟨5, ![2, 2, 80, 64, 128]⟩
abbrev S2x64x2x80x128 : Shape := ⟨5, ![2, 64, 2, 80, 128]⟩
abbrev S128x32x64x2x2x64 : Shape := ⟨6, ![128, 32, 64, 2, 2, 64]⟩
abbrev S64x2x1x64 : Shape := ⟨4, ![64, 2, 1, 64]⟩
abbrev S1x1x64x2x1x64 : Shape := ⟨6, ![1, 1, 64, 2, 1, 64]⟩
abbrev S2x64x128x32x2 : Shape := ⟨5, ![2, 64, 128, 32, 2]⟩
abbrev S128x32x2x2x64 : Shape := ⟨5, ![128, 32, 2, 2, 64]⟩
abbrev S4096x256 : Shape := ⟨2, ![4096, 256]⟩

abbrev nBuf : Space → Nat
  | .hbm => 144
  | .vmem => 0
  | .smem => 0
  | _ => 0

abbrev hbmTy0_0 (i : Nat) : BufTy := match i % 128 with
  | 0 => ⟨S2048, .i32⟩
  | 1 => ⟨S16384x1024, .f32⟩
  | 2 => ⟨S2x1x1024, .f32⟩
  | 3 => ⟨S2x1x1024, .f32⟩
  | 4 => ⟨S1x1024, .f32⟩
  | 5 => ⟨S1024x1024, .bf16⟩
  | 6 => ⟨S1312x1024, .bf16⟩
  | 7 => ⟨S2560x256x128, .f32⟩
  | 8 => ⟨S2x64x64x64, .f32⟩
  | 9 => ⟨S64x2x64, .f32⟩
  | 10 => ⟨S2x8192x1024, .f32⟩
  | 11 => ⟨S1024x1024, .f32⟩
  | 12 => ⟨S1312x1024, .f32⟩
  | 13 => ⟨S1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S_, .f32⟩
  | 31 => ⟨S2x1x1024, .f32⟩
  | 32 => ⟨S2x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x128, .f32⟩
  | 39 => ⟨S2x8192x128, .f32⟩
  | 40 => ⟨S2x8192x512, .f32⟩
  | 41 => ⟨S2x8192x128, .f32⟩
  | 42 => ⟨S2x8192x128, .f32⟩
  | 43 => ⟨S2x8192x1312, .f32⟩
  | 44 => ⟨S2x1312x8192, .f32⟩
  | 45 => ⟨S2x512x8192, .f32⟩
  | 46 => ⟨S2x256x8192, .f32⟩
  | 47 => ⟨S2x256x8192, .f32⟩
  | 48 => ⟨S2x256x8192, .f32⟩
  | 49 => ⟨S2x32x8192, .f32⟩
  | 50 => ⟨S8192, .i32⟩
  | 51 => ⟨S_, .i32⟩
  | 52 => ⟨S_, .i32⟩
  | 53 => ⟨S8192, .i32⟩
  | 54 => ⟨S8192, .i32⟩
  | 55 => ⟨S8192, .i32⟩
  | 56 => ⟨S_, .i32⟩
  | 57 => ⟨S8192, .i32⟩
  | 58 => ⟨S8192, .i1⟩
  | 59 => ⟨S8192, .i32⟩
  | 60 => ⟨S8192, .i32⟩
  | 61 => ⟨S_, .i32⟩
  | 62 => ⟨S8192, .i32⟩
  | 63 => ⟨S8192, .i1⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S128, .i32⟩
  | 71 => ⟨S1x128, .i32⟩
  | 72 => ⟨S8192x128, .i32⟩
  | 73 => ⟨S8192x128, .i32⟩
  | 74 => ⟨S8192x128, .i1⟩
  | 75 => ⟨S_, .f32⟩
  | 76 => ⟨S_, .f32⟩
  | 77 => ⟨S8192x128, .f32⟩
  | 78 => ⟨S8192x128, .f32⟩
  | 79 => ⟨S8192x128, .f32⟩
  | 80 => ⟨S1x8192x128, .f32⟩
  | 81 => ⟨S2x8192x128, .f32⟩
  | 82 => ⟨S2x8192x128, .f32⟩
  | 83 => ⟨S2x8192x256, .f32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S2048x256x128, .f32⟩
  | 93 => ⟨S2048x128x256, .f32⟩
  | 94 => ⟨S128x2048x2x2x64, .f32⟩
  | 95 => ⟨S256x64x128, .f32⟩
  | 96 => ⟨S_, .i32⟩
  | 97 => ⟨S_, .f32⟩
  | 98 => ⟨S256x68x128, .f32⟩
  | 99 => ⟨S17408x128, .f32⟩
  | 100 => ⟨S256x64x128, .f32⟩
  | 101 => ⟨S_, .i32⟩
  | 102 => ⟨S_, .f32⟩
  | 103 => ⟨S256x68x128, .f32⟩
  | 104 => ⟨S17408x128, .f32⟩
  | 105 => ⟨S16384x512, .f32⟩
  | 106 => ⟨S_, .f32⟩
  | 107 => ⟨S2x512x8192, .f32⟩
  | 108 => ⟨S2x512x8192, .f32⟩
  | 109 => ⟨S2x512x8192, .bf16⟩
  | 110 => ⟨S2x8192x256, .bf16⟩
  | 111 => ⟨S2x128x8192, .f32⟩
  | 112 => ⟨S2x2x64x8192, .f32⟩
  | 113 => ⟨S_, .f32⟩
  | 114 => ⟨S2x2x16x8192, .f32⟩
  | 115 => ⟨S2x2x80x8192, .f32⟩
  | 116 => ⟨S2x2x80x16x512, .f32⟩
  | 117 => ⟨S2x16x2x80x512, .f32⟩
  | 118 => ⟨S2x16x2x80x512, .bf16⟩
  | 119 => ⟨S2x8192x128, .bf16⟩
  | 120 => ⟨S2x128x8192, .f32⟩
  | 121 => ⟨S2x2x64x8192, .f32⟩
  | 122 => ⟨S_, .f32⟩
  | 123 => ⟨S2x2x16x8192, .f32⟩
  | 124 => ⟨S2x2x80x8192, .f32⟩
  | 125 => ⟨S2x2x80x64x128, .f32⟩
  | 126 => ⟨S2x64x2x80x128, .f32⟩
  | 127 => ⟨S2x64x2x80x128, .bf16⟩
  | _ => ⟨S2048, .i32⟩

abbrev hbmTy0_1 (i : Nat) : BufTy := match i % 128 with
  | 0 => ⟨S2x32x8192, .f32⟩
  | 1 => ⟨S2x32x8192, .f32⟩
  | 2 => ⟨S_, .f32⟩
  | 3 => ⟨S2x32x8192, .f32⟩
  | 4 => ⟨S2x32x8192, .f32⟩
  | 5 => ⟨S_, .f32⟩
  | 6 => ⟨S2x32x8192, .f32⟩
  | 7 => ⟨S2x32x8192, .f32⟩
  | 8 => ⟨S128x32x64x2x2x64, .f32⟩
  | 9 => ⟨S64x2x1x64, .f32⟩
  | 10 => ⟨S1x1x64x2x1x64, .f32⟩
  | 11 => ⟨S128x32x64x2x2x64, .f32⟩
  | 12 => ⟨S128x32x64x2x2x64, .f32⟩
  | 13 => ⟨S2x64x128x32x2, .f32⟩
  | 14 => ⟨S128x32x2x2x64, .f32⟩
  | 15 => ⟨S4096x256, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_3 : Ref sig .tc := ⟨.hbm, 75, rfl⟩
abbrev main_cst_4 : Ref sig .tc := ⟨.hbm, 76, rfl⟩
abbrev main_call1_v0 : Ref sig .tc := ⟨.hbm, 77, rfl⟩
abbrev main_call1_v1 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_5 : Ref sig .tc := ⟨.hbm, 84, rfl⟩
abbrev main_v49 : Ref sig .tc := ⟨.hbm, 85, rfl⟩
abbrev main_v50 : Ref sig .tc := ⟨.hbm, 86, rfl⟩
abbrev main_c_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_7 : Ref sig .tc := ⟨.hbm, 96, rfl⟩
abbrev main_call2_v0 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_8 : Ref sig .tc := ⟨.hbm, 101, rfl⟩
abbrev main_call3_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_12 : Ref sig .tc := ⟨.hbm, 130, rfl⟩
abbrev main_v86 : Ref sig .tc := ⟨.hbm, 131, rfl⟩
abbrev main_v87 : Ref sig .tc := ⟨.hbm, 132, rfl⟩
abbrev main_cst_13 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]
-- ==== Smlp.lean ====
abbrev S128x1024 : Shape := ⟨2, ![128, 1024]⟩
abbrev S1x128x1024 : Shape := ⟨3, ![1, 128, 1024]⟩
abbrev S1x1024 : Shape := ⟨2, ![1, 1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S128x1024, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SmlpRefIdeal.lean ====
abbrev S128x1024 : Shape := ⟨2, ![128, 1024]⟩
abbrev S1x128x1024 : Shape := ⟨3, ![1, 128, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x4096 : Shape := ⟨2, ![128, 4096]⟩

abbrev nBuf : Space → Nat
  | .hbm => 60
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S128x1024, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x1024, .f32⟩
  | .hbm, ⟨26, _⟩ => ⟨S128x1024, .f32⟩
  | .hbm, ⟨27, _⟩ => ⟨S1x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x4096, .f32⟩
  | .hbm, ⟨36, _⟩ => ⟨S_, .f32⟩
  | .hbm, ⟨37, _⟩ => ⟨S128x4096, .f32⟩
  | .hbm, ⟨38, _⟩ => ⟨S128x4096, .f32⟩
  | .hbm, ⟨39, _⟩ => ⟨S128x4096, .f32⟩
  | .hbm, ⟨40, _⟩ => ⟨S128x1024, .f32⟩
  | .hbm, ⟨41, _⟩ => ⟨S1024, .f32⟩
  | .hbm, ⟨42, _⟩ => ⟨S128x1024, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x1024, .f32⟩
  | .hbm, ⟨54, _⟩ => ⟨S128x1024, .f32⟩
  | .hbm, ⟨55, _⟩ => ⟨S1x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Smerge.lean ====
abbrev S128x1024 : Shape := ⟨2, ![128, 1024]⟩
abbrev S1x128x1024 : Shape := ⟨3, ![1, 128, 1024]⟩
abbrev S1x1024 : Shape := ⟨2, ![1, 1024]⟩
abbrev S128x512 : Shape := ⟨2, ![128, 512]⟩
abbrev S2048x1024 : Shape := ⟨2, ![2048, 1024]⟩
abbrev S512x1024 : Shape := ⟨2, ![512, 1024]⟩
abbrev S1024x1024 : Shape := ⟨2, ![1024, 1024]⟩
abbrev S128 : Shape := ⟨1, ![128]⟩
abbrev S128x1 : Shape := ⟨2, ![128, 1]⟩
abbrev S128x2048 : Shape := ⟨2, ![128, 2048]⟩

abbrev nBuf : Space → Nat
  | .hbm => 13
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x1024, .f32⟩
  | .hbm, ⟨5, _⟩ => ⟨S1x1024, .f32⟩
  | .hbm, ⟨6, _⟩ => ⟨S128x512, .bf16⟩
  | .hbm, ⟨7, _⟩ => ⟨S128x512, .bf16⟩
  | .hbm, ⟨8, _⟩ => ⟨S2048x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S128x1024, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024, .f32⟩
  | .local _ .vmem, ⟨5, _⟩ => ⟨S1x1024, .f32⟩
  | .local _ .vmem, ⟨6, _⟩ => ⟨S128x512, .bf16⟩
  | .local _ .vmem, ⟨7, _⟩ => ⟨S128x512, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SmergeRefIdeal.lean ====
abbrev S128x1024 : Shape := ⟨2, ![128, 1024]⟩
abbrev S1x128x1024 : Shape := ⟨3, ![1, 128, 1024]⟩
abbrev S1x1024 : Shape := ⟨2, ![1, 1024]⟩
abbrev S128x512 : Shape := ⟨2, ![128, 512]⟩
abbrev S2048x1024 : Shape := ⟨2, ![2048, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x2048 : Shape := ⟨2, ![128, 2048]⟩

abbrev nBuf : Space → Nat
  | .hbm => 79
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x1024, .f32⟩
  | .hbm, ⟨5, _⟩ => ⟨S1x1024, .f32⟩
  | .hbm, ⟨6, _⟩ => ⟨S128x512, .bf16⟩
  | .hbm, ⟨7, _⟩ => ⟨S128x512, .bf16⟩
  | .hbm, ⟨8, _⟩ => ⟨S2048x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x512, .f32⟩
  | .hbm, ⟨16, _⟩ => ⟨S128x512, .f32⟩
  | .hbm, ⟨17, _⟩ => ⟨S2048x1024, .f32⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1024, .f32⟩
  | .hbm, ⟨34, _⟩ => ⟨S128x1024, .f32⟩
  | .hbm, ⟨35, _⟩ => ⟨S1x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S1024, .f32⟩
  | .hbm, ⟨61, _⟩ => ⟨S128x1024, .f32⟩
  | .hbm, ⟨62, _⟩ => ⟨S_, .f32⟩
  | .hbm, ⟨63, _⟩ => ⟨S128, .f32⟩
  | .hbm, ⟨64, _⟩ => ⟨S128x1, .f32⟩
  | .hbm, ⟨65, _⟩ => ⟨S_, .f32⟩
  | .hbm, ⟨66, _⟩ => ⟨S128x1, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S128x1, .f32⟩
  | .hbm, ⟨72, _⟩ => ⟨S128x1024, .f32⟩
  | .hbm, ⟨73, _⟩ => ⟨S128x1024, .f32⟩
  | .hbm, ⟨74, _⟩ => ⟨S1x1024, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Ada.lean ====
abbrev S136x1024 : Shape := ⟨2, ![136, 1024]⟩
abbrev S1024x6144 : Shape := ⟨2, ![1024, 6144]⟩
abbrev S1x6144 : Shape := ⟨2, ![1, 6144]⟩
abbrev S136x6144 : Shape := ⟨2, ![136, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S1x6144, .f32⟩
  | .hbm, ⟨3, _⟩ => ⟨S136x6144, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S136x1024 : Shape := ⟨2, ![136, 1024]⟩
abbrev S1024x6144 : Shape := ⟨2, ![1024, 6144]⟩
abbrev S1x6144 : Shape := ⟨2, ![1, 6144]⟩
abbrev S_ : Shape := ⟨0, ![]⟩
abbrev S136x6144 : Shape := ⟨2, ![136, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S1x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S136x6144, .f32⟩
  | .hbm, ⟨13, _⟩ => ⟨S6144, .f32⟩
  | .hbm, ⟨14, _⟩ => ⟨S1x6144, .f32⟩
  | .hbm, ⟨15, _⟩ => ⟨S136x6144, .f32⟩
  | .hbm, ⟨16, _⟩ => ⟨S136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Spec.lean ====
/- The layer's mathematics row by row, over the extended reals: what both programs of a claim are shown to compute. -/
module

public import Idealize.ShloMosaic.Lib.Pointwise

@[expose] public section

noncomputable section

open Idealize.ShloMosaic

namespace Cert.Spec

/-- A row divided by its root mean square (1149239296 is the pattern of 1024, 897988541 the one of 1e-6). -/
def nrm (v : Fin 1024 → EReal) (j : Fin 1024) : EReal :=
  v j * Ideal.rsqrt (Ideal.div (∑ k, v k * v k) (Ideal.ofBits .f32 1149239296#32) + Ideal.ofBits .f32 897988541#32)

/-- The normalized row, scaled and shifted by the sequence's modulation. -/
def modRow (v g sc sh : Fin 1024 → EReal) (j : Fin 1024) : EReal := nrm v j * g j * (1 + sc j) + sh j

/-- One hidden feature: the squared rectified projection. -/
def hid (h : Fin 1024 → EReal) (w : Fin 1024 → EReal) : EReal := max (∑ i, h i * w i) 0 * max (∑ i, h i * w i) 0

/-- The two products of the feed-forward sub-layer over the whole hidden width. -/
def ffn (h : Fin 1024 → EReal) (w1 : Fin 1024 → Fin 4096 → EReal) (w2 : Fin 4096 → Fin 1024 → EReal) (j : Fin 1024) : EReal :=
  ∑ k, hid h (fun i => w1 i k) * w2 k j

/-- The feed-forward sub-layer on one row. -/
def mlpRow (x sh sc gt g1 g2 : Fin 1024 → EReal) (w1 : Fin 1024 → Fin 4096 → EReal) (w2 : Fin 4096 → Fin 1024 → EReal)
    (j : Fin 1024) : EReal :=
  x j + gt j * (nrm (ffn (modRow x g1 sc sh) w1 w2) j * g2 j)

/-- The sub-layer's result on the array of rows: row `r` belongs to sequence `r / 8192`. -/
def mlpOut (x : Vec Ideal ⟨2, ![16384, 1024]⟩ .f32) (sh sc gt : Vec Ideal ⟨3, ![2, 1, 1024]⟩ .f32) (g1 g2 : Vec Ideal ⟨2, ![1, 1024]⟩ .f32)
    (w1 : Vec Ideal ⟨2, ![1024, 4096]⟩ .bf16) (w2 : Vec Ideal ⟨2, ![4096, 1024]⟩ .bf16) (r : Fin 16384) (j : Fin 1024) : EReal :=
  mlpRow (fun k => x (ix2 r k)) (fun k => sh (ix3 ⟨r.val / 8192, by omega⟩ 0 k)) (fun k => sc (ix3 ⟨r.val / 8192, by omega⟩ 0 k))
    (fun k => gt (ix3 ⟨r.val / 8192, by omega⟩ 0 k)) (fun k => g1 (ix2 0 k)) (fun k => g2 (ix2 0 k))
    (fun a b => w1 (ix2 a b)) (fun a b => w2 (ix2 a b)) j

/-- A sum over the hidden width is the sum of its four quarters, added to zero in order. -/
theorem sum_quarters (f : Fin 4096 → EReal) :
    (((0 + ∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ = ∑ k, f k := by
  have e := Fin.sum_univ_add (a := 1024 + 1024 + 1024) (b := 1024) f
  rw [Fin.sum_univ_add (a := 1024 + 1024) (b := 1024), Fin.sum_univ_add (a := 1024) (b := 1024)] at e
  rw [zero_add]
  exact e.symm

/-- The logistic function of an extended real. -/
def sgm (z : EReal) : EReal := Ideal.div 1 (1 + Ideal.exp (-z))

/-- The two mixers' rows, raised to the model width and weighted by the two halves of the merge gate. -/
def mix (h : Fin 1024 → EReal) (on op : Fin 512 → EReal) (wg : Fin 2048 → Fin 1024 → EReal) (un up : Fin 512 → Fin 1024 → EReal)
    (j : Fin 1024) : EReal :=
  sgm (∑ k, h k * wg ⟨j.val, by omega⟩ k) * (∑ k, on k * un k j) + sgm (∑ k, h k * wg ⟨1024 + j.val, by omega⟩ k) * (∑ k, op k * up k j)

/-- The merge of the two mixers on one row: the mixed row through the output weight, normalized, gated and added to the row. -/
def mergeRow (x sh sc gt g1 g2 : Fin 1024 → EReal) (on op : Fin 512 → EReal) (wg : Fin 2048 → Fin 1024 → EReal)
    (un up : Fin 512 → Fin 1024 → EReal) (wo : Fin 1024 → Fin 1024 → EReal) (j : Fin 1024) : EReal :=
  x j + gt j * (nrm (fun e => ∑ k, mix (modRow x g1 sc sh) on op wg un up k * wo k e) j * g2 j)

/-- The merge on the array of rows: row `r` belongs to sequence `r / 8192`. -/
def mergeOut (x : Vec Ideal ⟨2, ![16384, 1024]⟩ .f32) (sh sc gt : Vec Ideal ⟨3, ![2, 1, 1024]⟩ .f32) (g1 g2 : Vec Ideal ⟨2, ![1, 1024]⟩ .f32)
    (on op : Vec Ideal ⟨2, ![16384, 512]⟩ .bf16) (wg : Vec Ideal ⟨2, ![2048, 1024]⟩ .bf16) (un up : Vec Ideal ⟨2, ![512, 1024]⟩ .bf16)
    (wo : Vec Ideal ⟨2, ![1024, 1024]⟩ .bf16) (r : Fin 16384) (j : Fin 1024) : EReal :=
  mergeRow (fun k => x (ix2 r k)) (fun k => sh (ix3 ⟨r.val / 8192, by omega⟩ 0 k)) (fun k => sc (ix3 ⟨r.val / 8192, by omega⟩ 0 k))
    (fun k => gt (ix3 ⟨r.val / 8192, by omega⟩ 0 k)) (fun k => g1 (ix2 0 k)) (fun k => g2 (ix2 0 k)) (fun k => on (ix2 r k)) (fun k => op (ix2 r k))
    (fun a b => wg (ix2 a b)) (fun a b => un (ix2 a b)) (fun a b => up (ix2 a b)) (fun a b => wo (ix2 a b)) j

end Cert.Spec

end
-- ==== Proof.MlpVal.lean ====
module

public import proofs.«01_k».proof.Proof.Gen.MlpIdeal.Value
public import proofs.«01_k».proof.Proof.Spec
public import Idealize.ShloMosaic.Lib.Pointwise

@[expose] public section

set_option maxRecDepth 16384

noncomputable section
open Idealize.ShloMosaic Idealize.ShloMosaic.TcCoe Idealize.SL.Sem

namespace Cert.MlpIdeal.Hand
open Cert.MlpIdeal Cert.MlpIdeal.Gen Cert.Spec
open Idealize.ShloMosaic.Pipeline (Dat)

/-! ## The kernel's block, row by row -/

theorem hz2 : (![0, 0] : Fin 2 → Nat) = fun _ => 0 := funext fun a => by fin_cases a <;> rfl
theorem hz3 : (![0, 0, 0] : Fin 3 → Nat) = fun _ => 0 := funext fun a => by fin_cases a <;> rfl

theorem pay2_apply (v0 : Vec Ideal S512x1024 .f32) (v1 : Vec Ideal S1x1024 .f32) (v14 v20 : Vec Ideal S1x1x1024 .f32)
    (i : Fin 512) (j : Fin 1024) : k0_pay2 v0 v1 v14 v20 (ix2 i j)
      = modRow (fun k => v0 (ix2 i k)) (fun k => v1 (ix2 0 k)) (fun k => v14 (ix3 0 0 k)) (fun k => v20 (ix3 0 0 k)) j := by
  unfold k0_pay2
  dsimp only
  pointwise
  rfl

/-- The accumulator after the first quarter of the hidden width. -/
theorem pay3_apply (v0 : Vec Ideal S512x1024 .f32) (v1 : Vec Ideal S1x1024 .f32) (v14 v20 : Vec Ideal S1x1x1024 .f32)
    (v26 v32 : Vec Ideal S1024x1024 .bf16) (i : Fin 512) (j : Fin 1024) : k0_pay3 v0 v1 v14 v20 v26 v32 (ix2 i j)
      = ∑ k, hid (fun a => k0_pay2 v0 v1 v14 v20 (ix2 i a)) (fun a => v26 (ix2 a k)) * v32 (ix2 k j) := by
  unfold k0_pay3
  pointwise
  rfl

/-- The accumulator after all four quarters. -/
theorem pay4_apply (v24 : FVec Ideal S512x1024 .bf16) (v34 : FVec Ideal S512x1024 .f32) (v35 v41 v44 v50 v53 v59 : Vec Ideal S1024x1024 .bf16)
    (i : Fin 512) (j : Fin 1024) : k0_pay4 v24 v34 v35 v41 v44 v50 v53 v59 (ix2 i j)
      = v34 (ix2 i j) + (∑ k, hid (fun a => v24 (ix2 i a)) (fun a => v35 (ix2 a k)) * v41 (ix2 k j))
        + (∑ k, hid (fun a => v24 (ix2 i a)) (fun a => v44 (ix2 a k)) * v50 (ix2 k j))
        + (∑ k, hid (fun a => v24 (ix2 i a)) (fun a => v53 (ix2 a k)) * v59 (ix2 k j)) := by
  unfold k0_pay4
  pointwise
  rfl

theorem pay1_apply (v0 : Vec Ideal S512x1024 .f32) (v24 : FVec Ideal S512x1024 .bf16) (v34 : FVec Ideal S512x1024 .f32)
    (v35 v41 v44 v50 v53 v59 : Vec Ideal S1024x1024 .bf16) (v62 : FVec Ideal S1x1x1024 .f32) (v64 : Vec Ideal S1x1024 .f32)
    (i : Fin 512) (j : Fin 1024) :
    k0_pay1 v0 (k0_pay4 v24 v34 v35 v41 v44 v50 v53 v59) (k0_pay5 v62) v64 (k0_pay6 v24 v34 v35 v41 v44 v50 v53 v59) k0_pay7 (ix2 i j)
      = v0 (ix2 i j) + v62 (ix3 0 0 j) * (nrm (fun k => k0_pay4 v24 v34 v35 v41 v44 v50 v53 v59 (ix2 i k)) j * v64 (ix2 0 j)) := by
  unfold k0_pay1 k0_pay6 k0_pay7 k0_pay5
  dsimp only
  pointwise
  rfl

/-- The four quarters loaded from the weights add up to the whole feed-forward product. -/
theorem acc_eq (x0 : Vec Ideal S512x1024 .f32) (x4 : Vec Ideal S1x1024 .f32) (x2 x1 : Vec Ideal S1x1x1024 .f32)
    (x6 : Vec Ideal S1024x4096 .bf16) (x7 : Vec Ideal S4096x1024 .bf16) (i : Fin 512) (j : Fin 1024) :
    k0_pay4 (k0_pay2 x0 x4 x2 x1) (k0_pay3 x0 x4 x2 x1 (View.ld x6 r0_3) (View.ld x7 r0_4)) (View.ld x6 r0_5)
      (View.ld x7 r0_6) (View.ld x6 r0_7) (View.ld x7 r0_8) (View.ld x6 r0_9) (View.ld x7 r0_10) (ix2 i j)
      = ffn (modRow (fun k => x0 (ix2 i k)) (fun k => x4 (ix2 0 k)) (fun k => x2 (ix3 0 0 k)) (fun k => x1 (ix3 0 0 k)))
        (fun a b => x6 (ix2 a b)) (fun a b => x7 (ix2 a b)) j := by
  rw [pay4_apply, pay3_apply]
  simp only [pay2_apply]
  rw [ffn, ← sum_quarters, zero_add]
  have h (o : Nat) (ho : ∀ k : Fin 1024, o + k.val < 4096) (inb inb') (k j : Fin 1024) (w : Fin 1024 → EReal) :
      hid w (fun a => View.ld x6 (Rect.unit (s := S1024x4096) ![0, o] S1024x1024.size inb) (ix2 a k))
        * View.ld x7 (Rect.unit (s := S4096x1024) ![o, 0] S1024x1024.size inb') (ix2 k j)
      = hid w (fun a => x6 (ix2 a ⟨o + k.val, ho k⟩)) * x7 (ix2 ⟨o + k.val, ho k⟩ j) := by
    have e6 (a : Fin 1024) : View.ld x6 (Rect.unit (s := S1024x4096) ![0, o] S1024x1024.size inb) (ix2 a k) = x6 (ix2 a ⟨o + k.val, ho k⟩) := by
      show x6 _ = _
      refine congrArg x6 (funext fun q => Fin.ext ?_)
      match q with
      | ⟨0, _⟩ => show 0 + 1 * a.val = a.val; omega
      | ⟨1, _⟩ => show o + 1 * k.val = o + k.val; omega
    have e7 : View.ld x7 (Rect.unit (s := S4096x1024) ![o, 0] S1024x1024.size inb') (ix2 k j) = x7 (ix2 ⟨o + k.val, ho k⟩ j) := by
      show x7 _ = _
      refine congrArg x7 (funext fun q => Fin.ext ?_)
      match q with
      | ⟨0, _⟩ => show o + 1 * k.val = o + k.val; omega
      | ⟨1, _⟩ => show 0 + 1 * j.val = j.val; omega
    simp only [e6, e7]
  have h0 := h 0 (fun k => by omega)
  simp only [Nat.zero_add] at h0
  simp only [h0, h 1024 (fun k => by omega), h 2048 (fun k => by omega), h 3072 (fun k => by omega)]

/-- What the body leaves in its output block: the feed-forward sub-layer on each row of the block. -/
theorem out_apply (x0 : Vec Ideal S512x1024 .f32) (x1 x2 x3 : Vec Ideal S1x1x1024 .f32) (x4 x5 : Vec Ideal S1x1024 .f32)
    (x6 : Vec Ideal S1024x4096 .bf16) (x7 : Vec Ideal S4096x1024 .bf16) (i : Fin 512) (j : Fin 1024) :
    out0_8 x0 x1 x2 x3 x4 x5 x6 x7 (ix2 i j) = mlpRow (fun k => x0 (ix2 i k)) (fun k => x1 (ix3 0 0 k)) (fun k => x2 (ix3 0 0 k))
      (fun k => x3 (ix3 0 0 k)) (fun k => x4 (ix2 0 k)) (fun k => x5 (ix2 0 k)) (fun a b => x6 (ix2 a b)) (fun a b => x7 (ix2 a b)) j := by
  unfold_out out0_8
  rw [View.canon_unit_zero hz2]
  simp only [View.ld_unit_zero (S := S512x1024) hz2, View.ld_unit_zero (S := S1x1024) hz2, View.ld_unit_zero (S := S1x1x1024) hz3]
  rw [pay1_apply]
  simp only [acc_eq]
  rfl

/-! ## The blocks of the arrays -/

variable (m : (ℓ : Loc nD τ sig) → Buf (Elt Ideal) ℓ) (ρ : Dev nD → PrngReg)

/-- Every window's block index at every grid point. -/
theorem idx : ∀ t : Fin grid0.N, win0_0.index t = ![t.val, 0] ∧ win0_1.index t = ![t.val / 16, 0, 0]
    ∧ win0_2.index t = ![t.val / 16, 0, 0] ∧ win0_3.index t = ![t.val / 16, 0, 0] ∧ win0_4.index t = ![0, 0]
    ∧ win0_5.index t = ![0, 0] ∧ win0_6.index t = ![0, 0] ∧ win0_7.index t = ![0, 0] ∧ win0_8.index t = ![t.val, 0] := by
  decide +kernel

theorem lt32 (t : Fin cfg0.N) : t.val < 32 := by have := t.isLt; have hN : cfg0.N = 32 := N_0; omega

/-- The array row under row `i` of block `t`. -/
abbrev row (t : Fin cfg0.N) (i : Fin 512) : Fin 16384 := ⟨t.val * 512 + i.val, by have := lt32 t; omega⟩
/-- The sequence block `t` belongs to. -/
abbrev bat (t : Fin cfg0.N) : Fin 2 := ⟨t.val / 16, by have := lt32 t; omega⟩

theorem blk0 (c : Dev nD) (t : Fin cfg0.N) (i : Fin 512) (j : Fin 1024) :
    (iblk m c 0 t : Vec Ideal S512x1024 .f32) (ix2 i j) = (m ((c : Thread nD τ).loc main_arg0) : Vec Ideal S16384x1024 .f32) (ix2 (row t i) j) := by
  unfold iblk
  rw [View.read_apply]
  refine congrArg (m (c.tc.loc main_arg0)) (funext fun a => Fin.ext ?_)
  have h := (idx t).1
  match a with
  | ⟨0, _⟩ => show win0_0.index t 0 * 512 + 1 * i.val = t.val * 512 + i.val; rw [h]; simp
  | ⟨1, _⟩ => show win0_0.index t 1 * 1024 + 1 * j.val = j.val; rw [h]; simp

theorem blk1 (c : Dev nD) (t : Fin cfg0.N) (j : Fin 1024) :
    (iblk m c 1 t : Vec Ideal S1x1x1024 .f32) (ix3 0 0 j) = (m ((c : Thread nD τ).loc main_arg1) : Vec Ideal S2x1x1024 .f32) (ix3 (bat t) 0 j) := by
  unfold iblk
  rw [View.read_apply]
  refine congrArg (m (c.tc.loc main_arg1)) (funext fun a => Fin.ext ?_)
  have h := (idx t).2.1
  match a with
  | ⟨0, _⟩ => show win0_1.index t 0 * 1 + 1 * 0 = t.val / 16; rw [h]; simp
  | ⟨1, _⟩ => show win0_1.index t 1 * 1 + 1 * 0 = 0; rw [h]; simp
  | ⟨2, _⟩ => show win0_1.index t 2 * 1024 + 1 * j.val = j.val; rw [h]; simp

theorem blk2 (c : Dev nD) (t : Fin cfg0.N) (j : Fin 1024) :
    (iblk m c 2 t : Vec Ideal S1x1x1024 .f32) (ix3 0 0 j) = (m ((c : Thread nD τ).loc main_arg2) : Vec Ideal S2x1x1024 .f32) (ix3 (bat t) 0 j) := by
  unfold iblk
  rw [View.read_apply]
  refine congrArg (m (c.tc.loc main_arg2)) (funext fun a => Fin.ext ?_)
  have h := (idx t).2.2.1
  match a with
  | ⟨0, _⟩ => show win0_2.index t 0 * 1 + 1 * 0 = t.val / 16; rw [h]; simp
  | ⟨1, _⟩ => show win0_2.index t 1 * 1 + 1 * 0 = 0; rw [h]; simp
  | ⟨2, _⟩ => show win0_2.index t 2 * 1024 + 1 * j.val = j.val; rw [h]; simp

theorem blk3 (c : Dev nD) (t : Fin cfg0.N) (j : Fin 1024) :
    (iblk m c 3 t : Vec Ideal S1x1x1024 .f32) (ix3 0 0 j) = (m ((c : Thread nD τ).loc main_arg3) : Vec Ideal S2x1x1024 .f32) (ix3 (bat t) 0 j) := by
  unfold iblk
  rw [View.read_apply]
  refine congrArg (m (c.tc.loc main_arg3)) (funext fun a => Fin.ext ?_)
  have h := (idx t).2.2.2.1
  match a with
  | ⟨0, _⟩ => show win0_3.index t 0 * 1 + 1 * 0 = t.val / 16; rw [h]; simp
  | ⟨1, _⟩ => show win0_3.index t 1 * 1 + 1 * 0 = 0; rw [h]; simp
  | ⟨2, _⟩ => show win0_3.index t 2 * 1024 + 1 * j.val = j.val; rw [h]; simp

theorem blk4 (c : Dev nD) (t : Fin cfg0.N) : (iblk m c 4 t : Vec Ideal S1x1024 .f32) = m ((c : Thread nD τ).loc main_arg4) := by
  funext x
  unfold iblk
  rw [View.read_apply]
  refine congrArg (m (c.tc.loc main_arg4)) (funext fun a => Fin.ext ?_)
  have h := (idx t).2.2.2.2.1
  match a with
  | ⟨0, _⟩ => show win0_4.index t 0 * 1 + 1 * (x 0).val = (x 0).val; rw [h]; simp
  | ⟨1, _⟩ => show win0_4.index t 1 * 1024 + 1 * (x 1).val = (x 1).val; rw [h]; simp

theorem blk5 (c : Dev nD) (t : Fin cfg0.N) : (iblk m c 5 t : Vec Ideal S1x1024 .f32) = m ((c : Thread nD τ).loc main_arg5) := by
  funext x
  unfold iblk
  rw [View.read_apply]
  refine congrArg (m (c.tc.loc main_arg5)) (funext fun a => Fin.ext ?_)
  have h := (idx t).2.2.2.2.2.1
  match a with
  | ⟨0, _⟩ => show win0_5.index t 0 * 1 + 1 * (x 0).val = (x 0).val; rw [h]; simp
  | ⟨1, _⟩ => show win0_5.index t 1 * 1024 + 1 * (x 1).val = (x 1).val; rw [h]; simp

theorem blk6 (c : Dev nD) (t : Fin cfg0.N) : (iblk m c 6 t : Vec Ideal S1024x4096 .bf16) = m ((c : Thread nD τ).loc main_arg6) := by
  funext x
  unfold iblk
  rw [View.read_apply]
  refine congrArg (m (c.tc.loc main_arg6)) (funext fun a => Fin.ext ?_)
  have h := (idx t).2.2.2.2.2.2.1
  match a with
  | ⟨0, _⟩ => show win0_6.index t 0 * 1024 + 1 * (x 0).val = (x 0).val; rw [h]; simp
  | ⟨1, _⟩ => show win0_6.index t 1 * 4096 + 1 * (x 1).val = (x 1).val; rw [h]; simp

theorem blk7 (c : Dev nD) (t : Fin cfg0.N) : (iblk m c 7 t : Vec Ideal S4096x1024 .bf16) = m ((c : Thread nD τ).loc main_arg7) := by
  funext x
  unfold iblk
  rw [View.read_apply]
  refine congrArg (m (c.tc.loc main_arg7)) (funext fun a => Fin.ext ?_)
  have h := (idx t).2.2.2.2.2.2.2.1
  match a with
  | ⟨0, _⟩ => show win0_7.index t 0 * 4096 + 1 * (x 0).val = (x 0).val; rw [h]; simp
  | ⟨1, _⟩ => show win0_7.index t 1 * 1024 + 1 * (x 1).val = (x 1).val; rw [h]; simp

/-- The result array: the feed-forward sub-layer on each row, with its sequence's modulation. -/
abbrev G (c : Dev nD) : Buf (Elt Ideal) ((c : Thread nD τ).loc main_v0) := fun x : S16384x1024.Idx =>
  mlpOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (x 0) (x 1)

theorem flushed_eq (c : Dev nD) (t : Fin cfg0.N) :
    (dats m 0 c).flushed 8 t = ((cfg0.win 8).blk t).view.read (Elt Ideal) (G m c) := by
  rw [Value.flushed8]
  funext x
  obtain ⟨i, j, rfl⟩ : ∃ (i : Fin 512) (j : Fin 1024), x = ix2 i j := ⟨x 0, x 1, eq_ix2 x⟩
  rw [View.read_apply]
  refine (out_apply _ _ _ _ _ _ _ _ i j).trans ?_
  simp only [blk0, blk1, blk2, blk3, blk4, blk5, blk6, blk7]
  have h := (idx t).2.2.2.2.2.2.2.2
  have hb : bat t = ⟨(row t i).val / 8192, by have := (row t i).isLt; omega⟩ := by
    apply Fin.ext
    show t.val / 16 = (t.val * 512 + i.val) / 8192
    omega
  rw [hb]
  show G m c (ix2 (row t i) j) = _
  refine congrArg (G m c) (funext fun a => Fin.ext ?_)
  match a with
  | ⟨0, _⟩ => show t.val * 512 + i.val = win0_8.index t 0 * 512 + 1 * i.val; rw [h]; simp
  | ⟨1, _⟩ => show j.val = win0_8.index t 1 * 1024 + 1 * j.val; rw [h]; simp

theorem cover (x : S16384x1024.Idx) : ∃ t : Fin cfg0.N, (cfg0.win 8).flush t = true ∧ x ∈ ((cfg0.win 8).blk t).view.set := by
  have h0 : (x 0).val < 16384 := (x 0).isLt
  have h1 : (x 1).val < 1024 := (x 1).isLt
  have hN : cfg0.N = 32 := N_0
  obtain ⟨t, ht⟩ : ∃ t : Fin cfg0.N, t.val = (x 0).val / 512 := ⟨⟨(x 0).val / 512, by omega⟩, rfl⟩
  refine ⟨t, flush0_8 _, ?_⟩
  show x ∈ ((View.whole main_v0).slice (win0_8.rect t)).set
  rw [View.set_slice_whole, Rect.mem_set_unit]
  have h := (idx t).2.2.2.2.2.2.2.2
  intro a
  match a with
  | ⟨0, _⟩ => show win0_8.index t 0 * 512 ≤ (x 0).val ∧ (x 0).val < win0_8.index t 0 * 512 + 512; rw [h]; simp; omega
  | ⟨1, _⟩ => show win0_8.index t 1 * 1024 ≤ (x 1).val ∧ (x 1).val < win0_8.index t 1 * 1024 + 1024; rw [h]; simp; omega

theorem final (c : Dev nD) : (dats m 0 c).arrAt 8 cfg0.N = G m c :=
  (dats m 0 c).arrAt_eq_of_cover 8 (G m c) (fun t _ => flushed_eq m c t) cover

end Cert.MlpIdeal.Hand

end
-- ==== Proof.MlpRefVal.lean ====
module

public import proofs.«01_k».proof.Proof.Gen.MlpRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

namespace Cert.MlpRefIdeal.Hand
open Cert.MlpRefIdeal Cert.MlpRefIdeal.Gen Cert.MlpRefIdeal.Value Cert.Spec

/-- The reference's `rms_norm` on the three-axis array. -/
def rms (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32)
      reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast _ g shapeCasts_S1x1024_S1024)))

theorem rms_apply (x : FVec Ideal S2x8192x1024 .f32) (g : FVec Ideal S1x1024 .f32) (b : Fin 2) (n : Fin 8192) (j : Fin 1024) :
    rms x g (ix3 b n j) = nrm (fun k => x (ix3 b n k)) j * g (ix2 0 j) := by
  unfold rms
  pointwise
  rfl

/-- The reference's two products around the squared rectifier. -/
def ff (h : FVec Ideal S2x8192x1024 .f32) (w1 : FVec Ideal S1024x4096 .bf16) (w2 : FVec Ideal S4096x1024 .bf16) : FVec Ideal S2x8192x1024 .f32 :=
  have a := maximumf (Host.dotGeneral dot_S2x8192x1024_S1024x4096_S2x8192x4096_2_0_01_1_n_n none h (extf .f32 w1 bitsLt_bf16_f32))
    (broadcastInDim S2x8192x4096 ![] bcast_S_S2x8192x4096 (constant S_ .f32 0x00000000#32))
  Host.dotGeneral dot_S2x8192x4096_S4096x1024_S2x8192x1024_2_0_01_1_n_n none (mulf a a) (extf .f32 w2 bitsLt_bf16_f32)

theorem ff_apply (h : FVec Ideal S2x8192x1024 .f32) (w1 : FVec Ideal S1024x4096 .bf16) (w2 : FVec Ideal S4096x1024 .bf16)
    (b : Fin 2) (n : Fin 8192) (j : Fin 1024) :
    ff h w1 w2 (ix3 b n j) = ffn (fun k => h (ix3 b n k)) (fun i k => w1 (ix2 i k)) (fun k i => w2 (ix2 k i)) j := by
  unfold ff
  pointwise
  rfl

/-- The reference's modulated normalization. -/
def hmod (x : FVec Ideal S2x8192x1024 .f32) (g : FVec Ideal S1x1024 .f32) (sc sh : FVec Ideal S2x1x1024 .f32) : FVec Ideal S2x8192x1024 .f32 :=
  addf (mulf (rms x g) (broadcastInDim S2x8192x1024 ![0, 1, 2] bcast_S2x1x1024_S2x8192x1024_0_1_2
    (addf (broadcastInDim S2x1x1024 ![] bcast_S_S2x1x1024 (constant S_ .f32 0x3F800000#32)) sc)))
    (broadcastInDim S2x8192x1024 ![0, 1, 2] bcast_S2x1x1024_S2x8192x1024_0_1_2 sh)

theorem hmod_apply (x : FVec Ideal S2x8192x1024 .f32) (g : FVec Ideal S1x1024 .f32) (sc sh : FVec Ideal S2x1x1024 .f32) (b : Fin 2) (n : Fin 8192) (j : Fin 1024) :
    hmod x g sc sh (ix3 b n j) = modRow (fun k => x (ix3 b n k)) (fun k => g (ix2 0 k)) (fun k => sc (ix3 b 0 k)) (fun k => sh (ix3 b 0 k)) j := by
  unfold hmod
  pointwise
  simp only [rms_apply]
  rfl

theorem res_eq (m : (ℓ : Loc nD τ sig) → Buf (Elt Ideal) ℓ) (c : Dev nD) :
    res_out0 m c = shapeCast _ (addf (shapeCast _ (m ((c.tc : Thread nD τ).loc main_arg0)) shapeCasts_S16384x1024_S2x8192x1024)
      (mulf (broadcastInDim S2x8192x1024 ![0, 1, 2] bcast_S2x1x1024_S2x8192x1024_0_1_2 (m ((c.tc : Thread nD τ).loc main_arg3)))
        (rms (ff (hmod (shapeCast _ (m ((c.tc : Thread nD τ).loc main_arg0)) shapeCasts_S16384x1024_S2x8192x1024)
          (m ((c.tc : Thread nD τ).loc main_arg4)) (m ((c.tc : Thread nD τ).loc main_arg2)) (m ((c.tc : Thread nD τ).loc main_arg1)))
          (m ((c.tc : Thread nD τ).loc main_arg6)) (m ((c.tc : Thread nD τ).loc main_arg7))) (m ((c.tc : Thread nD τ).loc main_arg5)))))
      shapeCasts_S2x8192x1024_S16384x1024 := rfl

theorem fin_apply (x : FVec Ideal S16384x1024 .f32) (sh sc gt : FVec Ideal S2x1x1024 .f32) (g1 g2 : FVec Ideal S1x1024 .f32)
    (w1 : FVec Ideal S1024x4096 .bf16) (w2 : FVec Ideal S4096x1024 .bf16) (r : Fin 16384) (j : Fin 1024) :
    shapeCast S16384x1024 (addf (shapeCast S2x8192x1024 x shapeCasts_S16384x1024_S2x8192x1024)
      (mulf (broadcastInDim S2x8192x1024 ![0, 1, 2] bcast_S2x1x1024_S2x8192x1024_0_1_2 gt)
        (rms (ff (hmod (shapeCast S2x8192x1024 x shapeCasts_S16384x1024_S2x8192x1024) g1 sc sh) w1 w2) g2)))
      shapeCasts_S2x8192x1024_S16384x1024 (ix2 r j) = mlpOut x sh sc gt g1 g2 w1 w2 r j := by
  pointwise
  simp only [rms_apply, ff_apply, hmod_apply]
  pointwise
  rfl

/-- The reference's result: the feed-forward sub-layer on each row, with its sequence's modulation. -/
theorem res_apply (m : (ℓ : Loc nD τ sig) → Buf (Elt Ideal) ℓ) (c : Dev nD) (r : Fin 16384) (j : Fin 1024) :
    res_out0 m c (ix2 r j) = mlpOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) r j :=
  (congrFun (res_eq m c) (ix2 r j)).trans (fin_apply _ _ _ _ _ _ _ _ r j)

end Cert.MlpRefIdeal.Hand

end
-- ==== Proof.MlpClaims.lean ====
/- The five claims about the feed-forward sub-layer. -/
module

public import proofs.«01_k».proof.Defs
public import proofs.«01_k».proof.Proof.Gen.Mlp.Frame
public import proofs.«01_k».proof.Proof.MlpVal
public import proofs.«01_k».proof.Proof.MlpRefVal
public import Idealize.ShloMosaic.Lib.Quiescent

@[expose] public section

noncomputable section

open Idealize.ShloMosaic Idealize.ShloMosaic.TcCoe Idealize.SL.Sem

namespace Cert.Proof.MlpClaims

theorem frame_p : Cert.quiescent_Mlp := fun m ρ _ => Cert.Mlp.Gen.frame m ρ
theorem frame_pi : Cert.quiescent_MlpIdeal := fun m ρ _ => Cert.MlpIdeal.Gen.frame m ρ
theorem frame_ri : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)
theorem preserves : Cert.preserves_Mlp_MlpIdeal := trivial

/-- Both programs end with the feed-forward sub-layer of the same arguments. -/
theorem algebraic : Cert.algebraic_MlpIdeal_MlpRefIdeal := fun m ρ m' ρ' _ hag =>
  ⟨fun c => Cert.MlpIdeal.Hand.G m c,
    (θ_run _ _ _).mono (fun _ h c => ⟨(h c).1.trans (Cert.MlpIdeal.Hand.final m c), (h c).2⟩) (Cert.MlpIdeal.Value.run_blocks m ρ),
    (θ_run _ _ _).mono (fun _ h c => ⟨(h c).1.trans (by
      funext x
      obtain ⟨r, j, rfl⟩ : ∃ (r : Fin 16384) (j : Fin 1024), x = ix2 r j := ⟨x 0, x 1, eq_ix2 x⟩
      refine (Cert.MlpRefIdeal.Hand.res_apply m' c r j).trans ?_
      obtain ⟨h0, h1, h2, h3, h4, h5, h6, h7⟩ := hag c
      rw [h0, h1, h2, h3, h4, h5, h6, h7]
      rfl), (h c).2⟩) (Cert.MlpRefIdeal.Value.run (F := Ideal) m' ρ')⟩

end Cert.Proof.MlpClaims

end
-- ==== Proof.MergeVal.lean ====
module

public import proofs.«01_k».proof.Proof.Gen.MergeIdeal.Value
public import proofs.«01_k».proof.Proof.Spec
public import Idealize.ShloMosaic.Lib.Pointwise

@[expose] public section

set_option maxRecDepth 16384

noncomputable section
open Idealize.ShloMosaic Idealize.ShloMosaic.TcCoe Idealize.SL.Sem

namespace Cert.MergeIdeal.Hand
open Cert.MergeIdeal Cert.MergeIdeal.Gen Cert.Spec
open Idealize.ShloMosaic.Pipeline (Dat)

/-! ## The kernel's block, row by row -/

theorem hz2 : (![0, 0] : Fin 2 → Nat) = fun _ => 0 := funext fun a => by fin_cases a <;> rfl
theorem hz3 : (![0, 0, 0] : Fin 3 → Nat) = fun _ => 0 := funext fun a => by fin_cases a <;> rfl

theorem pay2_apply (v0 : Vec Ideal S512x1024 .f32) (v1 : Vec Ideal S1x1024 .f32) (v14 v20 : Vec Ideal S1x1x1024 .f32)
    (v25 : Vec Ideal S2048x1024 .bf16) (i : Fin 512) (e : Fin 2048) : k0_pay2 v0 v1 v14 v20 v25 (ix2 i e)
      = sgm (∑ k, modRow (fun k => v0 (ix2 i k)) (fun k => v1 (ix2 0 k)) (fun k => v14 (ix3 0 0 k)) (fun k => v20 (ix3 0 0 k)) k * v25 (ix2 e k)) := by
  unfold k0_pay2
  dsimp only
  pointwise
  rfl

theorem pay3_apply (v0 : Vec Ideal S512x1024 .f32) (v1 : Vec Ideal S1x1024 .f32) (v14 v20 : Vec Ideal S1x1x1024 .f32)
    (v25 : Vec Ideal S2048x1024 .bf16) (v29 : Vec Ideal S512x512 .bf16) (v30 : Vec Ideal S512x1024 .bf16) (i : Fin 512) (j : Fin 1024) :
    k0_pay3 v0 v1 v14 v20 v25 v29 v30 (ix2 i j)
      = k0_pay2 v0 v1 v14 v20 v25 (ix2 i ⟨j.val, by omega⟩) * (∑ k, v29 (ix2 i k) * v30 (ix2 k j)) := by
  unfold k0_pay3
  generalize k0_pay2 v0 v1 v14 v20 v25 = w
  pointwise
  try rfl

theorem pay4_apply (v0 : Vec Ideal S512x1024 .f32) (v1 : Vec Ideal S1x1024 .f32) (v14 v20 : Vec Ideal S1x1x1024 .f32)
    (v25 : Vec Ideal S2048x1024 .bf16) (i : Fin 512) (j : Fin 1024) :
    k0_pay4 v0 v1 v14 v20 v25 (ix2 i j) = k0_pay2 v0 v1 v14 v20 v25 (ix2 i ⟨1024 + j.val, by omega⟩) := by
  unfold k0_pay4
  generalize k0_pay2 v0 v1 v14 v20 v25 = w
  pointwise
  try rfl

theorem pay1_apply (v0 : Vec Ideal S512x1024 .f32) (v32 v33 : FVec Ideal S512x1024 .f32) (v34 : Vec Ideal S512x512 .bf16)
    (v35 : Vec Ideal S512x1024 .bf16) (v40 : Vec Ideal S1024x1024 .bf16) (v42 : Vec Ideal S1x1x1024 .f32) (v44 : Vec Ideal S1x1024 .f32)
    (i : Fin 512) (j : Fin 1024) :
    k0_pay1 v0 v32 v33 v34 v35 v40 v42 v44 (ix2 i j)
      = v0 (ix2 i j) + v42 (ix3 0 0 j) * (nrm (fun e => ∑ k, (v32 (ix2 i k) + v33 (ix2 i k) * (∑ q, v34 (ix2 i q) * v35 (ix2 q k))) * v40 (ix2 k e)) j
          * v44 (ix2 0 j)) := by
  unfold k0_pay1
  dsimp only
  pointwise
  rfl

/-- What the body leaves in its output block: the merge on each row of the block. -/
theorem out_apply (x0 : Vec Ideal S512x1024 .f32) (x1 x2 x3 : Vec Ideal S1x1x1024 .f32) (x4 x5 : Vec Ideal S1x1024 .f32)
    (x6 x7 : Vec Ideal S512x512 .bf16) (x8 : Vec Ideal S2048x1024 .bf16) (x9 x10 : Vec Ideal S512x1024 .bf16) (x11 : Vec Ideal S1024x1024 .bf16)
    (i : Fin 512) (j : Fin 1024) :
    out0_12 x0 x1 x2 x3 x4 x5 x6 x7 x8 x9 x10 x11 (ix2 i j) = mergeRow (fun k => x0 (ix2 i k)) (fun k => x1 (ix3 0 0 k)) (fun k => x2 (ix3 0 0 k))
      (fun k => x3 (ix3 0 0 k)) (fun k => x4 (ix2 0 k)) (fun k => x5 (ix2 0 k)) (fun k => x6 (ix2 i k)) (fun k => x7 (ix2 i k))
      (fun a b => x8 (ix2 a b)) (fun a b => x9 (ix2 a b)) (fun a b => x10 (ix2 a b)) (fun a b => x11 (ix2 a b)) j := by
  unfold out0_12
  rw [View.canon_unit_zero hz2]
  simp only [View.ld_unit_zero (S := S512x1024) hz2, View.ld_unit_zero (S := S1x1024) hz2, View.ld_unit_zero (S := S1x1x1024) hz3,
    View.ld_unit_zero (S := S2048x1024) hz2, View.ld_unit_zero (S := S512x512) hz2, View.ld_unit_zero (S := S1024x1024) hz2]
  rw [pay1_apply]
  simp only [pay3_apply, pay4_apply, pay2_apply]
  rfl

/-! ## The blocks of the arrays -/

variable (m : (ℓ : Loc nD τ sig) → Buf (Elt Ideal) ℓ) (ρ : Dev nD → PrngReg)

/-- Every window's block index at every grid point. -/
theorem idx : ∀ t : Fin grid0.N, win0_0.index t = ![t.val, 0] ∧ win0_1.index t = ![t.val / 16, 0, 0]
    ∧ win0_2.index t = ![t.val / 16, 0, 0] ∧ win0_3.index t = ![t.val / 16, 0, 0] ∧ win0_4.index t = ![0, 0]
    ∧ win0_5.index t = ![0, 0] ∧ win0_6.index t = ![t.val, 0] ∧ win0_7.index t = ![t.val, 0] ∧ win0_8.index t = ![0, 0]
    ∧ win0_9.index t = ![0, 0] ∧ win0_10.index t = ![0, 0] ∧ win0_11.index t = ![0, 0] ∧ win0_12.index t = ![t.val, 0] := by
  decide +kernel

theorem lt32 (t : Fin cfg0.N) : t.val < 32 := by have := t.isLt; have hN : cfg0.N = 32 := N_0; omega

/-- The array row under row `i` of block `t`. -/
abbrev row (t : Fin cfg0.N) (i : Fin 512) : Fin 16384 := ⟨t.val * 512 + i.val, by have := lt32 t; omega⟩
/-- The sequence block `t` belongs to. -/
abbrev bat (t : Fin cfg0.N) : Fin 2 := ⟨t.val / 16, by have := lt32 t; omega⟩

theorem blk0 (c : Dev nD) (t : Fin cfg0.N) (i : Fin 512) (j : Fin 1024) :
    (iblk m c 0 t : Vec Ideal S512x1024 .f32) (ix2 i j) = (m ((c : Thread nD τ).loc main_arg0) : Vec Ideal S16384x1024 .f32) (ix2 (row t i) j) := by
  unfold iblk
  rw [View.read_apply]
  refine congrArg (m (c.tc.loc main_arg0)) (funext fun a => Fin.ext ?_)
  have h := (idx t).1
  match a with
  | ⟨0, _⟩ => show win0_0.index t 0 * 512 + 1 * i.val = t.val * 512 + i.val; rw [h]; simp
  | ⟨1, _⟩ => show win0_0.index t 1 * 1024 + 1 * j.val = j.val; rw [h]; simp

theorem blk1 (c : Dev nD) (t : Fin cfg0.N) (j : Fin 1024) :
    (iblk m c 1 t : Vec Ideal S1x1x1024 .f32) (ix3 0 0 j) = (m ((c : Thread nD τ).loc main_arg1) : Vec Ideal S2x1x1024 .f32) (ix3 (bat t) 0 j) := by
  unfold iblk
  rw [View.read_apply]
  refine congrArg (m (c.tc.loc main_arg1)) (funext fun a => Fin.ext ?_)
  have h := (idx t).2.1
  match a with
  | ⟨0, _⟩ => show win0_1.index t 0 * 1 + 1 * 0 = t.val / 16; rw [h]; simp
  | ⟨1, _⟩ => show win0_1.index t 1 * 1 + 1 * 0 = 0; rw [h]; simp
  | ⟨2, _⟩ => show win0_1.index t 2 * 1024 + 1 * j.val = j.val; rw [h]; simp

theorem blk2 (c : Dev nD) (t : Fin cfg0.N) (j : Fin 1024) :
    (iblk m c 2 t : Vec Ideal S1x1x1024 .f32) (ix3 0 0 j) = (m ((c : Thread nD τ).loc main_arg2) : Vec Ideal S2x1x1024 .f32) (ix3 (bat t) 0 j) := by
  unfold iblk
  rw [View.read_apply]
  refine congrArg (m (c.tc.loc main_arg2)) (funext fun a => Fin.ext ?_)
  have h := (idx t).2.2.1
  match a with
  | ⟨0, _⟩ => show win0_2.index t 0 * 1 + 1 * 0 = t.val / 16; rw [h]; simp
  | ⟨1, _⟩ => show win0_2.index t 1 * 1 + 1 * 0 = 0; rw [h]; simp
  | ⟨2, _⟩ => show win0_2.index t 2 * 1024 + 1 * j.val = j.val; rw [h]; simp

theorem blk3 (c : Dev nD) (t : Fin cfg0.N) (j : Fin 1024) :
    (iblk m c 3 t : Vec Ideal S1x1x1024 .f32) (ix3 0 0 j) = (m ((c : Thread nD τ).loc main_arg3) : Vec Ideal S2x1x1024 .f32) (ix3 (bat t) 0 j) := by
  unfold iblk
  rw [View.read_apply]
  refine congrArg (m (c.tc.loc main_arg3)) (funext fun a => Fin.ext ?_)
  have h := (idx t).2.2.2.1
  match a with
  | ⟨0, _⟩ => show win0_3.index t 0 * 1 + 1 * 0 = t.val / 16; rw [h]; simp
  | ⟨1, _⟩ => show win0_3.index t 1 * 1 + 1 * 0 = 0; rw [h]; simp
  | ⟨2, _⟩ => show win0_3.index t 2 * 1024 + 1 * j.val = j.val; rw [h]; simp

theorem blk4 (c : Dev nD) (t : Fin cfg0.N) : (iblk m c 4 t : Vec Ideal S1x1024 .f32) = m ((c : Thread nD τ).loc main_arg4) := by
  funext x
  unfold iblk
  rw [View.read_apply]
  refine congrArg (m (c.tc.loc main_arg4)) (funext fun a => Fin.ext ?_)
  have h := (idx t).2.2.2.2.1
  match a with
  | ⟨0, _⟩ => show win0_4.index t 0 * 1 + 1 * (x 0).val = (x 0).val; rw [h]; simp
  | ⟨1, _⟩ => show win0_4.index t 1 * 1024 + 1 * (x 1).val = (x 1).val; rw [h]; simp

theorem blk5 (c : Dev nD) (t : Fin cfg0.N) : (iblk m c 5 t : Vec Ideal S1x1024 .f32) = m ((c : Thread nD τ).loc main_arg5) := by
  funext x
  unfold iblk
  rw [View.read_apply]
  refine congrArg (m (c.tc.loc main_arg5)) (funext fun a => Fin.ext ?_)
  have h := (idx t).2.2.2.2.2.1
  match a with
  | ⟨0, _⟩ => show win0_5.index t 0 * 1 + 1 * (x 0).val = (x 0).val; rw [h]; simp
  | ⟨1, _⟩ => show win0_5.index t 1 * 1024 + 1 * (x 1).val = (x 1).val; rw [h]; simp

theorem blk6 (c : Dev nD) (t : Fin cfg0.N) (i : Fin 512) (j : Fin 512) :
    (iblk m c 6 t : Vec Ideal S512x512 .bf16) (ix2 i j) = (m ((c : Thread nD τ).loc main_arg6) : Vec Ideal S16384x512 .bf16) (ix2 (row t i) j) := by
  unfold iblk
  rw [View.read_apply]
  refine congrArg (m (c.tc.loc main_arg6)) (funext fun a => Fin.ext ?_)
  have h := (idx t).2.2.2.2.2.2.1
  match a with
  | ⟨0, _⟩ => show win0_6.index t 0 * 512 + 1 * i.val = t.val * 512 + i.val; rw [h]; simp
  | ⟨1, _⟩ => show win0_6.index t 1 * 512 + 1 * j.val = j.val; rw [h]; simp

theorem blk7 (c : Dev nD) (t : Fin cfg0.N) (i : Fin 512) (j : Fin 512) :
    (iblk m c 7 t : Vec Ideal S512x512 .bf16) (ix2 i j) = (m ((c : Thread nD τ).loc main_arg7) : Vec Ideal S16384x512 .bf16) (ix2 (row t i) j) := by
  unfold iblk
  rw [View.read_apply]
  refine congrArg (m (c.tc.loc main_arg7)) (funext fun a => Fin.ext ?_)
  have h := (idx t).2.2.2.2.2.2.2.1
  match a with
  | ⟨0, _⟩ => show win0_7.index t 0 * 512 + 1 * i.val = t.val * 512 + i.val; rw [h]; simp
  | ⟨1, _⟩ => show win0_7.index t 1 * 512 + 1 * j.val = j.val; rw [h]; simp

theorem blk8 (c : Dev nD) (t : Fin cfg0.N) : (iblk m c 8 t : Vec Ideal S2048x1024 .bf16) = m ((c : Thread nD τ).loc main_arg8) := by
  funext x
  unfold iblk
  rw [View.read_apply]
  refine congrArg (m (c.tc.loc main_arg8)) (funext fun a => Fin.ext ?_)
  have h := (idx t).2.2.2.2.2.2.2.2.1
  match a with
  | ⟨0, _⟩ => show win0_8.index t 0 * 2048 + 1 * (x 0).val = (x 0).val; rw [h]; simp
  | ⟨1, _⟩ => show win0_8.index t 1 * 1024 + 1 * (x 1).val = (x 1).val; rw [h]; simp

theorem blk9 (c : Dev nD) (t : Fin cfg0.N) : (iblk m c 9 t : Vec Ideal S512x1024 .bf16) = m ((c : Thread nD τ).loc main_arg9) := by
  funext x
  unfold iblk
  rw [View.read_apply]
  refine congrArg (m (c.tc.loc main_arg9)) (funext fun a => Fin.ext ?_)
  have h := (idx t).2.2.2.2.2.2.2.2.2.1
  match a with
  | ⟨0, _⟩ => show win0_9.index t 0 * 512 + 1 * (x 0).val = (x 0).val; rw [h]; simp
  | ⟨1, _⟩ => show win0_9.index t 1 * 1024 + 1 * (x 1).val = (x 1).val; rw [h]; simp

theorem blk10 (c : Dev nD) (t : Fin cfg0.N) : (iblk m c 10 t : Vec Ideal S512x1024 .bf16) = m ((c : Thread nD τ).loc main_arg10) := by
  funext x
  unfold iblk
  rw [View.read_apply]
  refine congrArg (m (c.tc.loc main_arg10)) (funext fun a => Fin.ext ?_)
  have h := (idx t).2.2.2.2.2.2.2.2.2.2.1
  match a with
  | ⟨0, _⟩ => show win0_10.index t 0 * 512 + 1 * (x 0).val = (x 0).val; rw [h]; simp
  | ⟨1, _⟩ => show win0_10.index t 1 * 1024 + 1 * (x 1).val = (x 1).val; rw [h]; simp

theorem blk11 (c : Dev nD) (t : Fin cfg0.N) : (iblk m c 11 t : Vec Ideal S1024x1024 .bf16) = m ((c : Thread nD τ).loc main_arg11) := by
  funext x
  unfold iblk
  rw [View.read_apply]
  refine congrArg (m (c.tc.loc main_arg11)) (funext fun a => Fin.ext ?_)
  have h := (idx t).2.2.2.2.2.2.2.2.2.2.2.1
  match a with
  | ⟨0, _⟩ => show win0_11.index t 0 * 1024 + 1 * (x 0).val = (x 0).val; rw [h]; simp
  | ⟨1, _⟩ => show win0_11.index t 1 * 1024 + 1 * (x 1).val = (x 1).val; rw [h]; simp

/-- The result array: the merge on each row, with its sequence's modulation. -/
abbrev G (c : Dev nD) : Buf (Elt Ideal) ((c : Thread nD τ).loc main_v0) := fun x : S16384x1024.Idx =>
  mergeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x 0) (x 1)

theorem flushed_eq (c : Dev nD) (t : Fin cfg0.N) :
    (dats m 0 c).flushed 12 t = ((cfg0.win 12).blk t).view.read (Elt Ideal) (G m c) := by
  rw [Value.flushed12]
  funext x
  obtain ⟨i, j, rfl⟩ : ∃ (i : Fin 512) (j : Fin 1024), x = ix2 i j := ⟨x 0, x 1, eq_ix2 x⟩
  rw [View.read_apply]
  refine (out_apply _ _ _ _ _ _ _ _ _ _ _ _ i j).trans ?_
  simp only [blk0, blk1, blk2, blk3, blk4, blk5, blk6, blk7, blk8, blk9, blk10, blk11]
  have h := (idx t).2.2.2.2.2.2.2.2.2.2.2.2
  have hb : bat t = ⟨(row t i).val / 8192, by have := (row t i).isLt; omega⟩ := by
    apply Fin.ext
    show t.val / 16 = (t.val * 512 + i.val) / 8192
    omega
  rw [hb]
  show G m c (ix2 (row t i) j) = _
  refine congrArg (G m c) (funext fun a => Fin.ext ?_)
  match a with
  | ⟨0, _⟩ => show t.val * 512 + i.val = win0_12.index t 0 * 512 + 1 * i.val; rw [h]; simp
  | ⟨1, _⟩ => show j.val = win0_12.index t 1 * 1024 + 1 * j.val; rw [h]; simp

theorem cover (x : S16384x1024.Idx) : ∃ t : Fin cfg0.N, (cfg0.win 12).flush t = true ∧ x ∈ ((cfg0.win 12).blk t).view.set := by
  have h0 : (x 0).val < 16384 := (x 0).isLt
  have h1 : (x 1).val < 1024 := (x 1).isLt
  have hN : cfg0.N = 32 := N_0
  obtain ⟨t, ht⟩ : ∃ t : Fin cfg0.N, t.val = (x 0).val / 512 := ⟨⟨(x 0).val / 512, by omega⟩, rfl⟩
  refine ⟨t, flush0_12 _, ?_⟩
  show x ∈ ((View.whole main_v0).slice (win0_12.rect t)).set
  rw [View.set_slice_whole, Rect.mem_set_unit]
  have h := (idx t).2.2.2.2.2.2.2.2.2.2.2.2
  intro a
  match a with
  | ⟨0, _⟩ => show win0_12.index t 0 * 512 ≤ (x 0).val ∧ (x 0).val < win0_12.index t 0 * 512 + 512; rw [h]; simp; omega
  | ⟨1, _⟩ => show win0_12.index t 1 * 1024 ≤ (x 1).val ∧ (x 1).val < win0_12.index t 1 * 1024 + 1024; rw [h]; simp; omega

theorem final (c : Dev nD) : (dats m 0 c).arrAt 12 cfg0.N = G m c :=
  (dats m 0 c).arrAt_eq_of_cover 12 (G m c) (fun t _ => flushed_eq m c t) cover

end Cert.MergeIdeal.Hand

end
-- ==== Proof.MergeRefVal.lean ====
module

public import proofs.«01_k».proof.Proof.Gen.MergeRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

namespace Cert.MergeRefIdeal.Hand
open Cert.MergeRefIdeal Cert.MergeRefIdeal.Gen Cert.MergeRefIdeal.Value Cert.Spec

/-- The reference's `rms_norm` on the three-axis array. -/
def rms (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32)
      reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast _ g shapeCasts_S1x1024_S1024)))

theorem rms_apply (x : FVec Ideal S2x8192x1024 .f32) (g : FVec Ideal S1x1024 .f32) (b : Fin 2) (n : Fin 8192) (j : Fin 1024) :
    rms x g (ix3 b n j) = nrm (fun k => x (ix3 b n k)) j * g (ix2 0 j) := by
  unfold rms
  pointwise
  rfl

/-- The reference's modulated normalization. -/
def hmod (x : FVec Ideal S2x8192x1024 .f32) (g : FVec Ideal S1x1024 .f32) (sc sh : FVec Ideal S2x1x1024 .f32) : FVec Ideal S2x8192x1024 .f32 :=
  addf (mulf (rms x g) (broadcastInDim S2x8192x1024 ![0, 1, 2] bcast_S2x1x1024_S2x8192x1024_0_1_2
    (addf (broadcastInDim S2x1x1024 ![] bcast_S_S2x1x1024 (constant S_ .f32 0x3F800000#32)) sc)))
    (broadcastInDim S2x8192x1024 ![0, 1, 2] bcast_S2x1x1024_S2x8192x1024_0_1_2 sh)

theorem hmod_apply (x : FVec Ideal S2x8192x1024 .f32) (g : FVec Ideal S1x1024 .f32) (sc sh : FVec Ideal S2x1x1024 .f32) (b : Fin 2) (n : Fin 8192) (j : Fin 1024) :
    hmod x g sc sh (ix3 b n j) = modRow (fun k => x (ix3 b n k)) (fun k => g (ix2 0 k)) (fun k => sc (ix3 b 0 k)) (fun k => sh (ix3 b 0 k)) j := by
  unfold hmod
  pointwise
  simp only [rms_apply]
  rfl

/-- The merge gate. -/
def gateR (h : FVec Ideal S2x8192x1024 .f32) (w : FVec Ideal S2048x1024 .bf16) : FVec Ideal S2x8192x2048 .f32 :=
  Host.divf (broadcastInDim S2x8192x2048 ![] bcast_S_S2x8192x2048 (constant S_ .f32 0x3F800000#32))
    (addf (broadcastInDim S2x8192x2048 ![] bcast_S_S2x8192x2048 (constant S_ .f32 0x3F800000#32)) (Host.exp (Host.negf
      (Host.dotGeneral dot_S2x8192x1024_S2048x1024_S2x8192x2048_2_1_01_0_n_n none h (extf .f32 w bitsLt_bf16_f32)))))

theorem gateR_apply (h : FVec Ideal S2x8192x1024 .f32) (w : FVec Ideal S2048x1024 .bf16) (b : Fin 2) (n : Fin 8192) (e : Fin 2048) :
    gateR h w (ix3 b n e) = sgm (∑ k, h (ix3 b n k) * w (ix2 e k)) := by
  unfold gateR
  pointwise
  rfl

/-- A mixer's rows raised to the model width. -/
def upR (o : FVec Ideal S16384x512 .bf16) (w : FVec Ideal S512x1024 .bf16) : FVec Ideal S2x8192x1024 .f32 :=
  Host.dotGeneral dot_S2x8192x512_S512x1024_S2x8192x1024_2_0_01_1_n_n none (shapeCast _ (extf .f32 o bitsLt_bf16_f32) shapeCasts_S16384x512_S2x8192x512)
    (extf .f32 w bitsLt_bf16_f32)

theorem upR_apply (o : FVec Ideal S16384x512 .bf16) (w : FVec Ideal S512x1024 .bf16) (b : Fin 2) (n : Fin 8192) (j : Fin 1024) :
    upR o w (ix3 b n j) = ∑ k, o (ix2 ⟨b.val * 8192 + n.val, by omega⟩ k) * w (ix2 k j) := by
  unfold upR
  pointwise
  try rfl

/-- The mixed rows through the output weight. -/
def mixR (g : FVec Ideal S2x8192x2048 .f32) (a p : FVec Ideal S2x8192x1024 .f32) (w : FVec Ideal S1024x1024 .bf16) : FVec Ideal S2x8192x1024 .f32 :=
  Host.dotGeneral dot_S2x8192x1024_S1024x1024_S2x8192x1024_2_0_01_1_n_n none
    (addf (mulf (extractStridedSlice S2x8192x1024 ![0, 0, 0] g slices_S2x8192x2048_S2x8192x1024_0_0_0) a)
      (mulf (extractStridedSlice S2x8192x1024 ![0, 0, 1024] g slices_S2x8192x2048_S2x8192x1024_0_0_1024) p)) (extf .f32 w bitsLt_bf16_f32)

theorem mixR_apply (g : FVec Ideal S2x8192x2048 .f32) (a p : FVec Ideal S2x8192x1024 .f32) (w : FVec Ideal S1024x1024 .bf16)
    (b : Fin 2) (n : Fin 8192) (j : Fin 1024) : mixR g a p w (ix3 b n j)
      = ∑ k : Fin 1024, (g (ix3 b n ⟨k.val, by omega⟩) * a (ix3 b n k) + g (ix3 b n ⟨1024 + k.val, by omega⟩) * p (ix3 b n k)) * w (ix2 k j) := by
  unfold mixR
  pointwise
  try rfl

/-- The mixed rows as the reference computes them from its arguments. -/
def midR (x : FVec Ideal S2x8192x1024 .f32) (g : FVec Ideal S1x1024 .f32) (sc sh : FVec Ideal S2x1x1024 .f32) (on op : FVec Ideal S16384x512 .bf16)
    (wg : FVec Ideal S2048x1024 .bf16) (un up : FVec Ideal S512x1024 .bf16) (wo : FVec Ideal S1024x1024 .bf16) : FVec Ideal S2x8192x1024 .f32 :=
  mixR (gateR (hmod x g sc sh) wg) (upR on un) (upR op up) wo

theorem midR_apply (x : FVec Ideal S2x8192x1024 .f32) (g : FVec Ideal S1x1024 .f32) (sc sh : FVec Ideal S2x1x1024 .f32) (on op : FVec Ideal S16384x512 .bf16)
    (wg : FVec Ideal S2048x1024 .bf16) (un up : FVec Ideal S512x1024 .bf16) (wo : FVec Ideal S1024x1024 .bf16) (b : Fin 2) (n : Fin 8192) (j : Fin 1024) :
    midR x g sc sh on op wg un up wo (ix3 b n j) = ∑ k, mix (modRow (fun k => x (ix3 b n k)) (fun k => g (ix2 0 k)) (fun k => sc (ix3 b 0 k)) (fun k => sh (ix3 b 0 k)))
      (fun k => on (ix2 ⟨b.val * 8192 + n.val, by omega⟩ k)) (fun k => op (ix2 ⟨b.val * 8192 + n.val, by omega⟩ k)) (fun a b => wg (ix2 a b))
      (fun a b => un (ix2 a b)) (fun a b => up (ix2 a b)) k * wo (ix2 k j) := by
  rw [midR, mixR_apply]
  simp only [gateR_apply, upR_apply, hmod_apply]
  rfl

theorem res_eq (m : (ℓ : Loc nD τ sig) → Buf (Elt Ideal) ℓ) (c : Dev nD) :
    res_out0 m c = shapeCast _ (addf (shapeCast _ (m ((c.tc : Thread nD τ).loc main_arg0)) shapeCasts_S16384x1024_S2x8192x1024)
      (mulf (broadcastInDim S2x8192x1024 ![0, 1, 2] bcast_S2x1x1024_S2x8192x1024_0_1_2 (m ((c.tc : Thread nD τ).loc main_arg3)))
        (rms (midR (shapeCast _ (m ((c.tc : Thread nD τ).loc main_arg0)) shapeCasts_S16384x1024_S2x8192x1024)
          (m ((c.tc : Thread nD τ).loc main_arg4)) (m ((c.tc : Thread nD τ).loc main_arg2)) (m ((c.tc : Thread nD τ).loc main_arg1)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg5)))))
      shapeCasts_S2x8192x1024_S16384x1024 := rfl

theorem fin_apply (x : FVec Ideal S16384x1024 .f32) (sh sc gt : FVec Ideal S2x1x1024 .f32) (g1 g2 : FVec Ideal S1x1024 .f32)
    (on op : FVec Ideal S16384x512 .bf16) (wg : FVec Ideal S2048x1024 .bf16) (un up : FVec Ideal S512x1024 .bf16) (wo : FVec Ideal S1024x1024 .bf16)
    (r : Fin 16384) (j : Fin 1024) :
    shapeCast S16384x1024 (addf (shapeCast S2x8192x1024 x shapeCasts_S16384x1024_S2x8192x1024)
      (mulf (broadcastInDim S2x8192x1024 ![0, 1, 2] bcast_S2x1x1024_S2x8192x1024_0_1_2 gt)
        (rms (midR (shapeCast S2x8192x1024 x shapeCasts_S16384x1024_S2x8192x1024) g1 sc sh on op wg un up wo) g2)))
      shapeCasts_S2x8192x1024_S16384x1024 (ix2 r j) = mergeOut x sh sc gt g1 g2 on op wg un up wo r j := by
  have hr : (⟨r.val / 8192 * 8192 + r.val % 8192, by omega⟩ : Fin 16384) = r := Fin.ext (by show r.val / 8192 * 8192 + r.val % 8192 = r.val; omega)
  pointwise
  simp only [rms_apply, midR_apply]
  pointwise
  simp only [hr]
  rfl

/-- The reference's result: the merge on each row, with its sequence's modulation. -/
theorem res_apply (m : (ℓ : Loc nD τ sig) → Buf (Elt Ideal) ℓ) (c : Dev nD) (r : Fin 16384) (j : Fin 1024) :
    res_out0 m c (ix2 r j) = mergeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) r j :=
  (congrFun (res_eq m c) (ix2 r j)).trans (fin_apply _ _ _ _ _ _ _ _ _ _ _ _ r j)

end Cert.MergeRefIdeal.Hand

end
-- ==== Proof.MergeClaims.lean ====
/- The five claims about the merge of the two mixers. -/
module

public import proofs.«01_k».proof.Defs
public import proofs.«01_k».proof.Proof.Gen.Merge.Frame
public import proofs.«01_k».proof.Proof.MergeVal
public import proofs.«01_k».proof.Proof.MergeRefVal
public import Idealize.ShloMosaic.Lib.Quiescent

@[expose] public section

noncomputable section

open Idealize.ShloMosaic Idealize.ShloMosaic.TcCoe Idealize.SL.Sem

namespace Cert.Proof.MergeClaims

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)
theorem preserves : Cert.preserves_Merge_MergeIdeal := trivial

/-- Both programs end with the merge of the two mixers of the same arguments. -/
theorem algebraic : Cert.algebraic_MergeIdeal_MergeRefIdeal := fun m ρ m' ρ' _ hag =>
  ⟨fun c => Cert.MergeIdeal.Hand.G m c,
    (θ_run _ _ _).mono (fun _ h c => ⟨(h c).1.trans (Cert.MergeIdeal.Hand.final m c), (h c).2⟩) (Cert.MergeIdeal.Value.run_blocks m ρ),
    (θ_run _ _ _).mono (fun _ h c => ⟨(h c).1.trans (by
      funext x
      obtain ⟨r, j, rfl⟩ : ∃ (r : Fin 16384) (j : Fin 1024), x = ix2 r j := ⟨x 0, x 1, eq_ix2 x⟩
      refine (Cert.MergeRefIdeal.Hand.res_apply m' c r j).trans ?_
      obtain ⟨h0, h1, h2, h3, h4, h5, h6, h7, h8, h9, h10, h11⟩ := hag c
      rw [h0, h1, h2, h3, h4, h5, h6, h7, h8, h9, h10, h11]
      rfl), (h c).2⟩) (Cert.MergeRefIdeal.Value.run (F := Ideal) m' ρ')⟩

end Cert.Proof.MergeClaims

end
-- ==== Proof.SprojVal.lean ====
module

public import proofs.«01_k».proof.Proof.Gen.SprojIdeal.Value
public import proofs.«01_k».proof.Proof.Gen.SprojRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

/-! ## The kernel's payloads, entry by entry -/

namespace Cert.SprojIdeal.Hand
open Cert.SprojIdeal Cert.SprojIdeal.Gen Cert.Spec

/-- One entry of the projection of a modulated row. -/
def proj {N : Nat} (x sh sc : Vec Ideal ⟨2, ![128, 1024]⟩ .f32) (g : Vec Ideal ⟨2, ![1, 1024]⟩ .f32) (w : Vec Ideal ⟨2, ![N, 1024]⟩ .bf16)
    (r : Fin 128) (e : Fin N) : EReal :=
  ∑ k, modRow (fun k => x (ix2 r k)) (fun k => g (ix2 0 k)) (fun k => sc (ix2 r k)) (fun k => sh (ix2 r k)) k * w (ix2 e k)

theorem pay1_apply (v0 : Vec Ideal S128x1024 .f32) (v1 : Vec Ideal S1x1024 .f32) (v14 v18 : Vec Ideal S128x1024 .f32) (r : Fin 128) (k : Fin 1024) :
    k0_pay1 v0 v1 v14 v18 (ix2 r k) = modRow (fun k => v0 (ix2 r k)) (fun k => v1 (ix2 0 k)) (fun k => v14 (ix2 r k)) (fun k => v18 (ix2 r k)) k := by
  unfold k0_pay1
  dsimp only
  pointwise
  rfl

theorem pay2_apply (x sh sc : Vec Ideal S128x1024 .f32) (g : Vec Ideal S1x1024 .f32) (w : Vec Ideal S1920x1024 .bf16) (r : Fin 128) (e : Fin 1920) :
    k0_pay2 x g sc sh w (ix2 r e) = proj x sh sc g w r e := by
  unfold k0_pay2 proj
  simp only [← pay1_apply]
  generalize k0_pay1 x g sc sh = h
  pointwise

theorem pay3_apply (x sh sc : Vec Ideal S128x1024 .f32) (g : Vec Ideal S1x1024 .f32) (w : Vec Ideal S1920x1024 .bf16) (r : Fin 128) (e : Fin 1920) :
    k0_pay3 x g sc sh w (ix2 r e) = sgm (proj x sh sc g w r e) := by
  unfold k0_pay3
  simp only [← pay2_apply]
  generalize k0_pay2 x g sc sh w = h
  pointwise
  rfl

theorem pay4_apply (x sh sc : Vec Ideal S128x1024 .f32) (g : Vec Ideal S1x1024 .f32) (w : Vec Ideal S1312x1024 .bf16) (r : Fin 128) (e : Fin 1312) :
    k0_pay4 x g sc sh w (ix2 e r) = proj x sh sc g w r e := by
  unfold k0_pay4 proj
  simp only [← pay1_apply]
  generalize k0_pay1 x g sc sh = h
  pointwise
  exact Finset.sum_congr rfl fun k _ => mul_comm _ _

end Cert.SprojIdeal.Hand

/-! ## The reference's results, entry by entry -/

namespace Cert.SprojRefIdeal.Hand
open Cert.SprojRefIdeal Cert.SprojRefIdeal.Gen Cert.Spec Cert.SprojIdeal.Hand

/-- The reference's normalized and modulated rows. -/
def hmod (x : FVec Ideal S128x1024 .f32) (g : FVec Ideal S1x1024 .f32) (sc sh : FVec Ideal S128x1024 .f32) : FVec Ideal S128x1024 .f32 :=
  addf (mulf (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ g shapeCasts_S1x1024_S1024)))) (addf (broadcastInDim S128x1024 ![] bcast_S_S128x1024 (constant S_ .f32 0x3F800000#32)) sc)) sh

theorem hmod_apply (x : FVec Ideal S128x1024 .f32) (g : FVec Ideal S1x1024 .f32) (sc sh : FVec Ideal S128x1024 .f32) (r : Fin 128) (k : Fin 1024) :
    hmod x g sc sh (ix2 r k) = modRow (fun k => x (ix2 r k)) (fun k => g (ix2 0 k)) (fun k => sc (ix2 r k)) (fun k => sh (ix2 r k)) k := by
  unfold hmod
  pointwise
  rfl

/-- The reference's row-major projection. -/
def zR (h : FVec Ideal S128x1024 .f32) (w : FVec Ideal S1920x1024 .bf16) : FVec Ideal S128x1920 .f32 :=
  Host.dotGeneral dot_S128x1024_S1920x1024_S128x1920_1_1_0_0_n_n none h (extf .f32 w bitsLt_bf16_f32)

/-- Its logistic. -/
def sR (z : FVec Ideal S128x1920 .f32) : FVec Ideal S128x1920 .f32 :=
  Host.divf (broadcastInDim S128x1920 ![] bcast_S_S128x1920 (constant S_ .f32 0x3F800000#32)) (addf (broadcastInDim S128x1920 ![] bcast_S_S128x1920 (constant S_ .f32 0x3F800000#32)) (Host.exp (Host.negf z)))

/-- The reference's transposed projection. -/
def tR (h : FVec Ideal S128x1024 .f32) (w : FVec Ideal S1312x1024 .bf16) : FVec Ideal S1312x128 .f32 :=
  transpose S1312x128 [1, 0] (Host.dotGeneral dot_S128x1024_S1312x1024_S128x1312_1_1_0_0_n_n none h (extf .f32 w bitsLt_bf16_f32)) transposes_S128x1312_S1312x128_1_0

theorem zR_apply (x sh sc : FVec Ideal S128x1024 .f32) (g : FVec Ideal S1x1024 .f32) (w : FVec Ideal S1920x1024 .bf16) (r : Fin 128) (e : Fin 1920) :
    zR (hmod x g sc sh) w (ix2 r e) = proj x sh sc g w r e := by
  unfold zR proj
  simp only [← hmod_apply]
  generalize hmod x g sc sh = h
  pointwise

theorem sR_apply (z : FVec Ideal S128x1920 .f32) (r : Fin 128) (e : Fin 1920) : sR z (ix2 r e) = sgm (z (ix2 r e)) := by
  unfold sR
  pointwise
  rfl

theorem tR_apply (x sh sc : FVec Ideal S128x1024 .f32) (g : FVec Ideal S1x1024 .f32) (w : FVec Ideal S1312x1024 .bf16) (r : Fin 128) (e : Fin 1312) :
    tR (hmod x g sc sh) w (ix2 e r) = proj x sh sc g w r e := by
  unfold tR proj
  simp only [← hmod_apply]
  generalize hmod x g sc sh = h
  pointwise

end Cert.SprojRefIdeal.Hand

end
-- ==== Proof.SprojClaims.lean ====
/- The five claims about the in-projection of the sample rows. -/
module

public import proofs.«01_k».proof.Defs
public import proofs.«01_k».proof.Proof.Gen.Sproj.Frame
public import proofs.«01_k».proof.Proof.SprojVal
public import Idealize.ShloMosaic.Lib.Quiescent

@[expose] public section

noncomputable section

open Idealize.ShloMosaic Idealize.ShloMosaic.TcCoe Idealize.SL.Sem Cert.SprojIdeal.Hand Cert.SprojRefIdeal.Hand

namespace Cert.Proof.SprojClaims

theorem frame_p : Cert.quiescent_Sproj := fun m ρ _ => Cert.Sproj.Gen.frame m ρ
theorem frame_pi : Cert.quiescent_SprojIdeal := fun m ρ _ => Cert.SprojIdeal.Gen.frame m ρ
theorem frame_ri : Cert.quiescent_SprojRefIdeal := fun m ρ _ =>
  (θ_run Cert.SprojRefIdeal.defs _ _).mono (fun r h => ⟨fun c => (h c).2.2.2, sem_eq_zero_of_no_sems (by decide) r.2⟩)
    (Cert.SprojRefIdeal.Value.run (F := Ideal) m ρ)
theorem preserves : Cert.preserves_Sproj_SprojIdeal := trivial

/-- Both programs end with the three projections of the same rows. -/
theorem algebraic : Cert.algebraic_SprojIdeal_SprojRefIdeal := fun m ρ m' ρ' _ hag =>
  ⟨_, _, _, Cert.SprojIdeal.Value.run m ρ,
    (θ_run _ _ _).mono (fun _ h c => ⟨(h c).1.trans (by
        funext x
        obtain ⟨r, j, rfl⟩ : ∃ (r : Fin 128) (j : Fin 1920), x = ix2 r j := ⟨x 0, x 1, eq_ix2 x⟩
        refine (zR_apply _ _ _ _ _ r j).trans ?_
        obtain ⟨h0, h1, h2, h3, h4, h5⟩ := hag c
        rw [h0, h1, h2, h3, h4]
        exact (pay2_apply _ _ _ _ _ r j).symm),
      (h c).2.1.trans (by
        funext x
        obtain ⟨r, j, rfl⟩ : ∃ (r : Fin 128) (j : Fin 1920), x = ix2 r j := ⟨x 0, x 1, eq_ix2 x⟩
        refine (sR_apply (zR (hmod _ _ _ _) _) r j).trans ?_
        rw [zR_apply]
        obtain ⟨h0, h1, h2, h3, h4, h5⟩ := hag c
        rw [h0, h1, h2, h3, h4]
        exact (pay3_apply _ _ _ _ _ r j).symm),
      (h c).2.2.1.trans (by
        funext x
        obtain ⟨e, r, rfl⟩ : ∃ (e : Fin 1312) (r : Fin 128), x = ix2 e r := ⟨x 0, x 1, eq_ix2 x⟩
        refine (tR_apply _ _ _ _ _ r e).trans ?_
        obtain ⟨h0, h1, h2, h3, h4, h5⟩ := hag c
        rw [h0, h1, h2, h3, h5]
        exact (pay4_apply _ _ _ _ _ r e).symm), (h c).2.2.2⟩) (Cert.SprojRefIdeal.Value.run (F := Ideal) m' ρ')⟩

end Cert.Proof.SprojClaims

end
-- ==== Proof.PprojPre.lean ====
/- The side condition that the precondition's operations take, and what the precondition says of a word of the page table. -/
module

public import proofs.«01_k».proof.Pre_pages_exist
public import Idealize.ShloMosaic.Lib.Decide

@[expose] public section

namespace Cert.Pre_pages_exist.Hand

open Idealize.ShloMosaic Cert.Pre_pages_exist

instance facts : Facts := ⟨by decide⟩

theorem word_le {F : FTy → Type} [FloatOps F] (a0 : IVec S2048 32) (a1 : FVec F S16384x1024 .f32) (a2 a3 : FVec F S2x1x1024 .f32)
    (a4 : FVec F S1x1024 .f32) (a5 : FVec F S1024x1024 .bf16) (a6 : FVec F S1312x1024 .bf16) (a7 : FVec F S2560x256x128 .f32)
    (a8 : FVec F S2x64x64x64 .f32) (a9 : FVec F S64x2x64 .f32) (h : fn a0 a1 a2 a3 a4 a5 a6 a7 a8 a9 = fun _ => 1#1) (w : S2048.Idx) :
    (a0 w).toNat ≤ 2559 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre : IntOp.andi (IntOp.cmpi .sge (a0 w) 0#32) (IntOp.cmpi .sle (a0 w) 2559#32) = 1#1 := congrFun h w
  obtain ⟨h1, h2⟩ := (andi_one _ _).1 pre
  generalize a0 w = v at h1 h2 ⊢
  simp only [ofBool_eq_one, IntOp.cmpi, BitVec.sle, BitVec.slt, decide_eq_true_eq, BitVec.toInt, BitVec.toNat_ofNat] at h1 h2
  omega

end Cert.Pre_pages_exist.Hand

end
-- ==== Proof.PprojIdealRun.lean ====
/- The body of the projection call run once: what each of its stores leaves, and the run itself. -/
module

public import proofs.«01_k».proof.Proof.Gen.PprojIdeal.Frame.Runs

@[expose] public section

set_option maxRecDepth 16384

noncomputable section

namespace Cert.PprojIdeal.Hand

open Cert.PprojIdeal Cert.PprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's block, piece by piece, with the run of the body that leaves it. -/
def kernelRun0_A (c : Dev nD) (i : grid0.Coords) (arg2 : Memref sig .tc .vmem S256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1312x1024 .bf16) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1x256x128 .f32) (harg19 : arg19.IsWhole) (arg20 : Memref sig .tc .vmem S1x256x128 .f32) (harg20 : arg20.IsWhole) (arg21 : Memref sig .tc .vmem S1x256x128 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x256x128 .f32) (harg24 : arg24.IsWhole) (arg25 : Memref sig .tc .vmem S1x256x128 .f32) (harg25 : arg25.IsWhole) (arg26 : Memref sig .tc .vmem S1x256x128 .f32) (harg26 : arg26.IsWhole) (arg27 : Memref sig .tc .vmem S1x256x128 .f32) (harg27 : arg27.IsWhole) (arg28 : Memref sig .tc .vmem S1x256x128 .f32) (harg28 : arg28.IsWhole) (arg29 : Memref sig .tc .vmem S1x256x128 .f32) (harg29 : arg29.IsWhole) (arg30 : Memref sig .tc .vmem S1x256x128 .f32) (harg30 : arg30.IsWhole) (arg31 : Memref sig .tc .vmem S1x256x128 .f32) (harg31 : arg31.IsWhole) (arg32 : Memref sig .tc .vmem S1x256x128 .f32) (harg32 : arg32.IsWhole) (arg33 : Memref sig .tc .vmem S1x256x128 .f32) (harg33 : arg33.IsWhole) (arg34 : Memref sig .tc .vmem S1x256x128 .f32) (harg34 : arg34.IsWhole) (arg35 : Memref sig .tc .vmem S1x256x128 .f32) (harg35 : arg35.IsWhole) (arg36 : Memref sig .tc .vmem S1x256x128 .f32) (harg36 : arg36.IsWhole) (arg37 : Memref sig .tc .vmem S1x256x128 .f32) (harg37 : arg37.IsWhole) (arg38 : Memref sig .tc .vmem S1x256x128 .f32) (harg38 : arg38.IsWhole) (arg39 : Memref sig .tc .vmem S1x256x128 .f32) (harg39 : arg39.IsWhole) (arg40 : Memref sig .tc .vmem S2x4x1x2048 .f32) (harg40 : arg40.IsWhole) (arg41 : Memref sig .tc .vmem S2x4x2048x128 .bf16) (harg41 : arg41.IsWhole) (arg42 : Memref sig .tc .vmem S1x256x256 .f32) (harg42 : arg42.IsWhole) (arg43 : Memref sig .tc .vmem S1x256x256 .f32) (harg43 : arg43.IsWhole) (arg44 : Memref sig .tc .vmem S1x256x256 .f32) (harg44 : arg44.IsWhole) (arg45 : Memref sig .tc .vmem S272x128 .f32) (harg45 : arg45.IsWhole) (arg46 : Memref sig .tc .vmem S272x128 .f32) (harg46 : arg46.IsWhole) (arg47 : Memref sig .tc .vmem S256x512 .f32) (harg47 : arg47.IsWhole) (arg48 : Memref sig .tc .vmem S1x512x256 .bf16) (harg48 : arg48.IsWhole) (arg49 : Memref sig .tc .vmem S1x256x256 .bf16) (harg49 : arg49.IsWhole) (arg50 : Memref sig .tc .vmem S1x1x2x80x256 .bf16) (harg50 : arg50.IsWhole) (arg51 : Memref sig .tc .vmem S1x256x128 .bf16) (harg51 : arg51.IsWhole) (arg52 : Memref sig .tc .vmem S1x2x2x80x128 .bf16) (harg52 : arg52.IsWhole) (arg53 : Memref sig .tc .vmem S1x32x256 .f32) (harg53 : arg53.IsWhole) (arg54 : Memref sig .tc .vmem S64x256 .f32) (harg54 : arg54.IsWhole) (arg55 : Memref sig .tc .vmem S4352x128 .f32) (harg55 : arg55.IsWhole) (arg56 : Memref sig .tc .vmem S4352x128 .f32) (harg56 : arg56.IsWhole)
    (x0 : Vec F S256x1024 .f32) (x1 : Vec F S1x1x1024 .f32) (x2 : Vec F S1x1x1024 .f32) (x3 : Vec F S1x1024 .f32) (x4 : Vec F S1024x1024 .bf16) (x5 : Vec F S1312x1024 .bf16) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x128 .f32) (x17 : Vec F S1x256x128 .f32) (x18 : Vec F S1x256x128 .f32) (x19 : Vec F S1x256x128 .f32) (x20 : Vec F S1x256x128 .f32) (x21 : Vec F S1x256x128 .f32) (x22 : Vec F S1x256x128 .f32) (x23 : Vec F S1x256x128 .f32) (x24 : Vec F S1x256x128 .f32) (x25 : Vec F S1x256x128 .f32) (x26 : Vec F S1x256x128 .f32) (x27 : Vec F S1x256x128 .f32) (x28 : Vec F S1x256x128 .f32) (x29 : Vec F S1x256x128 .f32) (x30 : Vec F S1x256x128 .f32) (x31 : Vec F S1x256x128 .f32) (x32 : Vec F S1x256x128 .f32) (x33 : Vec F S1x256x128 .f32) (x34 : Vec F S1x256x128 .f32) (x35 : Vec F S1x256x128 .f32) (x36 : Vec F S1x256x128 .f32) (x37 : Vec F S1x256x128 .f32) (x38 : Vec F S2x4x1x2048 .f32) (x39 : Vec F S2x4x2048x128 .bf16) (xt0 : TbBuf0 (F := F) c tbM0_0) :
    Σ' (L40 : List (View.Piece (Elt F) S1x256x256 .f32)), Σ' (L41 : List (View.Piece (Elt F) S1x256x256 .f32)), Σ' (L42 : List (View.Piece (Elt F) S1x256x256 .f32)), Σ' (L43 : List (View.Piece (Elt F) S272x128 .f32)), Σ' (L44 : List (View.Piece (Elt F) S272x128 .f32)), Σ' (L45 : List (View.Piece (Elt F) S256x512 .f32)), Σ' (L46 : List (View.Piece (Elt F) S1x512x256 .bf16)), Σ' (L47 : List (View.Piece (Elt F) S1x256x256 .bf16)), Σ' (L48 : List (View.Piece (Elt F) S1x1x2x80x256 .bf16)), Σ' (L49 : List (View.Piece (Elt F) S1x256x128 .bf16)), Σ' (L50 : List (View.Piece (Elt F) S1x2x2x80x128 .bf16)), Σ' (L51 : List (View.Piece (Elt F) S1x32x256 .f32)), Σ' (L52 : List (View.Piece (Elt F) S64x256 .f32)), Σ' (LT0 : List (View.Piece (Elt F) S4352x128 .f32)), { LT1 : List (View.Piece (Elt F) S4352x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ (∃ f, arg42.view.loc (c : Thread nD τ) ↦[arg42.view.set]{fullShare} arg42.view.writes (Elt F) f L40) ∗ (∃ f, arg43.view.loc (c : Thread nD τ) ↦[arg43.view.set]{fullShare} arg43.view.writes (Elt F) f L41) ∗ (∃ f, arg44.view.loc (c : Thread nD τ) ↦[arg44.view.set]{fullShare} arg44.view.writes (Elt F) f L42) ∗ (∃ f, arg45.view.loc (c : Thread nD τ) ↦[arg45.view.set]{fullShare} arg45.view.writes (Elt F) f L43) ∗ (∃ f, arg46.view.loc (c : Thread nD τ) ↦[arg46.view.set]{fullShare} arg46.view.writes (Elt F) f L44) ∗ (∃ f, arg47.view.loc (c : Thread nD τ) ↦[arg47.view.set]{fullShare} arg47.view.writes (Elt F) f L45) ∗ (∃ f, arg48.view.loc (c : Thread nD τ) ↦[arg48.view.set]{fullShare} arg48.view.writes (Elt F) f L46) ∗ (∃ f, arg49.view.loc (c : Thread nD τ) ↦[arg49.view.set]{fullShare} arg49.view.writes (Elt F) f L47) ∗ (∃ f, arg50.view.loc (c : Thread nD τ) ↦[arg50.view.set]{fullShare} arg50.view.writes (Elt F) f L48) ∗ (∃ f, arg51.view.loc (c : Thread nD τ) ↦[arg51.view.set]{fullShare} arg51.view.writes (Elt F) f L49) ∗ (∃ f, arg52.view.loc (c : Thread nD τ) ↦[arg52.view.set]{fullShare} arg52.view.writes (Elt F) f L50) ∗ (∃ f, arg53.view.loc (c : Thread nD τ) ↦[arg53.view.set]{fullShare} arg53.view.writes (Elt F) f L51) ∗ (∃ f, arg54.view.loc (c : Thread nD τ) ↦[arg54.view.set]{fullShare} arg54.view.writes (Elt F) f L52) ∗ (∃ f, arg55.view.loc (c : Thread nD τ) ↦[arg55.view.set]{fullShare} arg55.view.writes (Elt F) f LT0) ∗ (∃ f, arg56.view.loc (c : Thread nD τ) ↦[arg56.view.set]{fullShare} arg56.view.writes (Elt F) f LT1) ∗ tbPt0 c tbM0_0 xt0) -∗ K ⟨⟩))
          ⊢ wp frame (wpE (defs₀ (F := F)) Variants.none c none) E (cc0_project_prompt_compress_cache i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56) K } := by
  refine ⟨?_, ?_, ?_, ?_, ?_, ?_, ?_, ?_, ?_, ?_, ?_, ?_, ?_, ?_, ?_, fun E K => ?run⟩
  case run =>
    simp only [cc0_project_prompt_compress_cache_eq_skeleton]; unfold cc0_project_prompt_compress_cache_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36; obtain rfl := harg39.eq_unread hf37; obtain rfl := harg40.eq_unread hf38; obtain rfl := harg41.eq_unread hf39
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]
    · iexists _; isplitr; · ipureintro; exact harg39.read_unread _
      iexact H37
    isplitl [H38]
    · iexists _; isplitr; · ipureintro; exact harg40.read_unread _
      iexact H38
    isplitl [H39]
    · iexists _; isplitr; · ipureintro; exact harg41.read_unread _
      iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [HS0]; · iexists _; iexact HS0
    isplitl [HS1]; · iexists _; iexact HS1
    iexact HT0

end Cert.PprojIdeal.Hand

end
-- ==== Proof.PprojIdealFrame.lean ====
/- The projection call from its body to its run: the blocks it leaves, and the arrays at the end. -/
module

public import proofs.«01_k».proof.Proof.PprojIdealRun
public import Idealize.ShloMosaic.Lib.Claim

@[expose] public section

set_option maxRecDepth 16384

noncomputable section

namespace Cert.PprojIdeal.Hand

open Cert.PprojIdeal Cert.PprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`. -/
def run0 (hO : Ok m) (c : Dev nD) (t : Fin (cfgM m hO).N) :=
  kernelRun0_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (tbl m 0)

theorem cover0_40 (hO : Ok m) (c : Dev nD) (t : Fin (cfgM m hO).N) (y) : ∃ pc ∈ (run0 m hO c t).1, y ∈ pc.1.set :=
  View.cover_of_tiledL (run0 m hO c t).1 S1x256x256.size (by sl_kernel_rfl) y

theorem cover0_41 (hO : Ok m) (c : Dev nD) (t : Fin (cfgM m hO).N) (y) : ∃ pc ∈ (run0 m hO c t).2.1, y ∈ pc.1.set :=
  View.cover_of_tiledL (run0 m hO c t).2.1 S1x256x256.size (by sl_kernel_rfl) y

theorem cover0_42 (hO : Ok m) (c : Dev nD) (t : Fin (cfgM m hO).N) (y) : ∃ pc ∈ (run0 m hO c t).2.2.1, y ∈ pc.1.set :=
  View.cover_of_tiledL (run0 m hO c t).2.2.1 S1x256x256.size (by sl_kernel_rfl) y

theorem cover0_43 (hO : Ok m) (c : Dev nD) (t : Fin (cfgM m hO).N) (y) : ∃ pc ∈ (run0 m hO c t).2.2.2.1, y ∈ pc.1.set :=
  View.cover_of_tiledBy (run0 m hO c t).2.2.2.1 ![4, 128] (by sl_kernel_rfl) y

theorem cover0_44 (hO : Ok m) (c : Dev nD) (t : Fin (cfgM m hO).N) (y) : ∃ pc ∈ (run0 m hO c t).2.2.2.2.1, y ∈ pc.1.set :=
  View.cover_of_tiledBy (run0 m hO c t).2.2.2.2.1 ![4, 128] (by sl_kernel_rfl) y

theorem cover0_45 (hO : Ok m) (c : Dev nD) (t : Fin (cfgM m hO).N) (y) : ∃ pc ∈ (run0 m hO c t).2.2.2.2.2.1, y ∈ pc.1.set :=
  View.cover_of_tiledL (run0 m hO c t).2.2.2.2.2.1 S256x512.size (by sl_kernel_rfl) y

theorem cover0_46 (hO : Ok m) (c : Dev nD) (t : Fin (cfgM m hO).N) (y) : ∃ pc ∈ (run0 m hO c t).2.2.2.2.2.2.1, y ∈ pc.1.set :=
  View.cover_of_tiledL (run0 m hO c t).2.2.2.2.2.2.1 S1x512x256.size (by sl_kernel_rfl) y

theorem cover0_47 (hO : Ok m) (c : Dev nD) (t : Fin (cfgM m hO).N) (y) : ∃ pc ∈ (run0 m hO c t).2.2.2.2.2.2.2.1, y ∈ pc.1.set :=
  View.cover_of_tiledL (run0 m hO c t).2.2.2.2.2.2.2.1 S1x256x128.size (by sl_kernel_rfl) y

theorem cover0_48 (hO : Ok m) (c : Dev nD) (t : Fin (cfgM m hO).N) (y) : ∃ pc ∈ (run0 m hO c t).2.2.2.2.2.2.2.2.1, y ∈ pc.1.set :=
  View.cover_of_tiledBy (run0 m hO c t).2.2.2.2.2.2.2.2.1 ![1, 1, 1, 16, 256] (by sl_kernel_rfl) y

theorem cover0_49 (hO : Ok m) (c : Dev nD) (t : Fin (cfgM m hO).N) (y) : ∃ pc ∈ (run0 m hO c t).2.2.2.2.2.2.2.2.2.1, y ∈ pc.1.set :=
  View.cover_of_tiledL (run0 m hO c t).2.2.2.2.2.2.2.2.2.1 S1x256x128.size (by sl_kernel_rfl) y

theorem cover0_50 (hO : Ok m) (c : Dev nD) (t : Fin (cfgM m hO).N) (y) : ∃ pc ∈ (run0 m hO c t).2.2.2.2.2.2.2.2.2.2.1, y ∈ pc.1.set :=
  View.cover_of_tiledBy (run0 m hO c t).2.2.2.2.2.2.2.2.2.2.1 ![1, 1, 1, 16, 128] (by sl_kernel_rfl) y

theorem cover0_51 (hO : Ok m) (c : Dev nD) (t : Fin (cfgM m hO).N) (y) : ∃ pc ∈ (run0 m hO c t).2.2.2.2.2.2.2.2.2.2.2.1, y ∈ pc.1.set :=
  View.cover_of_tiledL (run0 m hO c t).2.2.2.2.2.2.2.2.2.2.2.1 S1x32x256.size (by sl_kernel_rfl) y

theorem cover0_52 (hO : Ok m) (c : Dev nD) (t : Fin (cfgM m hO).N) (y) : ∃ pc ∈ (run0 m hO c t).2.2.2.2.2.2.2.2.2.2.2.2.1, y ∈ pc.1.set :=
  View.cover_of_tiledL (run0 m hO c t).2.2.2.2.2.2.2.2.2.2.2.2.1 S64x128.size (by sl_kernel_rfl) y

/-- What the body leaves in the outputs' blocks at point `t`. -/
def outsAt0 (hO : Ok m) (c : Dev nD) (t : Fin (cfgM m hO).N) : Vec F S1x256x256 .f32 × Vec F S1x256x256 .f32 × Vec F S1x256x256 .f32 × Vec F S272x128 .f32 × Vec F S272x128 .f32 × Vec F S256x512 .f32 × Vec F S1x512x256 .bf16 × Vec F S1x256x256 .bf16 × Vec F S1x1x2x80x256 .bf16 × Vec F S1x256x128 .bf16 × Vec F S1x2x2x80x128 .bf16 × Vec F S1x32x256 .f32 × Vec F S64x256 .f32 :=
  (VO0_40.read (Elt F) (VO0_40.writes (Elt F) VO0_40.junk (run0 m hO c t).1), VO0_41.read (Elt F) (VO0_41.writes (Elt F) VO0_41.junk (run0 m hO c t).2.1), VO0_42.read (Elt F) (VO0_42.writes (Elt F) VO0_42.junk (run0 m hO c t).2.2.1), VO0_43.read (Elt F) (VO0_43.writes (Elt F) VO0_43.junk (run0 m hO c t).2.2.2.1), VO0_44.read (Elt F) (VO0_44.writes (Elt F) VO0_44.junk (run0 m hO c t).2.2.2.2.1), VO0_45.read (Elt F) (VO0_45.writes (Elt F) VO0_45.junk (run0 m hO c t).2.2.2.2.2.1), VO0_46.read (Elt F) (VO0_46.writes (Elt F) VO0_46.junk (run0 m hO c t).2.2.2.2.2.2.1), VO0_47.read (Elt F) (VO0_47.writes (Elt F) VO0_47.junk (run0 m hO c t).2.2.2.2.2.2.2.1), VO0_48.read (Elt F) (VO0_48.writes (Elt F) VO0_48.junk (run0 m hO c t).2.2.2.2.2.2.2.2.1), VO0_49.read (Elt F) (VO0_49.writes (Elt F) VO0_49.junk (run0 m hO c t).2.2.2.2.2.2.2.2.2.1), VO0_50.read (Elt F) (VO0_50.writes (Elt F) VO0_50.junk (run0 m hO c t).2.2.2.2.2.2.2.2.2.2.1), VO0_51.read (Elt F) (VO0_51.writes (Elt F) VO0_51.junk (run0 m hO c t).2.2.2.2.2.2.2.2.2.2.2.1), VO0_52.read (Elt F) (VO0_52.writes (Elt F) VO0_52.junk (run0 m hO c t).2.2.2.2.2.2.2.2.2.2.2.2.1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => (outsAt0 m hO c t).1
    | ⟨41, _⟩ => (outsAt0 m hO c t).2.1
    | ⟨42, _⟩ => (outsAt0 m hO c t).2.2.1
    | ⟨43, _⟩ => (outsAt0 m hO c t).2.2.2.1
    | ⟨44, _⟩ => (outsAt0 m hO c t).2.2.2.2.1
    | ⟨45, _⟩ => (outsAt0 m hO c t).2.2.2.2.2.1
    | ⟨46, _⟩ => (outsAt0 m hO c t).2.2.2.2.2.2.1
    | ⟨47, _⟩ => (outsAt0 m hO c t).2.2.2.2.2.2.2.1
    | ⟨48, _⟩ => (outsAt0 m hO c t).2.2.2.2.2.2.2.2.1
    | ⟨49, _⟩ => (outsAt0 m hO c t).2.2.2.2.2.2.2.2.2.1
    | ⟨50, _⟩ => (outsAt0 m hO c t).2.2.2.2.2.2.2.2.2.2.1
    | ⟨51, _⟩ => (outsAt0 m hO c t).2.2.2.2.2.2.2.2.2.2.2.1
    | ⟨52, _⟩ => (outsAt0 m hO c t).2.2.2.2.2.2.2.2.2.2.2.2
    | ⟨_ + 53, h⟩ => absurd h (Nat.not_lt.2 (Nat.le_add_left _ _))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = iblk m hO c 39 t := by dsimp only [dats]; try rfl
theorem after0_40 (hO : Ok m) (c : Dev nD) (t : Fin (cfgM m hO).N) : (dats m hO 0 c).after 40 t = (outsAt0 m hO c t).1 := by dsimp only [dats]; try rfl
theorem after0_41 (hO : Ok m) (c : Dev nD) (t : Fin (cfgM m hO).N) : (dats m hO 0 c).after 41 t = (outsAt0 m hO c t).2.1 := by dsimp only [dats]; try rfl
theorem after0_42 (hO : Ok m) (c : Dev nD) (t : Fin (cfgM m hO).N) : (dats m hO 0 c).after 42 t = (outsAt0 m hO c t).2.2.1 := by dsimp only [dats]; try rfl
theorem after0_43 (hO : Ok m) (c : Dev nD) (t : Fin (cfgM m hO).N) : (dats m hO 0 c).after 43 t = (outsAt0 m hO c t).2.2.2.1 := by dsimp only [dats]; try rfl
theorem after0_44 (hO : Ok m) (c : Dev nD) (t : Fin (cfgM m hO).N) : (dats m hO 0 c).after 44 t = (outsAt0 m hO c t).2.2.2.2.1 := by dsimp only [dats]; try rfl
theorem after0_45 (hO : Ok m) (c : Dev nD) (t : Fin (cfgM m hO).N) : (dats m hO 0 c).after 45 t = (outsAt0 m hO c t).2.2.2.2.2.1 := by dsimp only [dats]; try rfl
theorem after0_46 (hO : Ok m) (c : Dev nD) (t : Fin (cfgM m hO).N) : (dats m hO 0 c).after 46 t = (outsAt0 m hO c t).2.2.2.2.2.2.1 := by dsimp only [dats]; try rfl
theorem after0_47 (hO : Ok m) (c : Dev nD) (t : Fin (cfgM m hO).N) : (dats m hO 0 c).after 47 t = (outsAt0 m hO c t).2.2.2.2.2.2.2.1 := by dsimp only [dats]; try rfl
theorem after0_48 (hO : Ok m) (c : Dev nD) (t : Fin (cfgM m hO).N) : (dats m hO 0 c).after 48 t = (outsAt0 m hO c t).2.2.2.2.2.2.2.2.1 := by dsimp only [dats]; try rfl
theorem after0_49 (hO : Ok m) (c : Dev nD) (t : Fin (cfgM m hO).N) : (dats m hO 0 c).after 49 t = (outsAt0 m hO c t).2.2.2.2.2.2.2.2.2.1 := by dsimp only [dats]; try rfl
theorem after0_50 (hO : Ok m) (c : Dev nD) (t : Fin (cfgM m hO).N) : (dats m hO 0 c).after 50 t = (outsAt0 m hO c t).2.2.2.2.2.2.2.2.2.2.1 := by dsimp only [dats]; try rfl
theorem after0_51 (hO : Ok m) (c : Dev nD) (t : Fin (cfgM m hO).N) : (dats m hO 0 c).after 51 t = (outsAt0 m hO c t).2.2.2.2.2.2.2.2.2.2.2.1 := by dsimp only [dats]; try rfl
theorem after0_52 (hO : Ok m) (c : Dev nD) (t : Fin (cfgM m hO).N) : (dats m hO 0 c).after 52 t = (outsAt0 m hO c t).2.2.2.2.2.2.2.2.2.2.2.2 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
theorem before0_39 (hO : Ok m) (c : Dev nD) (t : Fin (cfgM m hO).N) (d) : (dats m hO 0 c).before 39 t d = iblk m hO c 39 t :=
  before0_39_of m hO (dats m hO 0 c) (A_eq m hO c 39) (after0_39 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t)
    ∗ owns (c : Thread nD τ) (ms0_39 m hO t) fullShare ((dats m hO 0 c).after 39 t)
    ∗ owns (c : Thread nD τ) (ms0_40 m hO t) fullShare ((dats m hO 0 c).after 40 t)
    ∗ owns (c : Thread nD τ) (ms0_41 m hO t) fullShare ((dats m hO 0 c).after 41 t)
    ∗ owns (c : Thread nD τ) (ms0_42 m hO t) fullShare ((dats m hO 0 c).after 42 t)
    ∗ owns (c : Thread nD τ) (ms0_43 m hO t) fullShare ((dats m hO 0 c).after 43 t)
    ∗ owns (c : Thread nD τ) (ms0_44 m hO t) fullShare ((dats m hO 0 c).after 44 t)
    ∗ owns (c : Thread nD τ) (ms0_45 m hO t) fullShare ((dats m hO 0 c).after 45 t)
    ∗ owns (c : Thread nD τ) (ms0_46 m hO t) fullShare ((dats m hO 0 c).after 46 t)
    ∗ owns (c : Thread nD τ) (ms0_47 m hO t) fullShare ((dats m hO 0 c).after 47 t)
    ∗ owns (c : Thread nD τ) (ms0_48 m hO t) fullShare ((dats m hO 0 c).after 48 t)
    ∗ owns (c : Thread nD τ) (ms0_49 m hO t) fullShare ((dats m hO 0 c).after 49 t)
    ∗ owns (c : Thread nD τ) (ms0_50 m hO t) fullShare ((dats m hO 0 c).after 50 t)
    ∗ owns (c : Thread nD τ) (ms0_51 m hO t) fullShare ((dats m hO 0 c).after 51 t)
    ∗ owns (c : Thread nD τ) (ms0_52 m hO t) fullShare ((dats m hO 0 c).after 52 t))

set_option maxHeartbeats 5200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52]
  rw [show (dats m hO 0 c).Φ t.castSucc = iprop(Pipeline.ΦA spec0 c ∗ Pipeline.ΦT pre0 (tbl m) c) from rfl, PhiT0_eq, PhiA0_eq]
  unfold outsAt0; dsimp only
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩⟩
  iapply ((run0 m hO c t).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [HS0]; · iexact HS0
  isplitl [HS1]; · iexact HS1
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, ⟨%e40, H40⟩, ⟨%e41, H41⟩, ⟨%e42, H42⟩, ⟨%e43, H43⟩, ⟨%e44, H44⟩, ⟨%e45, H45⟩, ⟨%e46, H46⟩, ⟨%e47, H47⟩, ⟨%e48, H48⟩, ⟨%e49, H49⟩, ⟨%e50, H50⟩, ⟨%e51, H51⟩, ⟨%e52, H52⟩, ⟨%fT0, HS0⟩, ⟨%fT1, HS1⟩, HT0⟩
  isplitl [HS0 HS1 Hg HT0]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]
  · unfold owns; iexists _; isplitr
    swap; · iexact H40
    ipureintro; exact View.read_writes_of_cover _ _ _ _ _ (cover0_40 m hO c t)
  isplitl [H41]
  · unfold owns; iexists _; isplitr
    swap; · iexact H41
    ipureintro; exact View.read_writes_of_cover _ _ _ _ _ (cover0_41 m hO c t)
  isplitl [H42]
  · unfold owns; iexists _; isplitr
    swap; · iexact H42
    ipureintro; exact View.read_writes_of_cover _ _ _ _ _ (cover0_42 m hO c t)
  isplitl [H43]
  · unfold owns; iexists _; isplitr
    swap; · iexact H43
    ipureintro; exact View.read_writes_of_cover _ _ _ _ _ (cover0_43 m hO c t)
  isplitl [H44]
  · unfold owns; iexists _; isplitr
    swap; · iexact H44
    ipureintro; exact View.read_writes_of_cover _ _ _ _ _ (cover0_44 m hO c t)
  isplitl [H45]
  · unfold owns; iexists _; isplitr
    swap; · iexact H45
    ipureintro; exact View.read_writes_of_cover _ _ _ _ _ (cover0_45 m hO c t)
  isplitl [H46]
  · unfold owns; iexists _; isplitr
    swap; · iexact H46
    ipureintro; exact View.read_writes_of_cover _ _ _ _ _ (cover0_46 m hO c t)
  isplitl [H47]
  · unfold owns; iexists _; isplitr
    swap; · iexact H47
    ipureintro; exact View.read_writes_of_cover _ _ _ _ _ (cover0_47 m hO c t)
  isplitl [H48]
  · unfold owns; iexists _; isplitr
    swap; · iexact H48
    ipureintro; exact View.read_writes_of_cover _ _ _ _ _ (cover0_48 m hO c t)
  isplitl [H49]
  · unfold owns; iexists _; isplitr
    swap; · iexact H49
    ipureintro; exact View.read_writes_of_cover _ _ _ _ _ (cover0_49 m hO c t)
  isplitl [H50]
  · unfold owns; iexists _; isplitr
    swap; · iexact H50
    ipureintro; exact View.read_writes_of_cover _ _ _ _ _ (cover0_50 m hO c t)
  isplitl [H51]
  · unfold owns; iexists _; isplitr
    swap; · iexact H51
    ipureintro; exact View.read_writes_of_cover _ _ _ _ _ (cover0_51 m hO c t)
  unfold owns; iexists _; isplitr
  swap; · iexact H52
  ipureintro; exact View.read_writes_of_cover _ _ _ _ _ (cover0_52 m hO c t)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.PprojIdeal.Hand

end
-- ==== Proof.PprojIdealOk.lean ====
/- The precondition puts every page that the table names inside the cache. -/
module

public import proofs.«01_k».proof.Defs
public import proofs.«01_k».proof.Proof.PprojIdealFrame
public import proofs.«01_k».proof.Proof.PprojPre

@[expose] public section

set_option maxRecDepth 16384

noncomputable section
open Idealize.ShloMosaic Idealize.ShloMosaic.TcCoe Idealize.SL.Sem

namespace Cert.PprojIdeal.Hand
open Cert.PprojIdeal Cert.PprojIdeal.Gen

variable (m : (ℓ : Loc nD τ sig) → Buf (Elt Ideal) ℓ)

theorem word_le (h : Cert.Pre_PprojIdeal m) (w : S2048.Idx) :
    BitVec.toNat ((m (((0 : Dev nD).tc : Thread nD τ).loc main_arg0) : IVec S2048 32) w) ≤ 2559 :=
  Cert.Pre_pages_exist.Hand.word_le _ _ _ _ _ _ _ _ _ _ (h 0) w

theorem tbl_eq : (tbl m 0 : IVec S2048 32) = m (((0 : Dev nD).tc : Thread nD τ).loc main_arg0) := V_main_arg0 m 0

theorem at_le (h : Cert.Pre_PprojIdeal m) (r : Rect S2048) (h1 : r.shape.numel = 1) : BitVec.toNat ((tbl m).at 0 r h1) ≤ 2559 :=
  le_of_eq_of_le (congrArg BitVec.toNat (congrFun (tbl_eq m) _)) (word_le m h _)

theorem block_le (f : Fin 3 → Nat) (w : BitVec 32) (hf : f = ![w.toNat, 0, 0]) (hw : w.toNat ≤ 2559) :
    ∀ a, (f a + 1) * S1x256x128.size a ≤ S2560x256x128.size a := by
  subst hf
  intro a
  match a with
  | ⟨0, _⟩ => show (w.toNat + 1) * 1 ≤ 2560; omega
  | ⟨1, _⟩ => show (0 + 1) * 256 ≤ 256; omega
  | ⟨2, _⟩ => show (0 + 1) * 128 ≤ 128; omega

theorem ok_of_pre (h : Cert.Pre_PprojIdeal m) : Ok m := by
  unfold Ok ok0
  repeat' apply And.intro
  all_goals exact fun i => ⟨block_le _ _ rfl (at_le m h _ _), Or.inl rfl⟩

end Cert.PprojIdeal.Hand

end
-- ==== Proof.PprojSpec.lean ====
/- The in-projection of the prompt, entry by entry. -/
module

public import proofs.«01_k».proof.Proof.Spec

@[expose] public section

noncomputable section

open Idealize.ShloMosaic

namespace Cert.Spec

/-- Row `n` of sequence `b` in the array of both sequences' rows. -/
def rowAt (b : Fin 2) (n : Fin 8192) : Fin 16384 := ⟨b.val * 8192 + n.val, by omega⟩

/-- One entry of the projection of a modulated row of sequence `b`. -/
def prj {N : Nat} (x : Vec Ideal ⟨2, ![16384, 1024]⟩ .f32) (sh sc : Vec Ideal ⟨3, ![2, 1, 1024]⟩ .f32) (g : Vec Ideal ⟨2, ![1, 1024]⟩ .f32)
    (w : Vec Ideal ⟨2, ![N, 1024]⟩ .bf16) (b : Fin 2) (n : Fin 8192) (e : Fin N) : EReal :=
  ∑ k, modRow (fun k => x (ix2 (rowAt b n) k)) (fun k => g (ix2 0 k)) (fun k => sc (ix3 b 0 k)) (fun k => sh (ix3 b 0 k)) k * w (ix2 e k)

/-- Choosing by the equality of two small words. -/
theorem select_eq {α : Type} (a b : Nat) (ha : a < 8192) (hb : b < 8192) (x y : α) :
    Scalar.select (IntOp.cmpi .eq (BitVec.ofNat 32 a) (BitVec.ofNat 32 b)) x y = if a = b then x else y := by
  have h : BitVec.ofNat 32 a = BitVec.ofNat 32 b ↔ a = b := by
    constructor
    · intro h
      have h2 := congrArg BitVec.toNat h
      simp only [BitVec.toNat_ofNat] at h2
      omega
    · rintro rfl; rfl
  by_cases e : a = b
  · subst e; simp [IntOp.cmpi, Scalar.select]
  · have e2 : ¬ BitVec.ofNat 32 a = BitVec.ofNat 32 b := fun k => e (h.1 k)
    have e3 : (BitVec.ofNat 32 a == BitVec.ofNat 32 b) = false := by simpa using e2
    simp [IntOp.cmpi, Scalar.select, e, e3]

/-- The floor of a quotient by 64, written with the quotient towards zero and its correction. -/
theorem floor_word : ∀ (a : Fin 128) (b : Fin 64),
    Scalar.select
      (IntOp.andi
        (IntOp.cmpi CmpIPredicate.ne
          (if BitVec.ofNat 32 (a.val * 64 + b.val) = 0 then (0 : BitVec 32) else if (BitVec.ofNat 32 (a.val * 64 + b.val)).msb = true then -1 else 1)
          (if 64#32 = 0 then (0 : BitVec 32) else if (64#32).msb = true then -1 else 1))
        (IntOp.cmpi CmpIPredicate.ne (IntOp.remsi ArithUnit.host (BitVec.ofNat 32 (a.val * 64 + b.val)) 64#32) 0#32))
      (IntOp.subi (IntOp.divsi ArithUnit.host (BitVec.ofNat 32 (a.val * 64 + b.val)) 64#32) 1#32)
      (IntOp.divsi ArithUnit.host (BitVec.ofNat 32 (a.val * 64 + b.val)) 64#32) =
    BitVec.ofNat 32 a.val := by decide +kernel

/-- A block's number by a shift of its row's number. -/
theorem shift_word : ∀ (a : Fin 128) (b : Fin 64),
    IntOp.shrsi ArithUnit.vector (BitVec.ofNat 32 (a.val * 64 + b.val)) 6#32 = BitVec.ofNat 32 a.val := by decide +kernel

end Cert.Spec

end
-- ==== Proof.PprojPay.lean ====
/- What the projection call's stored values are, entry by entry. -/
module

public import proofs.«01_k».proof.Proof.Gen.PprojIdeal.Skeleton
public import proofs.«01_k».proof.Proof.PprojSpec
public import Idealize.ShloMosaic.Lib.Pointwise

@[expose] public section

set_option maxRecDepth 16384

noncomputable section
open Idealize.ShloMosaic Idealize.ShloMosaic.TcCoe Idealize.SL.Sem

namespace Cert.PprojIdeal.Hand
open Cert.PprojIdeal Cert.PprojIdeal.Gen Cert.Spec

section
variable (x : Vec Ideal S256x1024 .f32) (g : Vec Ideal S1x1024 .f32) (sc sh : Vec Ideal S1x1x1024 .f32)

/-- The normalized and modulated rows of a tile. -/
theorem pay2_apply (i : Fin 256) (k : Fin 1024) :
    k0_pay2 x g sc sh (ix2 i k) = modRow (fun k => x (ix2 i k)) (fun k => g (ix2 0 k)) (fun k => sc (ix3 0 0 k)) (fun k => sh (ix3 0 0 k)) k := by
  unfold k0_pay2
  dsimp only
  pointwise
  rfl

/-- The columns wanted row by row. -/
theorem pay3_apply (w : Vec Ideal S1024x1024 .bf16) (i : Fin 256) (e : Fin 1024) :
    k0_pay3 x g sc sh w (ix2 i e) = ∑ k, k0_pay2 x g sc sh (ix2 i k) * w (ix2 e k) := by
  unfold k0_pay3
  generalize k0_pay2 x g sc sh = h
  pointwise

/-- The columns wanted feature by feature. -/
theorem pay4_apply (w : Vec Ideal S1312x1024 .bf16) (i : Fin 256) (e : Fin 1312) :
    k0_pay4 x g sc sh w (ix2 e i) = ∑ k, k0_pay2 x g sc sh (ix2 i k) * w (ix2 e k) := by
  unfold k0_pay4
  generalize k0_pay2 x g sc sh = h
  pointwise
  exact Finset.sum_congr rfl fun k _ => mul_comm _ _

theorem pay5_apply (w : Vec Ideal S1312x1024 .bf16) (e i : Fin 256) :
    k0_pay5 x g sc sh w (ix3 0 e i) = k0_pay4 x g sc sh w (ix2 ⟨512 + e.val, by omega⟩ i) := by
  unfold k0_pay5
  generalize k0_pay4 x g sc sh w = h
  pointwise

theorem pay6_apply (w : Vec Ideal S1312x1024 .bf16) (e i : Fin 256) :
    k0_pay6 x g sc sh w (ix2 e i) = k0_pay4 x g sc sh w (ix2 ⟨768 + e.val, by omega⟩ i) := by
  unfold k0_pay6
  generalize k0_pay4 x g sc sh w = h
  pointwise
end

theorem pay7_apply (v : FVec Ideal S256x256 .f32) (e i : Fin 256) : k0_pay7 v (ix3 0 e i) = v (ix2 e i) := by
  unfold k0_pay7
  pointwise

section
variable (z : FVec Ideal S256x1024 .f32) (y : FVec Ideal S1312x256 .f32)

theorem pay8_apply (e i : Fin 256) : k0_pay8 y (ix3 0 e i) = y (ix2 ⟨1024 + e.val, by omega⟩ i) := by
  unfold k0_pay8
  pointwise

theorem pay9_apply (i : Fin 4) (l : Fin 128) : (k0_pay9 : FVec Ideal S4x128 .f32) (ix2 i l) = 0 := by
  unfold k0_pay9
  pointwise

theorem pay10_apply (j : Fin 64) (l : Fin 128) : k0_pay10 z (ix2 j l) = z (ix2 ⟨0 + j.val, by omega⟩ ⟨768 + l.val, by omega⟩) := by
  unfold k0_pay10
  pointwise

theorem pay11_apply (j : Fin 64) (l : Fin 128) : k0_pay11 z (ix2 j l) = z (ix2 ⟨0 + j.val, by omega⟩ ⟨896 + l.val, by omega⟩) := by
  unfold k0_pay11
  pointwise

theorem pay12_apply (j : Fin 64) (l : Fin 128) : k0_pay12 z (ix2 j l) = z (ix2 ⟨64 + j.val, by omega⟩ ⟨768 + l.val, by omega⟩) := by
  unfold k0_pay12
  pointwise

theorem pay13_apply (j : Fin 64) (l : Fin 128) : k0_pay13 z (ix2 j l) = z (ix2 ⟨64 + j.val, by omega⟩ ⟨896 + l.val, by omega⟩) := by
  unfold k0_pay13
  pointwise

theorem pay14_apply (j : Fin 64) (l : Fin 128) : k0_pay14 z (ix2 j l) = z (ix2 ⟨128 + j.val, by omega⟩ ⟨768 + l.val, by omega⟩) := by
  unfold k0_pay14
  pointwise

theorem pay15_apply (j : Fin 64) (l : Fin 128) : k0_pay15 z (ix2 j l) = z (ix2 ⟨128 + j.val, by omega⟩ ⟨896 + l.val, by omega⟩) := by
  unfold k0_pay15
  pointwise

theorem pay16_apply (j : Fin 64) (l : Fin 128) : k0_pay16 z (ix2 j l) = z (ix2 ⟨192 + j.val, by omega⟩ ⟨768 + l.val, by omega⟩) := by
  unfold k0_pay16
  pointwise

theorem pay17_apply (j : Fin 64) (l : Fin 128) : k0_pay17 z (ix2 j l) = z (ix2 ⟨192 + j.val, by omega⟩ ⟨896 + l.val, by omega⟩) := by
  unfold k0_pay17
  pointwise

theorem pay18_apply (i : Fin 256) (j : Fin 512) : k0_pay18 z (ix2 i j) = z (ix2 i ⟨256 + j.val, by omega⟩) := by
  unfold k0_pay18
  pointwise

theorem pay19_apply (e : Fin 512) (i : Fin 256) : k0_pay19 y (ix3 0 e i) = y (ix2 ⟨e.val, by omega⟩ i) * Ideal.ofBits .f32 0x3E38AA3B#32 := by
  unfold k0_pay19
  pointwise

theorem pay20_apply (r : Fin 16) (i : Fin 256) : (k0_pay20 : FVec Ideal S16x256 .bf16) (ix2 r i) = 1 := by
  unfold k0_pay20
  pointwise

theorem pay21_apply (r : Fin 64) (i : Fin 256) : k0_pay21 y (ix2 r i) = y (ix2 ⟨1152 + r.val, by omega⟩ i) := by
  unfold k0_pay21
  pointwise

theorem pay28_apply (r : Fin 64) (i : Fin 256) : k0_pay28 y (ix2 r i) = y (ix2 ⟨960 + r.val, by omega⟩ i) := by
  unfold k0_pay28
  pointwise

theorem pay29_apply (r : Fin 64) (i : Fin 256) : k0_pay29 y (ix2 r i) = y (ix2 ⟨1216 + r.val, by omega⟩ i) := by
  unfold k0_pay29
  pointwise

theorem pay22_apply (r : Fin 64) (i : Fin 256) : k0_pay22 y (ix5 0 0 0 r i) = y (ix2 ⟨896 + r.val, by omega⟩ i) := by
  unfold k0_pay22
  pointwise

theorem pay23_apply (v : FVec Ideal S16x256 .bf16) (r : Fin 16) (i : Fin 256) : k0_pay23 v (ix5 0 0 0 r i) = v (ix2 r i) := by
  unfold k0_pay23
  pointwise

theorem pay31_apply (v : FVec Ideal S16x256 .bf16) (r : Fin 16) (i : Fin 256) : k0_pay31 v (ix5 0 0 0 r i) = v (ix2 r i) := by
  unfold k0_pay31
  pointwise

theorem pay30_apply (v : FVec Ideal S64x256 .bf16) (r : Fin 64) (i : Fin 256) : k0_pay30 v (ix5 0 0 0 r i) = v (ix2 r i) := by
  unfold k0_pay30
  pointwise

theorem pay24_apply (v : FVec Ideal S64x256 .bf16) (r : Fin 64) (i : Fin 128) : k0_pay24 v (ix5 0 0 0 r i) = v (ix2 r ⟨0 + i.val, by omega⟩) := by
  unfold k0_pay24
  pointwise

theorem pay25_apply (v : FVec Ideal S16x256 .bf16) (r : Fin 16) (i : Fin 128) : k0_pay25 v (ix5 0 0 0 r i) = v (ix2 r ⟨0 + i.val, by omega⟩) := by
  unfold k0_pay25
  pointwise

theorem pay26_apply (v : FVec Ideal S64x256 .bf16) (r : Fin 64) (i : Fin 128) : k0_pay26 v (ix5 0 0 0 r i) = v (ix2 r ⟨128 + i.val, by omega⟩) := by
  unfold k0_pay26
  pointwise

theorem pay27_apply (v : FVec Ideal S16x256 .bf16) (r : Fin 16) (i : Fin 128) : k0_pay27 v (ix5 0 0 0 r i) = v (ix2 r ⟨128 + i.val, by omega⟩) := by
  unfold k0_pay27
  pointwise

theorem pay32_apply (v : FVec Ideal S64x256 .bf16) (r : Fin 64) (i : Fin 128) : k0_pay32 v (ix5 0 0 0 r i) = v (ix2 r ⟨0 + i.val, by omega⟩) := by
  unfold k0_pay32
  pointwise

theorem pay33_apply (v : FVec Ideal S16x256 .bf16) (r : Fin 16) (i : Fin 128) : k0_pay33 v (ix5 0 0 0 r i) = v (ix2 r ⟨0 + i.val, by omega⟩) := by
  unfold k0_pay33
  pointwise

theorem pay34_apply (v : FVec Ideal S64x256 .bf16) (r : Fin 64) (i : Fin 128) : k0_pay34 v (ix5 0 0 0 r i) = v (ix2 r ⟨128 + i.val, by omega⟩) := by
  unfold k0_pay34
  pointwise

theorem pay35_apply (v : FVec Ideal S16x256 .bf16) (r : Fin 16) (i : Fin 128) : k0_pay35 v (ix5 0 0 0 r i) = v (ix2 r ⟨128 + i.val, by omega⟩) := by
  unfold k0_pay35
  pointwise

theorem pay36_apply (e : Fin 32) (i : Fin 256) : k0_pay36 y (ix3 0 e i) = sgm (y (ix2 ⟨1280 + e.val, by omega⟩ i)) := by
  unfold k0_pay36
  pointwise
  rfl

theorem pay37_apply (i : Fin 256) (l : Fin 128) : k0_pay37 z (ix3 0 i l) = z (ix2 i ⟨l.val, by omega⟩) := by
  unfold k0_pay37
  pointwise

theorem pay39_apply (i : Fin 256) (l : Fin 128) : k0_pay39 z (ix3 0 i l) = z (ix2 i ⟨128 + l.val, by omega⟩) := by
  unfold k0_pay39
  pointwise
end

/-- The tile's first row in its sequence. -/
theorem base_word : ∀ t : Fin 64,
    (let v134 : BitVec 32 := Scalar.select (Scalar.cmpi .eq 32#32 0#32) 1#32 32#32
     let v135 : BitVec 32 := Scalar.remsi (BitVec.ofNat 32 t.val) v134
     Scalar.muli (Scalar.select (Scalar.andi (Scalar.xori (Scalar.cmpi .slt v135 0#32) (Scalar.cmpi .slt v134 0#32)) (Scalar.cmpi .ne v135 0#32)) (Scalar.addi v135 v134) v135) 256#32)
      = BitVec.ofNat 32 (t.val % 32 * 256) := by decide +kernel

/-- The key columns that tell the blocks apart. -/
theorem pay38_apply (t : Fin 64) (i : Fin 256) (l : Fin 128) :
    k0_pay38 (F := Ideal) (BitVec.ofNat 32 t.val) (ix3 0 i l) = if (t.val % 32 * 256 + i.val) / 64 = l.val then Ideal.ofBits .f32 0x71800000#32 else 0 := by
  unfold k0_pay38
  dsimp only
  have h := base_word t
  dsimp only at h
  rw [h]
  pointwise
  have e : IntOp.addi (BitVec.ofNat 32 (t.val % 32 * 256)) (BitVec.ofNat 32 i.val)
      = BitVec.ofNat 32 ((t.val % 32 * 256 + i.val) / 64 * 64 + (t.val % 32 * 256 + i.val) % 64) := by
    rw [show (t.val % 32 * 256 + i.val) / 64 * 64 + (t.val % 32 * 256 + i.val) % 64 = t.val % 32 * 256 + i.val by omega]
    exact (BitVec.ofNat_add _ _).symm
  rw [e, shift_word ⟨(t.val % 32 * 256 + i.val) / 64, by omega⟩ ⟨(t.val % 32 * 256 + i.val) % 64, by omega⟩]
  exact select_eq _ _ (by dsimp only; omega) (by omega) _ _

end Cert.PprojIdeal.Hand

end
-- ==== Proof.PprojOut.lean ====
/- What the projection call's body leaves in its outputs' blocks, entry by entry. -/
module

public import proofs.«01_k».proof.Proof.PprojIdealRun
public import proofs.«01_k».proof.Proof.PprojPay
public import Idealize.ShloMosaic.Lib.Pipeline.ValueKit

@[expose] public section

set_option maxRecDepth 16384

noncomputable section
open Idealize.ShloMosaic Idealize.ShloMosaic.TcCoe Idealize.SL.Sem

namespace Cert.PprojIdeal.Hand
open Cert.PprojIdeal Cert.PprojIdeal.Gen Cert.Spec

theorem zero2 : (![0, 0] : Fin 2 → Nat) = fun _ => 0 := by funext a; fin_cases a <;> rfl
theorem zero3 : (![0, 0, 0] : Fin 3 → Nat) = fun _ => 0 := by funext a; fin_cases a <;> rfl

section
variable  (c : Dev nD) (i : grid0.Coords) (arg2 : Memref sig .tc .vmem S256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1312x1024 .bf16) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1x256x128 .f32) (harg19 : arg19.IsWhole) (arg20 : Memref sig .tc .vmem S1x256x128 .f32) (harg20 : arg20.IsWhole) (arg21 : Memref sig .tc .vmem S1x256x128 .f32) (harg21 : arg21.IsWhole) (arg22 : Memref sig .tc .vmem S1x256x128 .f32) (harg22 : arg22.IsWhole) (arg23 : Memref sig .tc .vmem S1x256x128 .f32) (harg23 : arg23.IsWhole) (arg24 : Memref sig .tc .vmem S1x256x128 .f32) (harg24 : arg24.IsWhole) (arg25 : Memref sig .tc .vmem S1x256x128 .f32) (harg25 : arg25.IsWhole) (arg26 : Memref sig .tc .vmem S1x256x128 .f32) (harg26 : arg26.IsWhole) (arg27 : Memref sig .tc .vmem S1x256x128 .f32) (harg27 : arg27.IsWhole) (arg28 : Memref sig .tc .vmem S1x256x128 .f32) (harg28 : arg28.IsWhole) (arg29 : Memref sig .tc .vmem S1x256x128 .f32) (harg29 : arg29.IsWhole) (arg30 : Memref sig .tc .vmem S1x256x128 .f32) (harg30 : arg30.IsWhole) (arg31 : Memref sig .tc .vmem S1x256x128 .f32) (harg31 : arg31.IsWhole) (arg32 : Memref sig .tc .vmem S1x256x128 .f32) (harg32 : arg32.IsWhole) (arg33 : Memref sig .tc .vmem S1x256x128 .f32) (harg33 : arg33.IsWhole) (arg34 : Memref sig .tc .vmem S1x256x128 .f32) (harg34 : arg34.IsWhole) (arg35 : Memref sig .tc .vmem S1x256x128 .f32) (harg35 : arg35.IsWhole) (arg36 : Memref sig .tc .vmem S1x256x128 .f32) (harg36 : arg36.IsWhole) (arg37 : Memref sig .tc .vmem S1x256x128 .f32) (harg37 : arg37.IsWhole) (arg38 : Memref sig .tc .vmem S1x256x128 .f32) (harg38 : arg38.IsWhole) (arg39 : Memref sig .tc .vmem S1x256x128 .f32) (harg39 : arg39.IsWhole) (arg40 : Memref sig .tc .vmem S2x4x1x2048 .f32) (harg40 : arg40.IsWhole) (arg41 : Memref sig .tc .vmem S2x4x2048x128 .bf16) (harg41 : arg41.IsWhole) (arg42 : Memref sig .tc .vmem S1x256x256 .f32) (harg42 : arg42.IsWhole) (arg43 : Memref sig .tc .vmem S1x256x256 .f32) (harg43 : arg43.IsWhole) (arg44 : Memref sig .tc .vmem S1x256x256 .f32) (harg44 : arg44.IsWhole) (arg45 : Memref sig .tc .vmem S272x128 .f32) (harg45 : arg45.IsWhole) (arg46 : Memref sig .tc .vmem S272x128 .f32) (harg46 : arg46.IsWhole) (arg47 : Memref sig .tc .vmem S256x512 .f32) (harg47 : arg47.IsWhole) (arg48 : Memref sig .tc .vmem S1x512x256 .bf16) (harg48 : arg48.IsWhole) (arg49 : Memref sig .tc .vmem S1x256x256 .bf16) (harg49 : arg49.IsWhole) (arg50 : Memref sig .tc .vmem S1x1x2x80x256 .bf16) (harg50 : arg50.IsWhole) (arg51 : Memref sig .tc .vmem S1x256x128 .bf16) (harg51 : arg51.IsWhole) (arg52 : Memref sig .tc .vmem S1x2x2x80x128 .bf16) (harg52 : arg52.IsWhole) (arg53 : Memref sig .tc .vmem S1x32x256 .f32) (harg53 : arg53.IsWhole) (arg54 : Memref sig .tc .vmem S64x256 .f32) (harg54 : arg54.IsWhole) (arg55 : Memref sig .tc .vmem S4352x128 .f32) (harg55 : arg55.IsWhole) (arg56 : Memref sig .tc .vmem S4352x128 .f32) (harg56 : arg56.IsWhole)
    (x0 : Vec Ideal S256x1024 .f32) (x1 : Vec Ideal S1x1x1024 .f32) (x2 : Vec Ideal S1x1x1024 .f32) (x3 : Vec Ideal S1x1024 .f32) (x4 : Vec Ideal S1024x1024 .bf16) (x5 : Vec Ideal S1312x1024 .bf16) (x6 : Vec Ideal S1x256x128 .f32) (x7 : Vec Ideal S1x256x128 .f32) (x8 : Vec Ideal S1x256x128 .f32) (x9 : Vec Ideal S1x256x128 .f32) (x10 : Vec Ideal S1x256x128 .f32) (x11 : Vec Ideal S1x256x128 .f32) (x12 : Vec Ideal S1x256x128 .f32) (x13 : Vec Ideal S1x256x128 .f32) (x14 : Vec Ideal S1x256x128 .f32) (x15 : Vec Ideal S1x256x128 .f32) (x16 : Vec Ideal S1x256x128 .f32) (x17 : Vec Ideal S1x256x128 .f32) (x18 : Vec Ideal S1x256x128 .f32) (x19 : Vec Ideal S1x256x128 .f32) (x20 : Vec Ideal S1x256x128 .f32) (x21 : Vec Ideal S1x256x128 .f32) (x22 : Vec Ideal S1x256x128 .f32) (x23 : Vec Ideal S1x256x128 .f32) (x24 : Vec Ideal S1x256x128 .f32) (x25 : Vec Ideal S1x256x128 .f32) (x26 : Vec Ideal S1x256x128 .f32) (x27 : Vec Ideal S1x256x128 .f32) (x28 : Vec Ideal S1x256x128 .f32) (x29 : Vec Ideal S1x256x128 .f32) (x30 : Vec Ideal S1x256x128 .f32) (x31 : Vec Ideal S1x256x128 .f32) (x32 : Vec Ideal S1x256x128 .f32) (x33 : Vec Ideal S1x256x128 .f32) (x34 : Vec Ideal S1x256x128 .f32) (x35 : Vec Ideal S1x256x128 .f32) (x36 : Vec Ideal S1x256x128 .f32) (x37 : Vec Ideal S1x256x128 .f32) (x38 : Vec Ideal S2x4x1x2048 .f32) (x39 : Vec Ideal S2x4x2048x128 .bf16) (xt0 : TbBuf0 (F := Ideal) c tbM0_0)

theorem r_eq : kernelRun0_A.sl.r c arg2 harg2 arg3 harg3 arg4 harg4 arg5 harg5 arg6 harg6 x0 x1 x2 x3 x4 = k0_pay3 x0 x3 x2 x1 x4 := by
  unfold kernelRun0_A.sl.r
  simp only [View.readAt_eq_ld, harg2.read_unread, harg3.read_unread, harg4.read_unread, harg5.read_unread, harg6.read_unread, View.ld_unit_zero (S := S256x1024) zero2, View.ld_unit_zero (S := S1x1024) zero2, View.ld_unit_zero (S := S1024x1024) zero2, View.ld_unit_zero (S := S1312x1024) zero2, View.ld_unit_zero (S := S1x1x1024) zero3]

theorem r1_eq : kernelRun0_A.sl.r_1 c arg2 harg2 arg3 harg3 arg4 harg4 arg5 harg5 arg7 harg7 x0 x1 x2 x3 x5 = k0_pay4 x0 x3 x2 x1 x5 := by
  unfold kernelRun0_A.sl.r_1
  simp only [View.readAt_eq_ld, harg2.read_unread, harg3.read_unread, harg4.read_unread, harg5.read_unread, harg7.read_unread, View.ld_unit_zero (S := S256x1024) zero2, View.ld_unit_zero (S := S1x1024) zero2, View.ld_unit_zero (S := S1024x1024) zero2, View.ld_unit_zero (S := S1312x1024) zero2, View.ld_unit_zero (S := S1x1x1024) zero3]

theorem r2_eq : kernelRun0_A.sl.r_2 c arg2 harg2 arg3 harg3 arg4 harg4 arg5 harg5 arg7 harg7 x0 x1 x2 x3 x5 = k0_pay6 x0 x3 x2 x1 x5 := by
  unfold kernelRun0_A.sl.r_2
  simp only [View.readAt_eq_ld, harg2.read_unread, harg3.read_unread, harg4.read_unread, harg5.read_unread, harg7.read_unread, View.ld_unit_zero (S := S256x1024) zero2, View.ld_unit_zero (S := S1x1024) zero2, View.ld_unit_zero (S := S1024x1024) zero2, View.ld_unit_zero (S := S1312x1024) zero2, View.ld_unit_zero (S := S1x1x1024) zero3]

theorem r3_eq : kernelRun0_A.sl.r_3 c arg2 harg2 arg3 harg3 arg4 harg4 arg5 harg5 arg7 harg7 x0 x1 x2 x3 x5 = k0_pay21 (k0_pay4 x0 x3 x2 x1 x5) := by
  unfold kernelRun0_A.sl.r_3
  rw [r1_eq]

theorem r4_eq : kernelRun0_A.sl.r_4 c arg2 harg2 arg3 harg3 arg4 harg4 arg5 harg5 arg7 harg7 x0 x1 x2 x3 x5 = k0_pay28 (k0_pay4 x0 x3 x2 x1 x5) := by
  unfold kernelRun0_A.sl.r_4
  rw [r1_eq]

theorem r5_eq : kernelRun0_A.sl.r_5 c arg2 harg2 arg3 harg3 arg4 harg4 arg5 harg5 arg7 harg7 x0 x1 x2 x3 x5 = k0_pay29 (k0_pay4 x0 x3 x2 x1 x5) := by
  unfold kernelRun0_A.sl.r_5
  rw [r1_eq]

theorem out40 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).1 = k0_pay5 x0 x3 x2 x1 x5 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).1 = [⟨Rect.unit ![0, 0, 0] S1x256x256.size inb_S1x256x256_S1x256x256_0_0_0, k0_pay5 (View.readAt (Elt Ideal) arg2.view (Rect.unit ![0, 0] S256x1024.size inb_S256x1024_S256x1024_0_0).toLoadRect (harg2.unread x0)) (View.readAt (Elt Ideal) arg5.view (Rect.unit ![0, 0] S1x1024.size inb_S1x1024_S1x1024_0_0).toLoadRect (harg5.unread x3)) (View.readAt (Elt Ideal) arg4.view (Rect.unit ![0, 0, 0] S1x1x1024.size inb_S1x1x1024_S1x1x1024_0_0_0).toLoadRect (harg4.unread x2)) (View.readAt (Elt Ideal) arg3.view (Rect.unit ![0, 0, 0] S1x1x1024.size inb_S1x1x1024_S1x1x1024_0_0_0).toLoadRect (harg3.unread x1)) (View.readAt (Elt Ideal) arg7.view (Rect.unit ![0, 0] S1312x1024.size inb_S1312x1024_S1312x1024_0_0).toLoadRect (harg7.unread x5))⟩] := rfl
  rw [e, View.canon_unit_zero (S := S1x256x256) zero3]
  simp only [View.readAt_eq_ld, harg2.read_unread, harg3.read_unread, harg4.read_unread, harg5.read_unread, harg7.read_unread, View.ld_unit_zero (S := S256x1024) zero2, View.ld_unit_zero (S := S1x1024) zero2, View.ld_unit_zero (S := S1024x1024) zero2, View.ld_unit_zero (S := S1312x1024) zero2, View.ld_unit_zero (S := S1x1x1024) zero3]

theorem out41 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.1 = k0_pay7 (k0_pay6 x0 x3 x2 x1 x5) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.1 = [⟨Rect.unit ![0, 0, 0] S1x256x256.size inb_S1x256x256_S1x256x256_0_0_0, k0_pay7 (kernelRun0_A.sl.r_2 c arg2 harg2 arg3 harg3 arg4 harg4 arg5 harg5 arg7 harg7 x0 x1 x2 x3 x5)⟩] := rfl
  rw [e, View.canon_unit_zero (S := S1x256x256) zero3]
  rw [r2_eq]

theorem out42 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.1 = k0_pay8 (k0_pay4 x0 x3 x2 x1 x5) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.1 = [⟨Rect.unit ![0, 0, 0] S1x256x256.size inb_S1x256x256_S1x256x256_0_0_0, k0_pay8 (kernelRun0_A.sl.r_1 c arg2 harg2 arg3 harg3 arg4 harg4 arg5 harg5 arg7 harg7 x0 x1 x2 x3 x5)⟩] := rfl
  rw [e, View.canon_unit_zero (S := S1x256x256) zero3]
  rw [r1_eq]

theorem out45 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.1 = k0_pay18 (k0_pay3 x0 x3 x2 x1 x4) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.1 = [⟨Rect.unit ![0, 0] S256x512.size inb_S256x512_S256x512_0_0, k0_pay18 (kernelRun0_A.sl.r c arg2 harg2 arg3 harg3 arg4 harg4 arg5 harg5 arg6 harg6 x0 x1 x2 x3 x4)⟩] := rfl
  rw [e, View.canon_unit_zero (S := S256x512) zero2]
  rw [r_eq]

theorem out46 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.1 = k0_pay19 (k0_pay4 x0 x3 x2 x1 x5) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.1 = [⟨Rect.unit ![0, 0, 0] S1x512x256.size inb_S1x512x256_S1x512x256_0_0_0, k0_pay19 (kernelRun0_A.sl.r_1 c arg2 harg2 arg3 harg3 arg4 harg4 arg5 harg5 arg7 harg7 x0 x1 x2 x3 x5)⟩] := rfl
  rw [e, View.canon_unit_zero (S := S1x512x256) zero3]
  rw [r1_eq]

theorem out49 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.1 = k0_pay39 (k0_pay3 x0 x3 x2 x1 x4) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.1 = [⟨Rect.unit ![0, 0, 0] S1x256x128.size inb_S1x256x128_S1x256x128_0_0_0, k0_pay39 (kernelRun0_A.sl.r c arg2 harg2 arg3 harg3 arg4 harg4 arg5 harg5 arg6 harg6 x0 x1 x2 x3 x4)⟩] := rfl
  rw [e, View.canon_unit_zero (S := S1x256x128) zero3]
  rw [r_eq]

theorem out51 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.2.2.1 = k0_pay36 (k0_pay4 x0 x3 x2 x1 x5) := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.2.2.1 = [⟨Rect.unit ![0, 0, 0] S1x32x256.size inb_S1x32x256_S1x32x256_0_0_0, k0_pay36 (kernelRun0_A.sl.r_1 c arg2 harg2 arg3 harg3 arg4 harg4 arg5 harg5 arg7 harg7 x0 x1 x2 x3 x5)⟩] := rfl
  rw [e, View.canon_unit_zero (S := S1x32x256) zero3]
  rw [r1_eq]

set_option maxHeartbeats 4000000 in
theorem out43 (hc : ∀ y, ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.1, y ∈ pc.1.set) (q : Fin 272) (l : Fin 128) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.1 (ix2 q l) = if h : q.val % 68 < 64 then (k0_pay3 x0 x3 x2 x1 x4) (ix2 ⟨q.val / 68 * 64 + q.val % 68, by omega⟩ ⟨768 + l.val, by omega⟩) else 0 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.1 = [⟨Rect.unit ![268, 0] S4x128.size inb_S272x128_S4x128_268_0, k0_pay9 (F := Ideal)⟩,
      ⟨Rect.unit ![204, 0] S64x128.size inb_S272x128_S64x128_204_0, k0_pay16 (kernelRun0_A.sl.r c arg2 harg2 arg3 harg3 arg4 harg4 arg5 harg5 arg6 harg6 x0 x1 x2 x3 x4)⟩,
      ⟨Rect.unit ![200, 0] S4x128.size inb_S272x128_S4x128_200_0, k0_pay9 (F := Ideal)⟩,
      ⟨Rect.unit ![136, 0] S64x128.size inb_S272x128_S64x128_136_0, k0_pay14 (kernelRun0_A.sl.r c arg2 harg2 arg3 harg3 arg4 harg4 arg5 harg5 arg6 harg6 x0 x1 x2 x3 x4)⟩,
      ⟨Rect.unit ![132, 0] S4x128.size inb_S272x128_S4x128_132_0, k0_pay9 (F := Ideal)⟩,
      ⟨Rect.unit ![68, 0] S64x128.size inb_S272x128_S64x128_68_0, k0_pay12 (kernelRun0_A.sl.r c arg2 harg2 arg3 harg3 arg4 harg4 arg5 harg5 arg6 harg6 x0 x1 x2 x3 x4)⟩,
      ⟨Rect.unit ![64, 0] S4x128.size inb_S272x128_S4x128_64_0, k0_pay9 (F := Ideal)⟩,
      ⟨Rect.unit ![0, 0] S64x128.size inb_S272x128_S64x128_0_0, k0_pay10 (kernelRun0_A.sl.r c arg2 harg2 arg3 harg3 arg4 harg4 arg5 harg5 arg6 harg6 x0 x1 x2 x3 x4)⟩] := rfl
  refine View.canon_eq_of_allAt _ _ _ (hc _) ?_
  rw [e]
  refine View.allAt_cons_unit _ _ _ _ _ ?_ ?_
  · intro x hx
    obtain ⟨a, b, rfl⟩ : ∃ (a : Fin 4) (b : Fin 128), x = ix2 a b := ⟨_, _, eq_ix2 _⟩
    have h0 : q.val = 268 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 204 + a.val := hx 0
    have h1 : l.val = 0 + b.val := hx 1
    have h2 : q.val % 68 < 64 := by omega
    rw [dif_pos h2, r_eq]
    exact (pay16_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 200 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 136 + a.val := hx 0
    have h1 : l.val = 0 + b.val := hx 1
    have h2 : q.val % 68 < 64 := by omega
    rw [dif_pos h2, r_eq]
    exact (pay14_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 132 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 68 + a.val := hx 0
    have h1 : l.val = 0 + b.val := hx 1
    have h2 : q.val % 68 < 64 := by omega
    rw [dif_pos h2, r_eq]
    exact (pay12_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 64 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 0 + a.val := hx 0
    have h1 : l.val = 0 + b.val := hx 1
    have h2 : q.val % 68 < 64 := by omega
    rw [dif_pos h2, r_eq]
    exact (pay10_apply _ a b).trans (congrArg _ (congrArg₂ ix2 (Fin.ext (by (try dsimp only); omega)) (Fin.ext (by (try dsimp only); omega))))
  exact View.allAt_nil _ _

set_option maxHeartbeats 4000000 in
theorem out44 (hc : ∀ y, ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.1, y ∈ pc.1.set) (q : Fin 272) (l : Fin 128) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.1 (ix2 q l) = if h : q.val % 68 < 64 then (k0_pay3 x0 x3 x2 x1 x4) (ix2 ⟨q.val / 68 * 64 + q.val % 68, by omega⟩ ⟨896 + l.val, by omega⟩) else 0 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.1 = [⟨Rect.unit ![268, 0] S4x128.size inb_S272x128_S4x128_268_0, k0_pay9 (F := Ideal)⟩,
      ⟨Rect.unit ![204, 0] S64x128.size inb_S272x128_S64x128_204_0, k0_pay17 (kernelRun0_A.sl.r c arg2 harg2 arg3 harg3 arg4 harg4 arg5 harg5 arg6 harg6 x0 x1 x2 x3 x4)⟩,
      ⟨Rect.unit ![200, 0] S4x128.size inb_S272x128_S4x128_200_0, k0_pay9 (F := Ideal)⟩,
      ⟨Rect.unit ![136, 0] S64x128.size inb_S272x128_S64x128_136_0, k0_pay15 (kernelRun0_A.sl.r c arg2 harg2 arg3 harg3 arg4 harg4 arg5 harg5 arg6 harg6 x0 x1 x2 x3 x4)⟩,
      ⟨Rect.unit ![132, 0] S4x128.size inb_S272x128_S4x128_132_0, k0_pay9 (F := Ideal)⟩,
      ⟨Rect.unit ![68, 0] S64x128.size inb_S272x128_S64x128_68_0, k0_pay13 (kernelRun0_A.sl.r c arg2 harg2 arg3 harg3 arg4 harg4 arg5 harg5 arg6 harg6 x0 x1 x2 x3 x4)⟩,
      ⟨Rect.unit ![64, 0] S4x128.size inb_S272x128_S4x128_64_0, k0_pay9 (F := Ideal)⟩,
      ⟨Rect.unit ![0, 0] S64x128.size inb_S272x128_S64x128_0_0, k0_pay11 (kernelRun0_A.sl.r c arg2 harg2 arg3 harg3 arg4 harg4 arg5 harg5 arg6 harg6 x0 x1 x2 x3 x4)⟩] := rfl
  refine View.canon_eq_of_allAt _ _ _ (hc _) ?_
  rw [e]
  refine View.allAt_cons_unit _ _ _ _ _ ?_ ?_
  · intro x hx
    obtain ⟨a, b, rfl⟩ : ∃ (a : Fin 4) (b : Fin 128), x = ix2 a b := ⟨_, _, eq_ix2 _⟩
    have h0 : q.val = 268 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 204 + a.val := hx 0
    have h1 : l.val = 0 + b.val := hx 1
    have h2 : q.val % 68 < 64 := by omega
    rw [dif_pos h2, r_eq]
    exact (pay17_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 200 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 136 + a.val := hx 0
    have h1 : l.val = 0 + b.val := hx 1
    have h2 : q.val % 68 < 64 := by omega
    rw [dif_pos h2, r_eq]
    exact (pay15_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 132 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 68 + a.val := hx 0
    have h1 : l.val = 0 + b.val := hx 1
    have h2 : q.val % 68 < 64 := by omega
    rw [dif_pos h2, r_eq]
    exact (pay13_apply _ a b).trans (congrArg _ (congrArg₂ ix2 (Fin.ext (by (try dsimp only); omega)) (Fin.ext (by (try dsimp only); omega))))
  refine View.allAt_cons_unit _ _ _ _ _ ?_ ?_
  · intro x hx
    obtain ⟨a, b, rfl⟩ : ∃ (a : Fin 4) (b : Fin 128), x = ix2 a b := ⟨_, _, eq_ix2 _⟩
    have h0 : q.val = 64 + a.val := hx 0
    have h2 : ¬ q.val % 68 < 64 := by omega
    rw [dif_neg h2]
    exact pay9_apply a b
  refine View.allAt_cons_unit _ _ _ _ _ ?_ ?_
  · intro x hx
    obtain ⟨a, b, rfl⟩ : ∃ (a : Fin 64) (b : Fin 128), x = ix2 a b := ⟨_, _, eq_ix2 _⟩
    have h0 : q.val = 0 + a.val := hx 0
    have h1 : l.val = 0 + b.val := hx 1
    have h2 : q.val % 68 < 64 := by omega
    rw [dif_pos h2, r_eq]
    exact (pay11_apply _ a b).trans (congrArg _ (congrArg₂ ix2 (Fin.ext (by (try dsimp only); omega)) (Fin.ext (by (try dsimp only); omega))))
  exact View.allAt_nil _ _

set_option maxHeartbeats 4000000 in
theorem out47 (hc : ∀ y, ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.1, y ∈ pc.1.set) (n : Fin 256) (l : Fin 256) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.1 (ix3 0 n l) = if h : l.val < 128 then (k0_pay3 x0 x3 x2 x1 x4) (ix2 n ⟨l.val, by omega⟩) else if ((i 0).val % 32 * 256 + n.val) / 64 = l.val - 128 then Ideal.ofBits .f32 0x71800000#32 else 0 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.1 = [⟨Rect.unit ![0, 0, 128] S1x256x128.size inb_S1x256x256_S1x256x128_0_0_128, k0_pay38 (F := Ideal) (BitVec.ofNat 32 (i 0).val)⟩,
      ⟨Rect.unit ![0, 0, 0] S1x256x128.size inb_S1x256x256_S1x256x128_0_0_0, k0_pay37 (kernelRun0_A.sl.r c arg2 harg2 arg3 harg3 arg4 harg4 arg5 harg5 arg6 harg6 x0 x1 x2 x3 x4)⟩] := rfl
  refine View.canon_eq_of_allAt _ _ _ (hc _) ?_
  rw [e]
  refine View.allAt_cons_unit _ _ _ _ _ ?_ ?_
  · intro x hx
    obtain ⟨u, a, b, rfl⟩ : ∃ (u : Fin 1) (a : Fin 256) (b : Fin 128), x = ix3 u a b := ⟨_, _, _, eq_ix3 _⟩
    obtain rfl : u = 0 := Subsingleton.elim _ _
    have h0 : n.val = 0 + a.val := hx 1
    have h1 : l.val = 128 + b.val := hx 2
    have h2 : ¬ l.val < 128 := by omega
    rw [dif_neg h2]
    refine (pay38_apply (i 0) a b).trans ?_
    rw [show n.val = a.val by omega, show l.val - 128 = b.val by omega]
  refine View.allAt_cons_unit _ _ _ _ _ ?_ ?_
  · intro x hx
    obtain ⟨u, a, b, rfl⟩ : ∃ (u : Fin 1) (a : Fin 256) (b : Fin 128), x = ix3 u a b := ⟨_, _, _, eq_ix3 _⟩
    obtain rfl : u = 0 := Subsingleton.elim _ _
    have h0 : n.val = 0 + a.val := hx 1
    have h1 : l.val = 0 + b.val := hx 2
    have h2 : l.val < 128 := by omega
    rw [dif_pos h2, r_eq]
    exact (pay37_apply _ a b).trans (congrArg _ (congrArg₂ ix2 (Fin.ext (by omega)) (Fin.ext (by (try dsimp only); omega))))
  exact View.allAt_nil _ _

set_option maxHeartbeats 4000000 in
theorem out48 (hc : ∀ y, ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.1, y ∈ pc.1.set) (h : Fin 2) (r : Fin 80) (n : Fin 256) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.1 (ix5 0 0 h r n) = if hr : r.val < 64 then (k0_pay4 x0 x3 x2 x1 x5) (ix2 ⟨896 + h.val * 64 + r.val, by omega⟩ n) else 1 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.1 = [⟨Rect.unit ![0, 0, 1, 64, 0] S1x1x1x16x256.size inb_S1x1x2x80x256_S1x1x1x16x256_0_0_1_64_0, k0_pay31 (k0_pay20 (F := Ideal))⟩,
      ⟨Rect.unit ![0, 0, 1, 0, 0] S1x1x1x64x256.size inb_S1x1x2x80x256_S1x1x1x64x256_0_0_1_0_0, k0_pay30 (kernelRun0_A.sl.r_4 c arg2 harg2 arg3 harg3 arg4 harg4 arg5 harg5 arg7 harg7 x0 x1 x2 x3 x5)⟩,
      ⟨Rect.unit ![0, 0, 0, 64, 0] S1x1x1x16x256.size inb_S1x1x2x80x256_S1x1x1x16x256_0_0_0_64_0, k0_pay23 (k0_pay20 (F := Ideal))⟩,
      ⟨Rect.unit ![0, 0, 0, 0, 0] S1x1x1x64x256.size inb_S1x1x2x80x256_S1x1x1x64x256_0_0_0_0_0, k0_pay22 (kernelRun0_A.sl.r_1 c arg2 harg2 arg3 harg3 arg4 harg4 arg5 harg5 arg7 harg7 x0 x1 x2 x3 x5)⟩] := rfl
  refine View.canon_eq_of_allAt _ _ _ (hc _) ?_
  rw [e]
  refine View.allAt_cons_unit _ _ _ _ _ ?_ ?_
  · intro x hx
    obtain ⟨u, v, w, a, b, rfl⟩ : ∃ (u v w : Fin 1) (a : Fin 16) (b : Fin 256), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 64 + a.val := hx 3
    have h1 : n.val = 0 + b.val := hx 4
    have h2 : ¬ r.val < 64 := by omega
    rw [dif_neg h2]
    exact (pay31_apply _ a b).trans (pay20_apply _ _)
  refine View.allAt_cons_unit _ _ _ _ _ ?_ ?_
  · intro x hx
    obtain ⟨u, v, w, a, b, rfl⟩ : ∃ (u v w : Fin 1) (a : Fin 64) (b : Fin 256), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 0 + a.val := hx 3
    have h1 : n.val = 0 + b.val := hx 4
    have h2 : r.val < 64 := by omega
    rw [dif_pos h2, r4_eq]
    exact (pay30_apply _ a b).trans ((pay28_apply _ _ _).trans (congrArg _ (congrArg₂ ix2 (Fin.ext (by (try dsimp only); omega)) (Fin.ext (by (try dsimp only); omega)))))
  refine View.allAt_cons_unit _ _ _ _ _ ?_ ?_
  · intro x hx
    obtain ⟨u, v, w, a, b, rfl⟩ : ∃ (u v w : Fin 1) (a : Fin 16) (b : Fin 256), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 64 + a.val := hx 3
    have h1 : n.val = 0 + b.val := hx 4
    have h2 : ¬ r.val < 64 := by omega
    rw [dif_neg h2]
    exact (pay23_apply _ a b).trans (pay20_apply _ _)
  refine View.allAt_cons_unit _ _ _ _ _ ?_ ?_
  · intro x hx
    obtain ⟨u, v, w, a, b, rfl⟩ : ∃ (u v w : Fin 1) (a : Fin 64) (b : Fin 256), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 0 + a.val := hx 3
    have h1 : n.val = 0 + b.val := hx 4
    have h2 : r.val < 64 := by omega
    rw [dif_pos h2, r1_eq]
    exact (pay22_apply _ a b).trans ((congrArg _ (congrArg₂ ix2 (Fin.ext (by (try dsimp only); omega)) (Fin.ext (by (try dsimp only); omega)))))
  exact View.allAt_nil _ _

set_option maxHeartbeats 4000000 in
theorem out50 (hc : ∀ y, ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.2.1, y ∈ pc.1.set) (ch : Fin 2) (h : Fin 2) (r : Fin 80) (n : Fin 128) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.2.1 (ix5 0 ch h r n) = if hr : r.val < 64 then (k0_pay4 x0 x3 x2 x1 x5) (ix2 ⟨1152 + h.val * 64 + r.val, by omega⟩ ⟨ch.val * 128 + n.val, by omega⟩) else 1 := by
  have e : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 x0 x1 x2 x3 x4 x5 x6 x7 x8 x9 x10 x11 x12 x13 x14 x15 x16 x17 x18 x19 x20 x21 x22 x23 x24 x25 x26 x27 x28 x29 x30 x31 x32 x33 x34 x35 x36 x37 x38 x39 xt0).2.2.2.2.2.2.2.2.2.2.1 = [⟨Rect.unit ![0, 1, 1, 64, 0] S1x1x1x16x128.size inb_S1x2x2x80x128_S1x1x1x16x128_0_1_1_64_0, k0_pay35 (k0_pay20 (F := Ideal))⟩,
      ⟨Rect.unit ![0, 1, 1, 0, 0] S1x1x1x64x128.size inb_S1x2x2x80x128_S1x1x1x64x128_0_1_1_0_0, k0_pay34 (kernelRun0_A.sl.r_5 c arg2 harg2 arg3 harg3 arg4 harg4 arg5 harg5 arg7 harg7 x0 x1 x2 x3 x5)⟩,
      ⟨Rect.unit ![0, 0, 1, 64, 0] S1x1x1x16x128.size inb_S1x2x2x80x128_S1x1x1x16x128_0_0_1_64_0, k0_pay33 (k0_pay20 (F := Ideal))⟩,
      ⟨Rect.unit ![0, 0, 1, 0, 0] S1x1x1x64x128.size inb_S1x2x2x80x128_S1x1x1x64x128_0_0_1_0_0, k0_pay32 (kernelRun0_A.sl.r_5 c arg2 harg2 arg3 harg3 arg4 harg4 arg5 harg5 arg7 harg7 x0 x1 x2 x3 x5)⟩,
      ⟨Rect.unit ![0, 1, 0, 64, 0] S1x1x1x16x128.size inb_S1x2x2x80x128_S1x1x1x16x128_0_1_0_64_0, k0_pay27 (k0_pay20 (F := Ideal))⟩,
      ⟨Rect.unit ![0, 1, 0, 0, 0] S1x1x1x64x128.size inb_S1x2x2x80x128_S1x1x1x64x128_0_1_0_0_0, k0_pay26 (kernelRun0_A.sl.r_3 c arg2 harg2 arg3 harg3 arg4 harg4 arg5 harg5 arg7 harg7 x0 x1 x2 x3 x5)⟩,
      ⟨Rect.unit ![0, 0, 0, 64, 0] S1x1x1x16x128.size inb_S1x2x2x80x128_S1x1x1x16x128_0_0_0_64_0, k0_pay25 (k0_pay20 (F := Ideal))⟩,
      ⟨Rect.unit ![0, 0, 0, 0, 0] S1x1x1x64x128.size inb_S1x2x2x80x128_S1x1x1x64x128_0_0_0_0_0, k0_pay24 (kernelRun0_A.sl.r_3 c arg2 harg2 arg3 harg3 arg4 harg4 arg5 harg5 arg7 harg7 x0 x1 x2 x3 x5)⟩] := rfl
  refine View.canon_eq_of_allAt _ _ _ (hc _) ?_
  rw [e]
  refine View.allAt_cons_unit _ _ _ _ _ ?_ ?_
  · intro x hx
    obtain ⟨u, v, w, a, b, rfl⟩ : ∃ (u v w : Fin 1) (a : Fin 16) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 64 + a.val := hx 3
    have h1 : n.val = 0 + b.val := hx 4
    have h4 : ch.val = 1 := hx 1
    have h2 : ¬ r.val < 64 := by omega
    rw [dif_neg h2]
    exact (pay35_apply _ a b).trans (pay20_apply _ _)
  refine View.allAt_cons_unit _ _ _ _ _ ?_ ?_
  · intro x hx
    obtain ⟨u, v, w, a, b, rfl⟩ : ∃ (u v w : Fin 1) (a : Fin 64) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 0 + a.val := hx 3
    have h1 : n.val = 0 + b.val := hx 4
    have h4 : ch.val = 1 := hx 1
    have h2 : r.val < 64 := by omega
    rw [dif_pos h2, r5_eq]
    exact (pay34_apply _ a b).trans ((pay29_apply _ _ _).trans (congrArg _ (congrArg₂ ix2 (Fin.ext (by (try dsimp only); omega)) (Fin.ext (by (try dsimp only); omega)))))
  refine View.allAt_cons_unit _ _ _ _ _ ?_ ?_
  · intro x hx
    obtain ⟨u, v, w, a, b, rfl⟩ : ∃ (u v w : Fin 1) (a : Fin 16) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 64 + a.val := hx 3
    have h1 : n.val = 0 + b.val := hx 4
    have h4 : ch.val = 0 := hx 1
    have h2 : ¬ r.val < 64 := by omega
    rw [dif_neg h2]
    exact (pay33_apply _ a b).trans (pay20_apply _ _)
  refine View.allAt_cons_unit _ _ _ _ _ ?_ ?_
  · intro x hx
    obtain ⟨u, v, w, a, b, rfl⟩ : ∃ (u v w : Fin 1) (a : Fin 64) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 1 := hx 2
    have h0 : r.val = 0 + a.val := hx 3
    have h1 : n.val = 0 + b.val := hx 4
    have h4 : ch.val = 0 := hx 1
    have h2 : r.val < 64 := by omega
    rw [dif_pos h2, r5_eq]
    exact (pay32_apply _ a b).trans ((pay29_apply _ _ _).trans (congrArg _ (congrArg₂ ix2 (Fin.ext (by (try dsimp only); omega)) (Fin.ext (by (try dsimp only); omega)))))
  refine View.allAt_cons_unit _ _ _ _ _ ?_ ?_
  · intro x hx
    obtain ⟨u, v, w, a, b, rfl⟩ : ∃ (u v w : Fin 1) (a : Fin 16) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 64 + a.val := hx 3
    have h1 : n.val = 0 + b.val := hx 4
    have h4 : ch.val = 1 := hx 1
    have h2 : ¬ r.val < 64 := by omega
    rw [dif_neg h2]
    exact (pay27_apply _ a b).trans (pay20_apply _ _)
  refine View.allAt_cons_unit _ _ _ _ _ ?_ ?_
  · intro x hx
    obtain ⟨u, v, w, a, b, rfl⟩ : ∃ (u v w : Fin 1) (a : Fin 64) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 0 + a.val := hx 3
    have h1 : n.val = 0 + b.val := hx 4
    have h4 : ch.val = 1 := hx 1
    have h2 : r.val < 64 := by omega
    rw [dif_pos h2, r3_eq]
    exact (pay26_apply _ a b).trans ((pay21_apply _ _ _).trans (congrArg _ (congrArg₂ ix2 (Fin.ext (by (try dsimp only); omega)) (Fin.ext (by (try dsimp only); omega)))))
  refine View.allAt_cons_unit _ _ _ _ _ ?_ ?_
  · intro x hx
    obtain ⟨u, v, w, a, b, rfl⟩ : ∃ (u v w : Fin 1) (a : Fin 16) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 64 + a.val := hx 3
    have h1 : n.val = 0 + b.val := hx 4
    have h4 : ch.val = 0 := hx 1
    have h2 : ¬ r.val < 64 := by omega
    rw [dif_neg h2]
    exact (pay25_apply _ a b).trans (pay20_apply _ _)
  refine View.allAt_cons_unit _ _ _ _ _ ?_ ?_
  · intro x hx
    obtain ⟨u, v, w, a, b, rfl⟩ : ∃ (u v w : Fin 1) (a : Fin 64) (b : Fin 128), x = ix5 u v w a b := ⟨_, _, _, _, _, eq_ix5 _⟩
    obtain rfl : u = 0 := Subsingleton.elim _ _
    obtain rfl : v = 0 := Subsingleton.elim _ _
    obtain rfl : w = 0 := Subsingleton.elim _ _
    have h3 : h.val = 0 := hx 2
    have h0 : r.val = 0 + a.val := hx 3
    have h1 : n.val = 0 + b.val := hx 4
    have h4 : ch.val = 0 := hx 1
    have h2 : r.val < 64 := by omega
    rw [dif_pos h2, r3_eq]
    exact (pay24_apply _ a b).trans ((pay21_apply _ _ _).trans (congrArg _ (congrArg₂ ix2 (Fin.ext (by (try dsimp only); omega)) (Fin.ext (by (try dsimp only); omega)))))
  exact View.allAt_nil _ _

end

end Cert.PprojIdeal.Hand

end
-- ==== Proof.PprojRefVal.lean ====
module

public import proofs.«01_k».proof.Proof.Gen.PprojRefIdeal.Run
public import proofs.«01_k».proof.Proof.PprojSpec
public import Idealize.ShloMosaic.Lib.Pointwise

@[expose] public section

set_option maxRecDepth 16384

noncomputable section
open Idealize.ShloMosaic Idealize.ShloMosaic.TcCoe Idealize.SL.Sem

/-! The reference's in-projection of the prompt, result by result and entry by entry. -/

namespace Cert.PprojRefIdeal.Hand
open Cert.PprojRefIdeal Cert.PprojRefIdeal.Gen Cert.Spec

/-- The normalized and modulated rows. -/
def hmod (x : FVec Ideal S16384x1024 .f32) (g : FVec Ideal S1x1024 .f32) (sc sh : FVec Ideal S2x1x1024 .f32) : FVec Ideal S2x8192x1024 .f32 :=
  (addf (mulf (mulf (mulf (shapeCast _ x shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x shapeCasts_S16384x1024_S2x8192x1024) (shapeCast _ x shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh))

theorem hmod_apply (x : FVec Ideal S16384x1024 .f32) (g : FVec Ideal S1x1024 .f32) (sc sh : FVec Ideal S2x1x1024 .f32) (b : Fin 2) (n : Fin 8192) (k : Fin 1024) :
    hmod x g sc sh (ix3 b n k) = modRow (fun k => x (ix2 (rowAt b n) k)) (fun k => g (ix2 0 k)) (fun k => sc (ix3 b 0 k)) (fun k => sh (ix3 b 0 k)) k := by
  unfold hmod
  pointwise
  rfl

/-- The columns wanted row by row. -/
def zn (h : FVec Ideal S2x8192x1024 .f32) (w : FVec Ideal S1024x1024 .bf16) : FVec Ideal S2x8192x1024 .f32 :=
  (Host.dotGeneral dot_S2x8192x1024_S1024x1024_S2x8192x1024_2_1_01_0_n_n none h (extf .f32 w bitsLt_bf16_f32))

/-- The columns wanted feature by feature. -/
def zt (h : FVec Ideal S2x8192x1024 .f32) (w : FVec Ideal S1312x1024 .bf16) : FVec Ideal S2x1312x8192 .f32 :=
  (transpose S2x1312x8192 [0, 2, 1] (Host.dotGeneral dot_S2x8192x1024_S1312x1024_S2x8192x1312_2_1_01_0_n_n none h (extf .f32 w bitsLt_bf16_f32)) transposes_S2x8192x1312_S2x1312x8192_0_2_1)

theorem zn_apply (x : FVec Ideal S16384x1024 .f32) (g : FVec Ideal S1x1024 .f32) (sc sh : FVec Ideal S2x1x1024 .f32) (w : FVec Ideal S1024x1024 .bf16) (b : Fin 2) (n : Fin 8192) (e : Fin 1024) :
    zn (hmod x g sc sh) w (ix3 b n e) = prj x sh sc g w b n e := by
  unfold zn prj
  simp only [← hmod_apply]
  generalize hmod x g sc sh = h
  pointwise

theorem zt_apply (x : FVec Ideal S16384x1024 .f32) (g : FVec Ideal S1x1024 .f32) (sc sh : FVec Ideal S2x1x1024 .f32) (w : FVec Ideal S1312x1024 .bf16) (b : Fin 2) (n : Fin 8192) (e : Fin 1312) :
    zt (hmod x g sc sh) w (ix3 b e n) = prj x sh sc g w b n e := by
  unfold zt prj
  simp only [← hmod_apply]
  generalize hmod x g sc sh = h
  pointwise

def v32 (z : FVec Ideal S2x1312x8192 .f32) : FVec Ideal S2x256x8192 .f32 :=
  extractStridedSlice S2x256x8192 ![0, 512, 0] z slices_S2x1312x8192_S2x256x8192_0_512_0

def v33 (z : FVec Ideal S2x1312x8192 .f32) : FVec Ideal S2x256x8192 .f32 :=
  extractStridedSlice S2x256x8192 ![0, 768, 0] z slices_S2x1312x8192_S2x256x8192_0_768_0

def v34 (z : FVec Ideal S2x1312x8192 .f32) : FVec Ideal S2x256x8192 .f32 :=
  extractStridedSlice S2x256x8192 ![0, 1024, 0] z slices_S2x1312x8192_S2x256x8192_0_1024_0

def v64 (z : FVec Ideal S2x8192x1024 .f32) : FVec Ideal S16384x512 .f32 :=
  shapeCast _ (extractStridedSlice S2x8192x512 ![0, 0, 256] z slices_S2x8192x1024_S2x8192x512_0_0_256) shapeCasts_S2x8192x512_S16384x512

def v67 (z : FVec Ideal S2x1312x8192 .f32) : FVec Ideal S2x512x8192 .bf16 :=
  truncf .bf16 (mulf (extractStridedSlice S2x512x8192 ![0, 0, 0] z slices_S2x1312x8192_S2x512x8192_0_0_0) (broadcastInDim S2x512x8192 ![] bcast_S_S2x512x8192 (constant S_ .f32 0x3E38AA3B#32))) bitsLt_bf16_f32

def v76 (z : FVec Ideal S2x8192x1024 .f32) : FVec Ideal S2x8192x128 .bf16 :=
  truncf .bf16 (extractStridedSlice S2x8192x128 ![0, 0, 128] z slices_S2x8192x1024_S2x8192x128_0_0_128) bitsLt_bf16_f32

def v89 (z : FVec Ideal S2x1312x8192 .f32) : FVec Ideal S2x32x8192 .f32 :=
  Host.divf (broadcastInDim S2x32x8192 ![] bcast_S_S2x32x8192 (constant S_ .f32 0x3F800000#32)) (addf (broadcastInDim S2x32x8192 ![] bcast_S_S2x32x8192 (constant S_ .f32 0x3F800000#32)) (Host.exp (Host.negf (extractStridedSlice S2x32x8192 ![0, 1280, 0] z slices_S2x1312x8192_S2x32x8192_0_1280_0))))

theorem v32_apply (z : FVec Ideal S2x1312x8192 .f32) (b : Fin 2) (f : Fin 256) (n : Fin 8192) :
    v32 z (ix3 b f n) = z (ix3 b ⟨512 + f.val, by omega⟩ n) := by
  unfold v32; pointwise
theorem v33_apply (z : FVec Ideal S2x1312x8192 .f32) (b : Fin 2) (f : Fin 256) (n : Fin 8192) :
    v33 z (ix3 b f n) = z (ix3 b ⟨768 + f.val, by omega⟩ n) := by
  unfold v33; pointwise
theorem v34_apply (z : FVec Ideal S2x1312x8192 .f32) (b : Fin 2) (f : Fin 256) (n : Fin 8192) :
    v34 z (ix3 b f n) = z (ix3 b ⟨1024 + f.val, by omega⟩ n) := by
  unfold v34; pointwise
theorem v64_apply (z : FVec Ideal S2x8192x1024 .f32) (r : Fin 16384) (j : Fin 512) :
    v64 z (ix2 r j) = z (ix3 ⟨r.val / 8192, by omega⟩ ⟨r.val % 8192, by omega⟩ ⟨256 + j.val, by omega⟩) := by
  unfold v64; pointwise
theorem v67_apply (z : FVec Ideal S2x1312x8192 .f32) (b : Fin 2) (f : Fin 512) (n : Fin 8192) :
    v67 z (ix3 b f n) = z (ix3 b ⟨f.val, by omega⟩ n) * Ideal.ofBits .f32 0x3E38AA3B#32 := by
  unfold v67; pointwise
theorem v76_apply (z : FVec Ideal S2x8192x1024 .f32) (b : Fin 2) (n : Fin 8192) (j : Fin 128) :
    v76 z (ix3 b n j) = z (ix3 b n ⟨128 + j.val, by omega⟩) := by
  unfold v76; pointwise
theorem v89_apply (z : FVec Ideal S2x1312x8192 .f32) (b : Fin 2) (f : Fin 32) (n : Fin 8192) :
    v89 z (ix3 b f n) = sgm (z (ix3 b ⟨1280 + f.val, by omega⟩ n)) := by
  unfold v89; pointwise; rfl

/-- The quotient by 64 of each position. -/
def quo : IVec S8192 32 := (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))
theorem quo_apply (n : Fin 8192) : quo (ix1 n) = BitVec.ofNat 32 (n.val / 64) := by
  unfold quo; simp only [id]; pointwise
  have h := floor_word ⟨n.val / 64, by omega⟩ ⟨n.val % 64, by omega⟩
  rw [show (⟨n.val / 64, by omega⟩ : Fin 128).val * 64 + (⟨n.val % 64, by omega⟩ : Fin 64).val = n.val from by dsimp only; omega] at h
  exact h
def ind : FVec Ideal S8192x128 .f32 := (select (cmpi .eq (broadcastInDim S8192x128 ![0, 1] bcast_S8192x1_S8192x128_0_1 (broadcastInDim S8192x1 ![0] bcast_S8192_S8192x1_0 quo)) (broadcastInDim S8192x128 ![0, 1] bcast_S1x128_S8192x128_0_1 (broadcastInDim S1x128 ![1] bcast_S128_S1x128_1 (iotaInDim S128 32 0)))) (broadcastInDim S8192x128 ![] bcast_S_S8192x128 (constant S_ .f32 0x71800000#32)) (broadcastInDim S8192x128 ![] bcast_S_S8192x128 (constant S_ .f32 0x00000000#32)))
theorem ind_apply (n : Fin 8192) (l : Fin 128) : ind (ix2 n l) = if n.val / 64 = l.val then Ideal.ofBits .f32 0x71800000#32 else 0 := by
  unfold ind
  have h := quo_apply n
  generalize quo = q at *
  pointwise
  rw [h]
  exact select_eq _ _ (by omega) (by omega) _ _

def v68 (z : FVec Ideal S2x8192x1024 .f32) : FVec Ideal S2x8192x256 .bf16 :=
  truncf .bf16 (concatenate S2x8192x256 2 [⟨S2x8192x128, (extractStridedSlice S2x8192x128 ![0, 0, 0] z slices_S2x8192x1024_S2x8192x128_0_0_0)⟩, ⟨S2x8192x128, ((broadcastInDim S2x8192x128 ![0, 1, 2] bcast_S1x8192x128_S2x8192x128_0_1_2 (broadcastInDim S1x8192x128 ![1, 2] bcast_S8192x128_S1x8192x128_1_2 ind)))⟩] concatenates_S2x8192x128_S2x8192x128_S2x8192x256_d2) bitsLt_bf16_f32
theorem v68_apply (z : FVec Ideal S2x8192x1024 .f32) (b : Fin 2) (n : Fin 8192) (l : Fin 256) :
    v68 z (ix3 b n l) = if h : l.val < 128 then z (ix3 b n ⟨l.val, by omega⟩) else if n.val / 64 = l.val - 128 then Ideal.ofBits .f32 0x71800000#32 else 0 := by
  unfold v68
  have h := fun j => ind_apply n j
  generalize ind = q at *
  pointwise
  simp only [h]
def vB (y : FVec Ideal S2x2x64x8192 .f32) : FVec Ideal S2x2x80x8192 .f32 := concatenate S2x2x80x8192 2 [⟨S2x2x64x8192, y⟩, ⟨S2x2x16x8192, (broadcastInDim S2x2x16x8192 ![] bcast_S_S2x2x16x8192 (constant S_ .f32 0x3F800000#32))⟩] concatenates_S2x2x64x8192_S2x2x16x8192_S2x2x80x8192_d2
theorem vB_apply (y : FVec Ideal S2x2x64x8192 .f32) (b h : Fin 2) (r : Fin 80) (n : Fin 8192) :
    vB y (ix4 b h r n) = if hr : r.val < 64 then y (ix4 b h ⟨r.val, hr⟩ n) else 1 := by
  unfold vB; pointwise
def vsA (z : FVec Ideal S2x1312x8192 .f32) : FVec Ideal S2x2x64x8192 .f32 := shapeCast _ (extractStridedSlice S2x128x8192 ![0, 128, 0] (extractStridedSlice S2x256x8192 ![0, 768, 0] z slices_S2x1312x8192_S2x256x8192_0_768_0) slices_S2x256x8192_S2x128x8192_0_128_0) shapeCasts_S2x128x8192_S2x2x64x8192

theorem vsA_apply (z : FVec Ideal S2x1312x8192 .f32) (b h : Fin 2) (r : Fin 64) (n : Fin 8192) :
    vsA z (ix4 b h r n) = z (ix3 b ⟨896 + h.val * 64 + r.val, by omega⟩ n) := by
  unfold vsA; pointwise
  exact congrArg z (congrArg (ix3 b · n) (Fin.ext (by dsimp only; omega)))

def vsC (y : FVec Ideal S2x2x80x8192 .f32) : FVec Ideal S2x16x2x80x512 .bf16 := truncf .bf16 (transpose S2x16x2x80x512 [0, 3, 1, 2, 4] (shapeCast _ y shapeCasts_S2x2x80x8192_S2x2x80x16x512) transposes_S2x2x80x16x512_S2x16x2x80x512_0_3_1_2_4) bitsLt_bf16_f32

theorem vsC_apply (y : FVec Ideal S2x2x80x8192 .f32) (b : Fin 2) (ch : Fin 16) (h : Fin 2) (r : Fin 80) (n : Fin 512) :
    vsC y (ix5 b ch h r n) = y (ix4 b h r ⟨ch.val * 512 + n.val, by omega⟩) := by
  unfold vsC; pointwise

def v75 (z : FVec Ideal S2x1312x8192 .f32) : FVec Ideal S2x16x2x80x512 .bf16 := vsC (vB (vsA z))

theorem v75_apply (z : FVec Ideal S2x1312x8192 .f32) (b : Fin 2) (ch : Fin 16) (h : Fin 2) (r : Fin 80) (n : Fin 512) :
    v75 z (ix5 b ch h r n) = if hr : r.val < 64 then z (ix3 b ⟨896 + h.val * 64 + r.val, by omega⟩ ⟨ch.val * 512 + n.val, by omega⟩) else 1 := by
  unfold v75
  rw [vsC_apply, vB_apply]
  by_cases hr : r.val < 64
  · simp only [hr, ↓reduceDIte]
    exact vsA_apply _ _ _ _ _
  · simp only [hr, ↓reduceDIte]

def vwA (z : FVec Ideal S2x1312x8192 .f32) : FVec Ideal S2x2x64x8192 .f32 := shapeCast _ (extractStridedSlice S2x128x8192 ![0, 128, 0] (extractStridedSlice S2x256x8192 ![0, 1024, 0] z slices_S2x1312x8192_S2x256x8192_0_1024_0) slices_S2x256x8192_S2x128x8192_0_128_0) shapeCasts_S2x128x8192_S2x2x64x8192

theorem vwA_apply (z : FVec Ideal S2x1312x8192 .f32) (b h : Fin 2) (r : Fin 64) (n : Fin 8192) :
    vwA z (ix4 b h r n) = z (ix3 b ⟨1152 + h.val * 64 + r.val, by omega⟩ n) := by
  unfold vwA; pointwise
  exact congrArg z (congrArg (ix3 b · n) (Fin.ext (by dsimp only; omega)))

def vwC (y : FVec Ideal S2x2x80x8192 .f32) : FVec Ideal S2x64x2x80x128 .bf16 := truncf .bf16 (transpose S2x64x2x80x128 [0, 3, 1, 2, 4] (shapeCast _ y shapeCasts_S2x2x80x8192_S2x2x80x64x128) transposes_S2x2x80x64x128_S2x64x2x80x128_0_3_1_2_4) bitsLt_bf16_f32

theorem vwC_apply (y : FVec Ideal S2x2x80x8192 .f32) (b : Fin 2) (ch : Fin 64) (h : Fin 2) (r : Fin 80) (n : Fin 128) :
    vwC y (ix5 b ch h r n) = y (ix4 b h r ⟨ch.val * 128 + n.val, by omega⟩) := by
  unfold vwC; pointwise

def v83 (z : FVec Ideal S2x1312x8192 .f32) : FVec Ideal S2x64x2x80x128 .bf16 := vwC (vB (vwA z))

theorem v83_apply (z : FVec Ideal S2x1312x8192 .f32) (b : Fin 2) (ch : Fin 64) (h : Fin 2) (r : Fin 80) (n : Fin 128) :
    v83 z (ix5 b ch h r n) = if hr : r.val < 64 then z (ix3 b ⟨1152 + h.val * 64 + r.val, by omega⟩ ⟨ch.val * 128 + n.val, by omega⟩) else 1 := by
  unfold v83
  rw [vwC_apply, vB_apply]
  by_cases hr : r.val < 64
  · simp only [hr, ↓reduceDIte]
    exact vwA_apply _ _ _ _ _
  · simp only [hr, ↓reduceDIte]

theorem sitofp_zero : (FloatOps.sitofp FTy.f32 0#32 : Ideal .f32) = 0 := by
  simp [FloatOps.sitofp]

def v60 (z : FVec Ideal S2x8192x1024 .f32) : FVec Ideal S17408x128 .f32 :=
  shapeCast _ (pad S256x68x128 ![0, 0, 0] ![0, 4, 0] ![0, 0, 0] (shapeCast _ (extractStridedSlice S2x8192x128 ![0, 0, 768] z slices_S2x8192x1024_S2x8192x128_0_0_768) shapeCasts_S2x8192x128_S256x64x128) (sitofp .f32 (constantI S_ 32 0#32)) pads_S256x64x128_S256x68x128_000_040_000 h_S_) shapeCasts_S256x68x128_S17408x128

theorem v60_apply (z : FVec Ideal S2x8192x1024 .f32) (q : Fin 17408) (l : Fin 128) :
    v60 z (ix2 q l) = if h : q.val % 68 < 64 then z (ix3 ⟨(q.val / 68) / 128, by omega⟩ ⟨(q.val / 68) % 128 * 64 + q.val % 68, by omega⟩ ⟨768 + l.val, by omega⟩) else 0 := by
  unfold v60; pointwise
  by_cases h : q.val % 68 < 64
  · have h2 : q.val / 68 < 256 ∧ q.val % 68 < 64 := ⟨by omega, h⟩
    simp only [h, h2, and_self, ↓reduceDIte]
  · simp only [h, and_false, ↓reduceDIte]
    exact sitofp_zero

def v63 (z : FVec Ideal S2x8192x1024 .f32) : FVec Ideal S17408x128 .f32 :=
  shapeCast _ (pad S256x68x128 ![0, 0, 0] ![0, 4, 0] ![0, 0, 0] (shapeCast _ (extractStridedSlice S2x8192x128 ![0, 0, 896] z slices_S2x8192x1024_S2x8192x128_0_0_896) shapeCasts_S2x8192x128_S256x64x128) (sitofp .f32 (constantI S_ 32 0#32)) pads_S256x64x128_S256x68x128_000_040_000 h_S_) shapeCasts_S256x68x128_S17408x128

theorem v63_apply (z : FVec Ideal S2x8192x1024 .f32) (q : Fin 17408) (l : Fin 128) :
    v63 z (ix2 q l) = if h : q.val % 68 < 64 then z (ix3 ⟨(q.val / 68) / 128, by omega⟩ ⟨(q.val / 68) % 128 * 64 + q.val % 68, by omega⟩ ⟨896 + l.val, by omega⟩) else 0 := by
  unfold v63; pointwise
  by_cases h : q.val % 68 < 64
  · have h2 : q.val / 68 < 256 ∧ q.val % 68 < 64 := ⟨by omega, h⟩
    simp only [h, h2, and_self, ↓reduceDIte]
  · simp only [h, and_false, ↓reduceDIte]
    exact sitofp_zero

end Cert.PprojRefIdeal.Hand

end
-- ==== Proof.PprojVal.lean ====
module

public import proofs.«01_k».proof.Proof.PprojIdealFrame
public import proofs.«01_k».proof.Proof.PprojOut
public import proofs.«01_k».proof.Proof.PprojRefVal
public import Idealize.ShloMosaic.Lib.Pointwise

@[expose] public section

set_option maxRecDepth 16384

noncomputable section
open Idealize.ShloMosaic Idealize.ShloMosaic.TcCoe Idealize.SL.Sem

/-! What the projection call leaves in its results' arrays. -/

namespace Cert.PprojIdeal.Hand
open Cert.PprojIdeal Cert.PprojIdeal.Gen Cert.Spec
open Idealize.ShloMosaic.Pipeline (Dat)
open Cert.PprojRefIdeal.Hand (zn zt hmod)

variable (m : (ℓ : Loc nD τ sig) → Buf (Elt Ideal) ℓ) (ρ : Dev nD → PrngReg) (hO : Ok m)

theorem idx0 : ∀ t : Fin grid0.N, cc0_transform_0 (grid0.coords t) = ![t.val, 0] := by decide +kernel
theorem idx1 : ∀ t : Fin grid0.N, cc0_transform_1 (grid0.coords t) = ![t.val / 32, 0, 0] := by decide +kernel
theorem idx2 : ∀ t : Fin grid0.N, cc0_transform_2 (grid0.coords t) = ![t.val / 32, 0, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel
theorem idx40 : ∀ t : Fin grid0.N, cc0_transform_40 (grid0.coords t) = ![t.val / 32, 0, t.val % 32] := by decide +kernel
theorem idx41 : ∀ t : Fin grid0.N, cc0_transform_41 (grid0.coords t) = ![t.val / 32, 0, t.val % 32] := by decide +kernel
theorem idx42 : ∀ t : Fin grid0.N, cc0_transform_42 (grid0.coords t) = ![t.val / 32, 0, t.val % 32] := by decide +kernel
theorem idx43 : ∀ t : Fin grid0.N, cc0_transform_43 (grid0.coords t) = ![t.val, 0] := by decide +kernel
theorem idx44 : ∀ t : Fin grid0.N, cc0_transform_44 (grid0.coords t) = ![t.val, 0] := by decide +kernel
theorem idx45 : ∀ t : Fin grid0.N, cc0_transform_45 (grid0.coords t) = ![t.val, 0] := by decide +kernel
theorem idx46 : ∀ t : Fin grid0.N, cc0_transform_46 (grid0.coords t) = ![t.val / 32, 0, t.val % 32] := by decide +kernel
theorem idx47 : ∀ t : Fin grid0.N, cc0_transform_47 (grid0.coords t) = ![t.val / 32, t.val % 32, 0] := by decide +kernel
theorem idx48 : ∀ t : Fin grid0.N, cc0_transform_48 (grid0.coords t) = ![t.val / 32, t.val % 32 / 2, 0, 0, t.val % 32 % 2] := by decide +kernel
theorem idx49 : ∀ t : Fin grid0.N, cc0_transform_49 (grid0.coords t) = ![t.val / 32, t.val % 32, 0] := by decide +kernel
theorem idx50 : ∀ t : Fin grid0.N, cc0_transform_50 (grid0.coords t) = ![t.val / 32, t.val % 32, 0, 0, 0] := by decide +kernel
theorem idx51 : ∀ t : Fin grid0.N, cc0_transform_51 (grid0.coords t) = ![t.val / 32, 0, t.val % 32] := by decide +kernel

theorem crd : ∀ t : Fin grid0.N, (grid0.coords t 0).val = t.val := by decide +kernel

theorem lt64 (t : Fin (cfgM m hO).N) : t.val < 64 := by have := t.isLt; have hN : (cfgM m hO).N = 64 := N_0; omega

/-- The sequence point `t` belongs to, and the position in it of its row `i`. -/
abbrev bat (t : Fin (cfgM m hO).N) : Fin 2 := ⟨t.val / 32, by have := lt64 m hO t; omega⟩
abbrev pos (t : Fin (cfgM m hO).N) (i : Fin 256) : Fin 8192 := ⟨t.val % 32 * 256 + i.val, by omega⟩

/-- The argument arrays. -/
abbrev aX (c : Dev nD) : Vec Ideal S16384x1024 .f32 := m ((c.tc : Thread nD τ).loc main_arg1)
abbrev aSh (c : Dev nD) : Vec Ideal S2x1x1024 .f32 := m ((c.tc : Thread nD τ).loc main_arg2)
abbrev aSc (c : Dev nD) : Vec Ideal S2x1x1024 .f32 := m ((c.tc : Thread nD τ).loc main_arg3)
abbrev aG (c : Dev nD) : Vec Ideal S1x1024 .f32 := m ((c.tc : Thread nD τ).loc main_arg4)
abbrev aWn (c : Dev nD) : Vec Ideal S1024x1024 .bf16 := m ((c.tc : Thread nD τ).loc main_arg5)
abbrev aWt (c : Dev nD) : Vec Ideal S1312x1024 .bf16 := m ((c.tc : Thread nD τ).loc main_arg6)

/-- The projections of the modulated rows: feature by feature, and row by row. -/
def ZT (c : Dev nD) : Vec Ideal Cert.PprojRefIdeal.S2x1312x8192 .f32 := zt (hmod (aX m c) (aG m c) (aSc m c) (aSh m c)) (aWt m c)
def ZN (c : Dev nD) : Vec Ideal Cert.PprojRefIdeal.S2x8192x1024 .f32 := zn (hmod (aX m c) (aG m c) (aSc m c) (aSh m c)) (aWn m c)

theorem blk0 (c : Dev nD) (t : Fin (cfgM m hO).N) (i : Fin 256) (j : Fin 1024) :
    (iblk m hO c 0 t : Vec Ideal S256x1024 .f32) (ix2 i j) = aX m c (ix2 (rowAt (bat m hO t) (pos m hO t i)) j) := by
  unfold iblk
  refine (View.read_apply ..).trans ?_
  show (V m c main_arg1) _ = _
  rw [V_main_arg1]
  refine congrArg (m (c.tc.loc main_arg1)) (funext fun a => Fin.ext ?_)
  have h := idx0 t
  match a with
  | ⟨0, _⟩ => show cc0_transform_0 (grid0.coords t) 0 * 256 + 1 * i.val = t.val / 32 * 8192 + (t.val % 32 * 256 + i.val); rw [h]; simp; omega
  | ⟨1, _⟩ => show cc0_transform_0 (grid0.coords t) 1 * 1024 + 1 * j.val = j.val; rw [h]; simp

theorem blk1 (c : Dev nD) (t : Fin (cfgM m hO).N) (j : Fin 1024) :
    (iblk m hO c 1 t : Vec Ideal S1x1x1024 .f32) (ix3 0 0 j) = aSh m c (ix3 (bat m hO t) 0 j) := by
  unfold iblk
  refine (View.read_apply ..).trans ?_
  show (V m c main_arg2) _ = _
  rw [V_main_arg2]
  refine congrArg (m (c.tc.loc main_arg2)) (funext fun a => Fin.ext ?_)
  have h := idx1 t
  match a with
  | ⟨0, _⟩ => show cc0_transform_1 (grid0.coords t) 0 * 1 + 1 * 0 = t.val / 32; rw [h]; simp
  | ⟨1, _⟩ => show cc0_transform_1 (grid0.coords t) 1 * 1 + 1 * 0 = 0; rw [h]; simp
  | ⟨2, _⟩ => show cc0_transform_1 (grid0.coords t) 2 * 1024 + 1 * j.val = j.val; rw [h]; simp

theorem blk2 (c : Dev nD) (t : Fin (cfgM m hO).N) (j : Fin 1024) :
    (iblk m hO c 2 t : Vec Ideal S1x1x1024 .f32) (ix3 0 0 j) = aSc m c (ix3 (bat m hO t) 0 j) := by
  unfold iblk
  refine (View.read_apply ..).trans ?_
  show (V m c main_arg3) _ = _
  rw [V_main_arg3]
  refine congrArg (m (c.tc.loc main_arg3)) (funext fun a => Fin.ext ?_)
  have h := idx2 t
  match a with
  | ⟨0, _⟩ => show cc0_transform_2 (grid0.coords t) 0 * 1 + 1 * 0 = t.val / 32; rw [h]; simp
  | ⟨1, _⟩ => show cc0_transform_2 (grid0.coords t) 1 * 1 + 1 * 0 = 0; rw [h]; simp
  | ⟨2, _⟩ => show cc0_transform_2 (grid0.coords t) 2 * 1024 + 1 * j.val = j.val; rw [h]; simp

theorem blk3 (c : Dev nD) (t : Fin (cfgM m hO).N) : (iblk m hO c 3 t : Vec Ideal S1x1024 .f32) = aG m c := by
  funext (x : S1x1024.Idx)
  unfold iblk
  refine (View.read_apply ..).trans ?_
  show (V m c main_arg4) _ = _
  rw [V_main_arg4]
  refine congrArg (m (c.tc.loc main_arg4)) (funext fun a => Fin.ext ?_)
  have h := idx3 t
  match a with
  | ⟨0, _⟩ => show cc0_transform_3 (grid0.coords t) 0 * 1 + 1 * (x 0).val = (x 0).val; rw [h]; simp
  | ⟨1, _⟩ => show cc0_transform_3 (grid0.coords t) 1 * 1024 + 1 * (x 1).val = (x 1).val; rw [h]; simp

theorem blk4 (c : Dev nD) (t : Fin (cfgM m hO).N) : (iblk m hO c 4 t : Vec Ideal S1024x1024 .bf16) = aWn m c := by
  funext (x : S1024x1024.Idx)
  unfold iblk
  refine (View.read_apply ..).trans ?_
  show (V m c main_arg5) _ = _
  rw [V_main_arg5]
  refine congrArg (m (c.tc.loc main_arg5)) (funext fun a => Fin.ext ?_)
  have h := idx4 t
  match a with
  | ⟨0, _⟩ => show cc0_transform_4 (grid0.coords t) 0 * 1024 + 1 * (x 0).val = (x 0).val; rw [h]; simp
  | ⟨1, _⟩ => show cc0_transform_4 (grid0.coords t) 1 * 1024 + 1 * (x 1).val = (x 1).val; rw [h]; simp

theorem blk5 (c : Dev nD) (t : Fin (cfgM m hO).N) : (iblk m hO c 5 t : Vec Ideal S1312x1024 .bf16) = aWt m c := by
  funext (x : S1312x1024.Idx)
  unfold iblk
  refine (View.read_apply ..).trans ?_
  show (V m c main_arg6) _ = _
  rw [V_main_arg6]
  refine congrArg (m (c.tc.loc main_arg6)) (funext fun a => Fin.ext ?_)
  have h := idx5 t
  match a with
  | ⟨0, _⟩ => show cc0_transform_5 (grid0.coords t) 0 * 1312 + 1 * (x 0).val = (x 0).val; rw [h]; simp
  | ⟨1, _⟩ => show cc0_transform_5 (grid0.coords t) 1 * 1024 + 1 * (x 1).val = (x 1).val; rw [h]; simp

/-- The block's projections. -/
def Yb (c : Dev nD) (t : Fin (cfgM m hO).N) : FVec Ideal S1312x256 .f32 :=
  k0_pay4 (iblk m hO c 0 t) (iblk m hO c 3 t) (iblk m hO c 2 t) (iblk m hO c 1 t) (iblk m hO c 5 t)
def Zb (c : Dev nD) (t : Fin (cfgM m hO).N) : FVec Ideal S256x1024 .f32 :=
  k0_pay3 (iblk m hO c 0 t) (iblk m hO c 3 t) (iblk m hO c 2 t) (iblk m hO c 1 t) (iblk m hO c 4 t)

theorem yb_apply (c : Dev nD) (t : Fin (cfgM m hO).N) (e : Fin 1312) (i : Fin 256) :
    Yb m hO c t (ix2 e i) = ZT m c (ix3 (bat m hO t) e (pos m hO t i)) := by
  unfold Yb ZT
  refine (pay4_apply _ _ _ _ _ _ _).trans (Eq.trans ?_ (Cert.PprojRefIdeal.Hand.zt_apply ..).symm)
  unfold prj
  refine Finset.sum_congr rfl fun k _ => ?_
  exact congrArg₂ (fun (a b : EReal) => a * b) ((pay2_apply ..).trans (by simp only [blk0, blk1, blk2, blk3])) (congrFun (blk5 m hO c t) (ix2 e k))

theorem zb_apply (c : Dev nD) (t : Fin (cfgM m hO).N) (i : Fin 256) (e : Fin 1024) :
    Zb m hO c t (ix2 i e) = ZN m c (ix3 (bat m hO t) (pos m hO t i) e) := by
  unfold Zb ZN
  refine (pay3_apply _ _ _ _ _ _ _).trans (Eq.trans ?_ (Cert.PprojRefIdeal.Hand.zn_apply ..).symm)
  unfold prj
  refine Finset.sum_congr rfl fun k _ => ?_
  exact congrArg₂ (fun (a b : EReal) => a * b) ((pay2_apply ..).trans (by simp only [blk0, blk1, blk2, blk3])) (congrFun (blk4 m hO c t) (ix2 e k))

end Cert.PprojIdeal.Hand

end
-- ==== Proof.PprojValA.lean ====
module

public import proofs.«01_k».proof.Proof.PprojVal
public import Idealize.ShloMosaic.Lib.Pointwise

@[expose] public section

set_option maxRecDepth 16384

noncomputable section
open Idealize.ShloMosaic Idealize.ShloMosaic.TcCoe Idealize.SL.Sem

/-! What the projection call leaves in its results' arrays. -/

namespace Cert.PprojIdeal.Hand
open Cert.PprojIdeal Cert.PprojIdeal.Gen Cert.Spec
open Idealize.ShloMosaic.Pipeline (Dat)
open Cert.PprojRefIdeal.Hand (zn zt hmod)

variable (m : (ℓ : Loc nD τ sig) → Buf (Elt Ideal) ℓ) (ρ : Dev nD → PrngReg) (hO : Ok m)

/-! ## Window 40 -/

/-- The result array. -/
def G40 (c : Dev nD) : Vec Ideal S2x256x8192 .f32 := Cert.PprojRefIdeal.Hand.v32 (ZT m c)

theorem val40 (c : Dev nD) (t : Fin (cfgM m hO).N) (e : Fin 256) (i : Fin 256) :
    ((dats m hO 0 c).after 40 t : Vec Ideal S1x256x256 .f32) (ix3 0 e i) = G40 m c (ix3 ⟨t.val / 32, by have := lt64 m hO t; omega⟩ e ⟨t.val % 32 * 256 + i.val, by have := lt64 m hO t; omega⟩) := by
  rw [after0_40]
  unfold outsAt0
  dsimp only
  rw [View.read_writes_junk_eq_canon]
  rw [show View.canon (run0 m hO c t).1 = k0_pay5 (iblk m hO c 0 t) (iblk m hO c 3 t) (iblk m hO c 2 t) (iblk m hO c 1 t) (iblk m hO c 5 t) from out40 ..]
  refine ((pay5_apply ..)).trans ?_
  unfold G40
  rw [Cert.PprojRefIdeal.Hand.v32_apply]
  refine (yb_apply m hO c t _ i).trans ?_
  rfl

theorem flushed40 (c : Dev nD) (t : Fin (cfgM m hO).N) :
    (dats m hO 0 c).flushed 40 t = (((cfgM m hO).win 40).blk t).view.read (Elt Ideal) (G40 m c) := by
  funext (x : S1x256x256.Idx)
  obtain ⟨e, i, rfl⟩ : ∃ (e : Fin 256) (i : Fin 256), x = ix3 0 e i := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 40 t : Vec Ideal S1x256x256 .f32) (ix3 0 e i) = _
  rw [val40]
  refine congrArg (G40 m c) (funext fun a => Fin.ext ?_)
  have h := idx40 t
  match a with
  | ⟨0, _⟩ => show t.val / 32 = cc0_transform_40 (grid0.coords t) 0 * 1 + 1 * 0; rw [h]; simp
  | ⟨1, _⟩ => show e.val = cc0_transform_40 (grid0.coords t) 1 * 256 + 1 * e.val; rw [h]; simp
  | ⟨2, _⟩ => show t.val % 32 * 256 + i.val = cc0_transform_40 (grid0.coords t) 2 * 256 + 1 * i.val; rw [h]; simp

theorem covered40 (x : S2x256x8192.Idx) : ∃ t : Fin (cfgM m hO).N, ((cfgM m hO).win 40).flush t = true ∧ x ∈ (((cfgM m hO).win 40).blk t).view.set := by
  have h0 : (x 0).val < 2 := (x 0).isLt
  have h1 : (x 1).val < 256 := (x 1).isLt
  have h2 : (x 2).val < 8192 := (x 2).isLt
  have hN : (cfgM m hO).N = 64 := N_0
  obtain ⟨t, ht⟩ : ∃ t : Fin (cfgM m hO).N, t.val = (x 0).val * 32 + (x 2).val / 256 := ⟨⟨(x 0).val * 32 + (x 2).val / 256, by omega⟩, rfl⟩
  refine ⟨t, flush0_40 _ _, ?_⟩
  have h := idx40 t
  show x ∈ ((View.whole main_v10_0).slice (((cfgM m hO).win 40).rect t)).set
  refine Eq.mpr (congrArg (x ∈ ·) (View.set_slice_whole ..)) ?_
  refine Rect.mem_set_unit.mpr ?_
  intro a
  match a with
  | ⟨0, _⟩ => show cc0_transform_40 (grid0.coords t) 0 * 1 ≤ (x 0).val ∧ (x 0).val < cc0_transform_40 (grid0.coords t) 0 * 1 + 1; rw [h]; simp; omega
  | ⟨1, _⟩ => show cc0_transform_40 (grid0.coords t) 1 * 256 ≤ (x 1).val ∧ (x 1).val < cc0_transform_40 (grid0.coords t) 1 * 256 + 256; rw [h]; simp; omega
  | ⟨2, _⟩ => show cc0_transform_40 (grid0.coords t) 2 * 256 ≤ (x 2).val ∧ (x 2).val < cc0_transform_40 (grid0.coords t) 2 * 256 + 256; rw [h]; simp; omega

theorem final40 (c : Dev nD) : (dats m hO 0 c).arrAt 40 (cfgM m hO).N = G40 m c :=
  (dats m hO 0 c).arrAt_eq_of_cover 40 (G40 m c) (fun t _ => flushed40 m hO c t) (covered40 m hO)

/-! ## Window 41 -/

/-- The result array. -/
def G41 (c : Dev nD) : Vec Ideal S2x256x8192 .f32 := Cert.PprojRefIdeal.Hand.v33 (ZT m c)

theorem val41 (c : Dev nD) (t : Fin (cfgM m hO).N) (e : Fin 256) (i : Fin 256) :
    ((dats m hO 0 c).after 41 t : Vec Ideal S1x256x256 .f32) (ix3 0 e i) = G41 m c (ix3 ⟨t.val / 32, by have := lt64 m hO t; omega⟩ e ⟨t.val % 32 * 256 + i.val, by have := lt64 m hO t; omega⟩) := by
  rw [after0_41]
  unfold outsAt0
  dsimp only
  rw [View.read_writes_junk_eq_canon]
  rw [show View.canon (run0 m hO c t).2.1 = k0_pay7 (k0_pay6 (iblk m hO c 0 t) (iblk m hO c 3 t) (iblk m hO c 2 t) (iblk m hO c 1 t) (iblk m hO c 5 t)) from out41 ..]
  refine (((pay7_apply ..).trans (pay6_apply ..))).trans ?_
  unfold G41
  rw [Cert.PprojRefIdeal.Hand.v33_apply]
  refine (yb_apply m hO c t _ i).trans ?_
  rfl

theorem flushed41 (c : Dev nD) (t : Fin (cfgM m hO).N) :
    (dats m hO 0 c).flushed 41 t = (((cfgM m hO).win 41).blk t).view.read (Elt Ideal) (G41 m c) := by
  funext (x : S1x256x256.Idx)
  obtain ⟨e, i, rfl⟩ : ∃ (e : Fin 256) (i : Fin 256), x = ix3 0 e i := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 41 t : Vec Ideal S1x256x256 .f32) (ix3 0 e i) = _
  rw [val41]
  refine congrArg (G41 m c) (funext fun a => Fin.ext ?_)
  have h := idx41 t
  match a with
  | ⟨0, _⟩ => show t.val / 32 = cc0_transform_41 (grid0.coords t) 0 * 1 + 1 * 0; rw [h]; simp
  | ⟨1, _⟩ => show e.val = cc0_transform_41 (grid0.coords t) 1 * 256 + 1 * e.val; rw [h]; simp
  | ⟨2, _⟩ => show t.val % 32 * 256 + i.val = cc0_transform_41 (grid0.coords t) 2 * 256 + 1 * i.val; rw [h]; simp

theorem covered41 (x : S2x256x8192.Idx) : ∃ t : Fin (cfgM m hO).N, ((cfgM m hO).win 41).flush t = true ∧ x ∈ (((cfgM m hO).win 41).blk t).view.set := by
  have h0 : (x 0).val < 2 := (x 0).isLt
  have h1 : (x 1).val < 256 := (x 1).isLt
  have h2 : (x 2).val < 8192 := (x 2).isLt
  have hN : (cfgM m hO).N = 64 := N_0
  obtain ⟨t, ht⟩ : ∃ t : Fin (cfgM m hO).N, t.val = (x 0).val * 32 + (x 2).val / 256 := ⟨⟨(x 0).val * 32 + (x 2).val / 256, by omega⟩, rfl⟩
  refine ⟨t, flush0_41 _ _, ?_⟩
  have h := idx41 t
  show x ∈ ((View.whole main_v10_1).slice (((cfgM m hO).win 41).rect t)).set
  refine Eq.mpr (congrArg (x ∈ ·) (View.set_slice_whole ..)) ?_
  refine Rect.mem_set_unit.mpr ?_
  intro a
  match a with
  | ⟨0, _⟩ => show cc0_transform_41 (grid0.coords t) 0 * 1 ≤ (x 0).val ∧ (x 0).val < cc0_transform_41 (grid0.coords t) 0 * 1 + 1; rw [h]; simp; omega
  | ⟨1, _⟩ => show cc0_transform_41 (grid0.coords t) 1 * 256 ≤ (x 1).val ∧ (x 1).val < cc0_transform_41 (grid0.coords t) 1 * 256 + 256; rw [h]; simp; omega
  | ⟨2, _⟩ => show cc0_transform_41 (grid0.coords t) 2 * 256 ≤ (x 2).val ∧ (x 2).val < cc0_transform_41 (grid0.coords t) 2 * 256 + 256; rw [h]; simp; omega

theorem final41 (c : Dev nD) : (dats m hO 0 c).arrAt 41 (cfgM m hO).N = G41 m c :=
  (dats m hO 0 c).arrAt_eq_of_cover 41 (G41 m c) (fun t _ => flushed41 m hO c t) (covered41 m hO)

/-! ## Window 42 -/

/-- The result array. -/
def G42 (c : Dev nD) : Vec Ideal S2x256x8192 .f32 := Cert.PprojRefIdeal.Hand.v34 (ZT m c)

theorem val42 (c : Dev nD) (t : Fin (cfgM m hO).N) (e : Fin 256) (i : Fin 256) :
    ((dats m hO 0 c).after 42 t : Vec Ideal S1x256x256 .f32) (ix3 0 e i) = G42 m c (ix3 ⟨t.val / 32, by have := lt64 m hO t; omega⟩ e ⟨t.val % 32 * 256 + i.val, by have := lt64 m hO t; omega⟩) := by
  rw [after0_42]
  unfold outsAt0
  dsimp only
  rw [View.read_writes_junk_eq_canon]
  rw [show View.canon (run0 m hO c t).2.2.1 = k0_pay8 (Yb m hO c t) from out42 ..]
  refine ((pay8_apply ..)).trans ?_
  unfold G42
  rw [Cert.PprojRefIdeal.Hand.v34_apply]
  refine (yb_apply m hO c t _ i).trans ?_
  rfl

theorem flushed42 (c : Dev nD) (t : Fin (cfgM m hO).N) :
    (dats m hO 0 c).flushed 42 t = (((cfgM m hO).win 42).blk t).view.read (Elt Ideal) (G42 m c) := by
  funext (x : S1x256x256.Idx)
  obtain ⟨e, i, rfl⟩ : ∃ (e : Fin 256) (i : Fin 256), x = ix3 0 e i := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 42 t : Vec Ideal S1x256x256 .f32) (ix3 0 e i) = _
  rw [val42]
  refine congrArg (G42 m c) (funext fun a => Fin.ext ?_)
  have h := idx42 t
  match a with
  | ⟨0, _⟩ => show t.val / 32 = cc0_transform_42 (grid0.coords t) 0 * 1 + 1 * 0; rw [h]; simp
  | ⟨1, _⟩ => show e.val = cc0_transform_42 (grid0.coords t) 1 * 256 + 1 * e.val; rw [h]; simp
  | ⟨2, _⟩ => show t.val % 32 * 256 + i.val = cc0_transform_42 (grid0.coords t) 2 * 256 + 1 * i.val; rw [h]; simp

theorem covered42 (x : S2x256x8192.Idx) : ∃ t : Fin (cfgM m hO).N, ((cfgM m hO).win 42).flush t = true ∧ x ∈ (((cfgM m hO).win 42).blk t).view.set := by
  have h0 : (x 0).val < 2 := (x 0).isLt
  have h1 : (x 1).val < 256 := (x 1).isLt
  have h2 : (x 2).val < 8192 := (x 2).isLt
  have hN : (cfgM m hO).N = 64 := N_0
  obtain ⟨t, ht⟩ : ∃ t : Fin (cfgM m hO).N, t.val = (x 0).val * 32 + (x 2).val / 256 := ⟨⟨(x 0).val * 32 + (x 2).val / 256, by omega⟩, rfl⟩
  refine ⟨t, flush0_42 _ _, ?_⟩
  have h := idx42 t
  show x ∈ ((View.whole main_v10_2).slice (((cfgM m hO).win 42).rect t)).set
  refine Eq.mpr (congrArg (x ∈ ·) (View.set_slice_whole ..)) ?_
  refine Rect.mem_set_unit.mpr ?_
  intro a
  match a with
  | ⟨0, _⟩ => show cc0_transform_42 (grid0.coords t) 0 * 1 ≤ (x 0).val ∧ (x 0).val < cc0_transform_42 (grid0.coords t) 0 * 1 + 1; rw [h]; simp; omega
  | ⟨1, _⟩ => show cc0_transform_42 (grid0.coords t) 1 * 256 ≤ (x 1).val ∧ (x 1).val < cc0_transform_42 (grid0.coords t) 1 * 256 + 256; rw [h]; simp; omega
  | ⟨2, _⟩ => show cc0_transform_42 (grid0.coords t) 2 * 256 ≤ (x 2).val ∧ (x 2).val < cc0_transform_42 (grid0.coords t) 2 * 256 + 256; rw [h]; simp; omega

theorem final42 (c : Dev nD) : (dats m hO 0 c).arrAt 42 (cfgM m hO).N = G42 m c :=
  (dats m hO 0 c).arrAt_eq_of_cover 42 (G42 m c) (fun t _ => flushed42 m hO c t) (covered42 m hO)

/-! ## Window 43 -/

/-- The result array. -/
def G43 (c : Dev nD) : Vec Ideal S17408x128 .f32 := Cert.PprojRefIdeal.Hand.v60 (ZN m c)

theorem val43 (c : Dev nD) (t : Fin (cfgM m hO).N) (q : Fin 272) (l : Fin 128) :
    ((dats m hO 0 c).after 43 t : Vec Ideal S272x128 .f32) (ix2 q l) = G43 m c (ix2 ⟨t.val * 272 + q.val, by have := lt64 m hO t; omega⟩ l) := by
  rw [after0_43]
  unfold outsAt0
  dsimp only
  rw [View.read_writes_junk_eq_canon]
  refine (out43 (hc := cover0_43 m hO c t) ..).trans ?_
  unfold G43
  rw [Cert.PprojRefIdeal.Hand.v60_apply]
  have hq : (t.val * 272 + q.val) % 68 = q.val % 68 := by omega
  by_cases h : q.val % 68 < 64
  · rw [dif_pos h, dif_pos (show (t.val * 272 + q.val) % 68 < 64 by omega)]
    refine (zb_apply m hO c t _ _).trans (congrArg (ZN m c) ?_)
    congr 1 <;> (apply Fin.ext; dsimp only; omega)
  · rw [dif_neg h, dif_neg (show ¬ (t.val * 272 + q.val) % 68 < 64 by omega)]

theorem flushed43 (c : Dev nD) (t : Fin (cfgM m hO).N) :
    (dats m hO 0 c).flushed 43 t = (((cfgM m hO).win 43).blk t).view.read (Elt Ideal) (G43 m c) := by
  funext (x : S272x128.Idx)
  obtain ⟨q, l, rfl⟩ : ∃ (q : Fin 272) (l : Fin 128), x = ix2 q l := ⟨x 0, x 1, eq_ix2 x⟩
  refine Eq.trans ?_ (View.read_apply ..).symm
  show ((dats m hO 0 c).after 43 t : Vec Ideal S272x128 .f32) (ix2 q l) = _
  rw [val43]
  refine congrArg (G43 m c) (funext fun a => Fin.ext ?_)
  have h := idx43 t
  match a with
  | ⟨0, _⟩ => show t.val * 272 + q.val = cc0_transform_43 (grid0.coords t) 0 * 272 + 1 * q.val; rw [h]; simp
  | ⟨1, _⟩ => show l.val = cc0_transform_43 (grid0.coords t) 1 * 128 + 1 * l.val; rw [h]; simp

theorem covered43 (x : S17408x128.Idx) : ∃ t : Fin (cfgM m hO).N, ((cfgM m hO).win 43).flush t = true ∧ x ∈ (((cfgM m hO).win 43).blk t).view.set := by
  have h0 : (x 0).val < 17408 := (x 0).isLt
  have h1 : (x 1).val < 128 := (x 1).isLt
  have hN : (cfgM m hO).N = 64 := N_0
  obtain ⟨t, ht⟩ : ∃ t : Fin (cfgM m hO).N, t.val = (x 0).val / 272 := ⟨⟨(x 0).val / 272, by omega⟩, rfl⟩
  refine ⟨t, flush0_43 _ _, ?_⟩
  have h := idx43 t
  show x ∈ ((View.whole main_v10_3).slice (((cfgM m hO).win 43).rect t)).set
  refine Eq.mpr (congrArg (x ∈ ·) (View.set_slice_whole ..)) ?_
  refine Rect.mem_set_unit.mpr ?_
  intro a
  match a with
  | ⟨0, _⟩ => show cc0_transform_43 (grid0.coords t) 0 * 272 ≤ (x 0).val ∧ (x 0).val < cc0_transform_43 (grid0.coords t) 0 * 272 + 272; rw [h]; simp; omega
  | ⟨1, _⟩ => show cc0_transform_43 (grid0.coords t) 1 * 128 ≤ (x 1).val ∧ (x 1).val < cc0_transform_43 (grid0.coords t) 1 * 128 + 128; rw [h]; simp; omega

theorem final43 (c : Dev nD) : (dats m hO 0 c).arrAt 43 (cfgM m hO).N = G43 m c :=
  (dats m hO 0 c).arrAt_eq_of_cover 43 (G43 m c) (fun t _ => flushed43 m hO c t) (covered43 m hO)

/-! ## Window 44 -/

/-- The result array. -/
def G44 (c : Dev nD) : Vec Ideal S17408x128 .f32 := Cert.PprojRefIdeal.Hand.v63 (ZN m c)

theorem val44 (c : Dev nD) (t : Fin (cfgM m hO).N) (q : Fin 272) (l : Fin 128) :
    ((dats m hO 0 c).after 44 t : Vec Ideal S272x128 .f32) (ix2 q l) = G44 m c (ix2 ⟨t.val * 272 + q.val, by have := lt64 m hO t; omega⟩ l) := by
  rw [after0_44]
  unfold outsAt0
  dsimp only
  rw [View.read_writes_junk_eq_canon]
  refine (out44 (hc := cover0_44 m hO c t) ..).trans ?_
  unfold G44
  rw [Cert.PprojRefIdeal.Hand.v63_apply]
  have hq : (t.val * 272 + q.val) % 68 = q.val % 68 := by omega
  by_cases h : q.val % 68 < 64
  · rw [dif_pos h, dif_pos (show (t.val * 272 + q.val) % 68 < 64 by omega)]
    refine (zb_apply m hO c t _ _).trans (congrArg (ZN m c) ?_)
    congr 1 <;> (apply Fin.ext; dsimp only; omega)
  · rw [dif_neg h, dif_neg (show ¬ (t.val * 272 + q.val) % 68 < 64 by omega)]

theorem flushed44 (c : Dev nD) (t : Fin (cfgM m hO).N) :
    (dats m hO 0 c).flushed 44 t = (((cfgM m hO).win 44).blk t).view.read (Elt Ideal) (G44 m c) := by
  funext (x : S272x128.Idx)
  obtain ⟨q, l, rfl⟩ : ∃ (q : Fin 272) (l : Fin 128), x = ix2 q l := ⟨x 0, x 1, eq_ix2 x⟩
  refine Eq.trans ?_ (View.read_apply ..).symm
  show ((dats m hO 0 c).after 44 t : Vec Ideal S272x128 .f32) (ix2 q l) = _
  rw [val44]
  refine congrArg (G44 m c) (funext fun a => Fin.ext ?_)
  have h := idx44 t
  match a with
  | ⟨0, _⟩ => show t.val * 272 + q.val = cc0_transform_44 (grid0.coords t) 0 * 272 + 1 * q.val; rw [h]; simp
  | ⟨1, _⟩ => show l.val = cc0_transform_44 (grid0.coords t) 1 * 128 + 1 * l.val; rw [h]; simp

theorem covered44 (x : S17408x128.Idx) : ∃ t : Fin (cfgM m hO).N, ((cfgM m hO).win 44).flush t = true ∧ x ∈ (((cfgM m hO).win 44).blk t).view.set := by
  have h0 : (x 0).val < 17408 := (x 0).isLt
  have h1 : (x 1).val < 128 := (x 1).isLt
  have hN : (cfgM m hO).N = 64 := N_0
  obtain ⟨t, ht⟩ : ∃ t : Fin (cfgM m hO).N, t.val = (x 0).val / 272 := ⟨⟨(x 0).val / 272, by omega⟩, rfl⟩
  refine ⟨t, flush0_44 _ _, ?_⟩
  have h := idx44 t
  show x ∈ ((View.whole main_v10_4).slice (((cfgM m hO).win 44).rect t)).set
  refine Eq.mpr (congrArg (x ∈ ·) (View.set_slice_whole ..)) ?_
  refine Rect.mem_set_unit.mpr ?_
  intro a
  match a with
  | ⟨0, _⟩ => show cc0_transform_44 (grid0.coords t) 0 * 272 ≤ (x 0).val ∧ (x 0).val < cc0_transform_44 (grid0.coords t) 0 * 272 + 272; rw [h]; simp; omega
  | ⟨1, _⟩ => show cc0_transform_44 (grid0.coords t) 1 * 128 ≤ (x 1).val ∧ (x 1).val < cc0_transform_44 (grid0.coords t) 1 * 128 + 128; rw [h]; simp; omega

theorem final44 (c : Dev nD) : (dats m hO 0 c).arrAt 44 (cfgM m hO).N = G44 m c :=
  (dats m hO 0 c).arrAt_eq_of_cover 44 (G44 m c) (fun t _ => flushed44 m hO c t) (covered44 m hO)

end Cert.PprojIdeal.Hand

end
-- ==== Proof.PprojValB.lean ====
module

public import proofs.«01_k».proof.Proof.PprojVal
public import Idealize.ShloMosaic.Lib.Pointwise

@[expose] public section

set_option maxRecDepth 16384

noncomputable section
open Idealize.ShloMosaic Idealize.ShloMosaic.TcCoe Idealize.SL.Sem

/-! What the projection call leaves in its results' arrays. -/

namespace Cert.PprojIdeal.Hand
open Cert.PprojIdeal Cert.PprojIdeal.Gen Cert.Spec
open Idealize.ShloMosaic.Pipeline (Dat)
open Cert.PprojRefIdeal.Hand (zn zt hmod)

variable (m : (ℓ : Loc nD τ sig) → Buf (Elt Ideal) ℓ) (ρ : Dev nD → PrngReg) (hO : Ok m)

/-! ## Window 45 -/

/-- The result array. -/
def G45 (c : Dev nD) : Vec Ideal S16384x512 .f32 := Cert.PprojRefIdeal.Hand.v64 (ZN m c)

theorem val45 (c : Dev nD) (t : Fin (cfgM m hO).N) (i : Fin 256) (j : Fin 512) :
    ((dats m hO 0 c).after 45 t : Vec Ideal S256x512 .f32) (ix2 i j) = G45 m c (ix2 ⟨t.val * 256 + i.val, by have := lt64 m hO t; omega⟩ j) := by
  rw [after0_45]
  unfold outsAt0
  dsimp only
  rw [View.read_writes_junk_eq_canon]
  rw [show View.canon (run0 m hO c t).2.2.2.2.2.1 = k0_pay18 (Zb m hO c t) from out45 ..]
  refine ((pay18_apply (Zb m hO c t) i j)).trans ?_
  unfold G45
  rw [Cert.PprojRefIdeal.Hand.v64_apply]
  refine (zb_apply m hO c t i _).trans ?_
  refine congrArg (ZN m c) ?_
  congr 1 <;> (apply Fin.ext; dsimp only; omega)

theorem flushed45 (c : Dev nD) (t : Fin (cfgM m hO).N) :
    (dats m hO 0 c).flushed 45 t = (((cfgM m hO).win 45).blk t).view.read (Elt Ideal) (G45 m c) := by
  funext (x : S256x512.Idx)
  obtain ⟨i, j, rfl⟩ : ∃ (i : Fin 256) (j : Fin 512), x = ix2 i j := ⟨x 0, x 1, eq_ix2 x⟩
  refine Eq.trans ?_ (View.read_apply ..).symm
  show ((dats m hO 0 c).after 45 t : Vec Ideal S256x512 .f32) (ix2 i j) = _
  rw [val45]
  refine congrArg (G45 m c) (funext fun a => Fin.ext ?_)
  have h := idx45 t
  match a with
  | ⟨0, _⟩ => show t.val * 256 + i.val = cc0_transform_45 (grid0.coords t) 0 * 256 + 1 * i.val; rw [h]; simp
  | ⟨1, _⟩ => show j.val = cc0_transform_45 (grid0.coords t) 1 * 512 + 1 * j.val; rw [h]; simp

theorem covered45 (x : S16384x512.Idx) : ∃ t : Fin (cfgM m hO).N, ((cfgM m hO).win 45).flush t = true ∧ x ∈ (((cfgM m hO).win 45).blk t).view.set := by
  have h0 : (x 0).val < 16384 := (x 0).isLt
  have h1 : (x 1).val < 512 := (x 1).isLt
  have hN : (cfgM m hO).N = 64 := N_0
  obtain ⟨t, ht⟩ : ∃ t : Fin (cfgM m hO).N, t.val = (x 0).val / 256 := ⟨⟨(x 0).val / 256, by omega⟩, rfl⟩
  refine ⟨t, flush0_45 _ _, ?_⟩
  have h := idx45 t
  show x ∈ ((View.whole main_v10_5).slice (((cfgM m hO).win 45).rect t)).set
  refine Eq.mpr (congrArg (x ∈ ·) (View.set_slice_whole ..)) ?_
  refine Rect.mem_set_unit.mpr ?_
  intro a
  match a with
  | ⟨0, _⟩ => show cc0_transform_45 (grid0.coords t) 0 * 256 ≤ (x 0).val ∧ (x 0).val < cc0_transform_45 (grid0.coords t) 0 * 256 + 256; rw [h]; simp; omega
  | ⟨1, _⟩ => show cc0_transform_45 (grid0.coords t) 1 * 512 ≤ (x 1).val ∧ (x 1).val < cc0_transform_45 (grid0.coords t) 1 * 512 + 512; rw [h]; simp; omega

theorem final45 (c : Dev nD) : (dats m hO 0 c).arrAt 45 (cfgM m hO).N = G45 m c :=
  (dats m hO 0 c).arrAt_eq_of_cover 45 (G45 m c) (fun t _ => flushed45 m hO c t) (covered45 m hO)

/-! ## Window 46 -/

/-- The result array. -/
def G46 (c : Dev nD) : Vec Ideal S2x512x8192 .bf16 := Cert.PprojRefIdeal.Hand.v67 (ZT m c)

theorem val46 (c : Dev nD) (t : Fin (cfgM m hO).N) (e : Fin 512) (i : Fin 256) :
    ((dats m hO 0 c).after 46 t : Vec Ideal S1x512x256 .bf16) (ix3 0 e i) = G46 m c (ix3 ⟨t.val / 32, by have := lt64 m hO t; omega⟩ e ⟨t.val % 32 * 256 + i.val, by have := lt64 m hO t; omega⟩) := by
  rw [after0_46]
  unfold outsAt0
  dsimp only
  rw [View.read_writes_junk_eq_canon]
  rw [show View.canon (run0 m hO c t).2.2.2.2.2.2.1 = k0_pay19 (Yb m hO c t) from out46 ..]
  refine ((pay19_apply (Yb m hO c t) e i)).trans ?_
  unfold G46
  rw [Cert.PprojRefIdeal.Hand.v67_apply]
  refine (congrArg (· * Ideal.ofBits .f32 0x3E38AA3B#32) (yb_apply m hO c t _ i)).trans ?_
  rfl

theorem flushed46 (c : Dev nD) (t : Fin (cfgM m hO).N) :
    (dats m hO 0 c).flushed 46 t = (((cfgM m hO).win 46).blk t).view.read (Elt Ideal) (G46 m c) := by
  funext (x : S1x512x256.Idx)
  obtain ⟨e, i, rfl⟩ : ∃ (e : Fin 512) (i : Fin 256), x = ix3 0 e i := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 46 t : Vec Ideal S1x512x256 .bf16) (ix3 0 e i) = _
  rw [val46]
  refine congrArg (G46 m c) (funext fun a => Fin.ext ?_)
  have h := idx46 t
  match a with
  | ⟨0, _⟩ => show t.val / 32 = cc0_transform_46 (grid0.coords t) 0 * 1 + 1 * 0; rw [h]; simp
  | ⟨1, _⟩ => show e.val = cc0_transform_46 (grid0.coords t) 1 * 512 + 1 * e.val; rw [h]; simp
  | ⟨2, _⟩ => show t.val % 32 * 256 + i.val = cc0_transform_46 (grid0.coords t) 2 * 256 + 1 * i.val; rw [h]; simp

theorem covered46 (x : S2x512x8192.Idx) : ∃ t : Fin (cfgM m hO).N, ((cfgM m hO).win 46).flush t = true ∧ x ∈ (((cfgM m hO).win 46).blk t).view.set := by
  have h0 : (x 0).val < 2 := (x 0).isLt
  have h1 : (x 1).val < 512 := (x 1).isLt
  have h2 : (x 2).val < 8192 := (x 2).isLt
  have hN : (cfgM m hO).N = 64 := N_0
  obtain ⟨t, ht⟩ : ∃ t : Fin (cfgM m hO).N, t.val = (x 0).val * 32 + (x 2).val / 256 := ⟨⟨(x 0).val * 32 + (x 2).val / 256, by omega⟩, rfl⟩
  refine ⟨t, flush0_46 _ _, ?_⟩
  have h := idx46 t
  show x ∈ ((View.whole main_v10_6).slice (((cfgM m hO).win 46).rect t)).set
  refine Eq.mpr (congrArg (x ∈ ·) (View.set_slice_whole ..)) ?_
  refine Rect.mem_set_unit.mpr ?_
  intro a
  match a with
  | ⟨0, _⟩ => show cc0_transform_46 (grid0.coords t) 0 * 1 ≤ (x 0).val ∧ (x 0).val < cc0_transform_46 (grid0.coords t) 0 * 1 + 1; rw [h]; simp; omega
  | ⟨1, _⟩ => show cc0_transform_46 (grid0.coords t) 1 * 512 ≤ (x 1).val ∧ (x 1).val < cc0_transform_46 (grid0.coords t) 1 * 512 + 512; rw [h]; simp; omega
  | ⟨2, _⟩ => show cc0_transform_46 (grid0.coords t) 2 * 256 ≤ (x 2).val ∧ (x 2).val < cc0_transform_46 (grid0.coords t) 2 * 256 + 256; rw [h]; simp; omega

theorem final46 (c : Dev nD) : (dats m hO 0 c).arrAt 46 (cfgM m hO).N = G46 m c :=
  (dats m hO 0 c).arrAt_eq_of_cover 46 (G46 m c) (fun t _ => flushed46 m hO c t) (covered46 m hO)

/-! ## Window 49 -/

/-- The result array. -/
def G49 (c : Dev nD) : Vec Ideal S2x8192x128 .bf16 := Cert.PprojRefIdeal.Hand.v76 (ZN m c)

theorem val49 (c : Dev nD) (t : Fin (cfgM m hO).N) (n : Fin 256) (l : Fin 128) :
    ((dats m hO 0 c).after 49 t : Vec Ideal S1x256x128 .bf16) (ix3 0 n l) = G49 m c (ix3 ⟨t.val / 32, by have := lt64 m hO t; omega⟩ ⟨t.val % 32 * 256 + n.val, by have := lt64 m hO t; omega⟩ l) := by
  rw [after0_49]
  unfold outsAt0
  dsimp only
  rw [View.read_writes_junk_eq_canon]
  rw [show View.canon (run0 m hO c t).2.2.2.2.2.2.2.2.2.1 = k0_pay39 (Zb m hO c t) from out49 ..]
  refine ((pay39_apply (Zb m hO c t) n l)).trans ?_
  unfold G49
  rw [Cert.PprojRefIdeal.Hand.v76_apply]
  refine (zb_apply m hO c t n _).trans ?_
  rfl

theorem flushed49 (c : Dev nD) (t : Fin (cfgM m hO).N) :
    (dats m hO 0 c).flushed 49 t = (((cfgM m hO).win 49).blk t).view.read (Elt Ideal) (G49 m c) := by
  funext (x : S1x256x128.Idx)
  obtain ⟨n, l, rfl⟩ : ∃ (n : Fin 256) (l : Fin 128), x = ix3 0 n l := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 49 t : Vec Ideal S1x256x128 .bf16) (ix3 0 n l) = _
  rw [val49]
  refine congrArg (G49 m c) (funext fun a => Fin.ext ?_)
  have h := idx49 t
  match a with
  | ⟨0, _⟩ => show t.val / 32 = cc0_transform_49 (grid0.coords t) 0 * 1 + 1 * 0; rw [h]; simp
  | ⟨1, _⟩ => show t.val % 32 * 256 + n.val = cc0_transform_49 (grid0.coords t) 1 * 256 + 1 * n.val; rw [h]; simp
  | ⟨2, _⟩ => show l.val = cc0_transform_49 (grid0.coords t) 2 * 128 + 1 * l.val; rw [h]; simp

theorem covered49 (x : S2x8192x128.Idx) : ∃ t : Fin (cfgM m hO).N, ((cfgM m hO).win 49).flush t = true ∧ x ∈ (((cfgM m hO).win 49).blk t).view.set := by
  have h0 : (x 0).val < 2 := (x 0).isLt
  have h1 : (x 1).val < 8192 := (x 1).isLt
  have h2 : (x 2).val < 128 := (x 2).isLt
  have hN : (cfgM m hO).N = 64 := N_0
  obtain ⟨t, ht⟩ : ∃ t : Fin (cfgM m hO).N, t.val = (x 0).val * 32 + (x 1).val / 256 := ⟨⟨(x 0).val * 32 + (x 1).val / 256, by omega⟩, rfl⟩
  refine ⟨t, flush0_49 _ _, ?_⟩
  have h := idx49 t
  show x ∈ ((View.whole main_v10_9).slice (((cfgM m hO).win 49).rect t)).set
  refine Eq.mpr (congrArg (x ∈ ·) (View.set_slice_whole ..)) ?_
  refine Rect.mem_set_unit.mpr ?_
  intro a
  match a with
  | ⟨0, _⟩ => show cc0_transform_49 (grid0.coords t) 0 * 1 ≤ (x 0).val ∧ (x 0).val < cc0_transform_49 (grid0.coords t) 0 * 1 + 1; rw [h]; simp; omega
  | ⟨1, _⟩ => show cc0_transform_49 (grid0.coords t) 1 * 256 ≤ (x 1).val ∧ (x 1).val < cc0_transform_49 (grid0.coords t) 1 * 256 + 256; rw [h]; simp; omega
  | ⟨2, _⟩ => show cc0_transform_49 (grid0.coords t) 2 * 128 ≤ (x 2).val ∧ (x 2).val < cc0_transform_49 (grid0.coords t) 2 * 128 + 128; rw [h]; simp; omega

theorem final49 (c : Dev nD) : (dats m hO 0 c).arrAt 49 (cfgM m hO).N = G49 m c :=
  (dats m hO 0 c).arrAt_eq_of_cover 49 (G49 m c) (fun t _ => flushed49 m hO c t) (covered49 m hO)

/-! ## Window 51 -/

/-- The result array. -/
def G51 (c : Dev nD) : Vec Ideal S2x32x8192 .f32 := Cert.PprojRefIdeal.Hand.v89 (ZT m c)

theorem val51 (c : Dev nD) (t : Fin (cfgM m hO).N) (e : Fin 32) (i : Fin 256) :
    ((dats m hO 0 c).after 51 t : Vec Ideal S1x32x256 .f32) (ix3 0 e i) = G51 m c (ix3 ⟨t.val / 32, by have := lt64 m hO t; omega⟩ e ⟨t.val % 32 * 256 + i.val, by have := lt64 m hO t; omega⟩) := by
  rw [after0_51]
  unfold outsAt0
  dsimp only
  rw [View.read_writes_junk_eq_canon]
  rw [show View.canon (run0 m hO c t).2.2.2.2.2.2.2.2.2.2.2.1 = k0_pay36 (Yb m hO c t) from out51 ..]
  refine ((pay36_apply (Yb m hO c t) e i)).trans ?_
  unfold G51
  rw [Cert.PprojRefIdeal.Hand.v89_apply]
  refine (congrArg sgm (yb_apply m hO c t _ i)).trans ?_
  rfl

theorem flushed51 (c : Dev nD) (t : Fin (cfgM m hO).N) :
    (dats m hO 0 c).flushed 51 t = (((cfgM m hO).win 51).blk t).view.read (Elt Ideal) (G51 m c) := by
  funext (x : S1x32x256.Idx)
  obtain ⟨e, i, rfl⟩ : ∃ (e : Fin 32) (i : Fin 256), x = ix3 0 e i := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 51 t : Vec Ideal S1x32x256 .f32) (ix3 0 e i) = _
  rw [val51]
  refine congrArg (G51 m c) (funext fun a => Fin.ext ?_)
  have h := idx51 t
  match a with
  | ⟨0, _⟩ => show t.val / 32 = cc0_transform_51 (grid0.coords t) 0 * 1 + 1 * 0; rw [h]; simp
  | ⟨1, _⟩ => show e.val = cc0_transform_51 (grid0.coords t) 1 * 32 + 1 * e.val; rw [h]; simp
  | ⟨2, _⟩ => show t.val % 32 * 256 + i.val = cc0_transform_51 (grid0.coords t) 2 * 256 + 1 * i.val; rw [h]; simp

theorem covered51 (x : S2x32x8192.Idx) : ∃ t : Fin (cfgM m hO).N, ((cfgM m hO).win 51).flush t = true ∧ x ∈ (((cfgM m hO).win 51).blk t).view.set := by
  have h0 : (x 0).val < 2 := (x 0).isLt
  have h1 : (x 1).val < 32 := (x 1).isLt
  have h2 : (x 2).val < 8192 := (x 2).isLt
  have hN : (cfgM m hO).N = 64 := N_0
  obtain ⟨t, ht⟩ : ∃ t : Fin (cfgM m hO).N, t.val = (x 0).val * 32 + (x 2).val / 256 := ⟨⟨(x 0).val * 32 + (x 2).val / 256, by omega⟩, rfl⟩
  refine ⟨t, flush0_51 _ _, ?_⟩
  have h := idx51 t
  show x ∈ ((View.whole main_v10_11).slice (((cfgM m hO).win 51).rect t)).set
  refine Eq.mpr (congrArg (x ∈ ·) (View.set_slice_whole ..)) ?_
  refine Rect.mem_set_unit.mpr ?_
  intro a
  match a with
  | ⟨0, _⟩ => show cc0_transform_51 (grid0.coords t) 0 * 1 ≤ (x 0).val ∧ (x 0).val < cc0_transform_51 (grid0.coords t) 0 * 1 + 1; rw [h]; simp; omega
  | ⟨1, _⟩ => show cc0_transform_51 (grid0.coords t) 1 * 32 ≤ (x 1).val ∧ (x 1).val < cc0_transform_51 (grid0.coords t) 1 * 32 + 32; rw [h]; simp; omega
  | ⟨2, _⟩ => show cc0_transform_51 (grid0.coords t) 2 * 256 ≤ (x 2).val ∧ (x 2).val < cc0_transform_51 (grid0.coords t) 2 * 256 + 256; rw [h]; simp; omega

theorem final51 (c : Dev nD) : (dats m hO 0 c).arrAt 51 (cfgM m hO).N = G51 m c :=
  (dats m hO 0 c).arrAt_eq_of_cover 51 (G51 m c) (fun t _ => flushed51 m hO c t) (covered51 m hO)

end Cert.PprojIdeal.Hand

end
-- ==== Proof.PprojValC.lean ====
module

public import proofs.«01_k».proof.Proof.PprojVal
public import Idealize.ShloMosaic.Lib.Pointwise

@[expose] public section

set_option maxRecDepth 16384

noncomputable section
open Idealize.ShloMosaic Idealize.ShloMosaic.TcCoe Idealize.SL.Sem

/-! What the projection call leaves in its results' arrays. -/

namespace Cert.PprojIdeal.Hand
open Cert.PprojIdeal Cert.PprojIdeal.Gen Cert.Spec
open Idealize.ShloMosaic.Pipeline (Dat)
open Cert.PprojRefIdeal.Hand (zn zt hmod)

variable (m : (ℓ : Loc nD τ sig) → Buf (Elt Ideal) ℓ) (ρ : Dev nD → PrngReg) (hO : Ok m)

/-! ## Window 47 -/

/-- The result array. -/
def G47 (c : Dev nD) : Vec Ideal S2x8192x256 .bf16 := Cert.PprojRefIdeal.Hand.v68 (ZN m c)

theorem val47 (c : Dev nD) (t : Fin (cfgM m hO).N) (n : Fin 256) (l : Fin 256) :
    ((dats m hO 0 c).after 47 t : Vec Ideal S1x256x256 .bf16) (ix3 0 n l) = G47 m c (ix3 ⟨t.val / 32, by have := lt64 m hO t; omega⟩ ⟨t.val % 32 * 256 + n.val, by have := lt64 m hO t; omega⟩ l) := by
  rw [after0_47]
  unfold outsAt0
  dsimp only
  rw [View.read_writes_junk_eq_canon]
  refine (out47 (hc := cover0_47 m hO c t) ..).trans ?_
  unfold G47
  rw [Cert.PprojRefIdeal.Hand.v68_apply]
  have hi := crd t
  by_cases h : l.val < 128
  · rw [dif_pos h, dif_pos h]
    exact zb_apply m hO c t _ _
  · rw [dif_neg h, dif_neg h, hi]

theorem flushed47 (c : Dev nD) (t : Fin (cfgM m hO).N) :
    (dats m hO 0 c).flushed 47 t = (((cfgM m hO).win 47).blk t).view.read (Elt Ideal) (G47 m c) := by
  funext (x : S1x256x256.Idx)
  obtain ⟨n, l, rfl⟩ : ∃ (n : Fin 256) (l : Fin 256), x = ix3 0 n l := by
    have h0 : x 0 = (0 : Fin 1) := Fin.eq_zero (x 0)
    refine ⟨x 1, x 2, ?_⟩
    refine (eq_ix3 x).trans ?_
    rw [h0]
  refine Eq.trans ?_ (View.read_apply ..).symm
  show ((dats m hO 0 c).after 47 t : Vec Ideal S1x256x256 .bf16) (ix3 0 n l) = _
  rw [val47]
  refine congrArg (G47 m c) (funext fun a => Fin.ext ?_)
  have h := idx47 t
  match a with
  | ⟨0, _⟩ => show t.val / 32 = cc0_transform_47 (grid0.coords t) 0 * 1 + 1 * 0; rw [h]; simp
  | ⟨1, _⟩ => show t.val % 32 * 256 + n.val = cc0_transform_47 (grid0.coords t) 1 * 256 + 1 * n.val; rw [h]; simp
  | ⟨2, _⟩ => show l.val = cc0_transform_47 (grid0.coords t) 2 * 256 + 1 * l.val; rw [h]; simp

theorem covered47 (x : S2x8192x256.Idx) : ∃ t : Fin (cfgM m hO).N, ((cfgM m hO).win 47).flush t = true ∧ x ∈ (((cfgM m hO).win 47).blk t).view.set := by
  have h0 : (x 0).val < 2 := (x 0).isLt
  have h1 : (x 1).val < 8192 := (x 1).isLt
  have h2 : (x 2).val < 256 := (x 2).isLt
  have hN : (cfgM m hO).N = 64 := N_0
  obtain ⟨t, ht⟩ : ∃ t : Fin (cfgM m hO).N, t.val = (x 0).val * 32 + (x 1).val / 256 := ⟨⟨(x 0).val * 32 + (x 1).val / 256, by omega⟩, rfl⟩
  refine ⟨t, flush0_47 _ _, ?_⟩
  have h := idx47 t
  show x ∈ ((View.whole main_v10_7).slice (((cfgM m hO).win 47).rect t)).set
  refine Eq.mpr (congrArg (x ∈ ·) (View.set_slice_whole ..)) ?_
  refine Rect.mem_set_unit.mpr ?_
  intro a
  match a with
  | ⟨0, _⟩ => show cc0_transform_47 (grid0.coords t) 0 * 1 ≤ (x 0).val ∧ (x 0).val < cc0_transform_47 (grid0.coords t) 0 * 1 + 1; rw [h]; simp; omega
  | ⟨1, _⟩ => show cc0_transform_47 (grid0.coords t) 1 * 256 ≤ (x 1).val ∧ (x 1).val < cc0_transform_47 (grid0.coords t) 1 * 256 + 256; rw [h]; simp; omega
  | ⟨2, _⟩ => show cc0_transform_47 (grid0.coords t) 2 * 256 ≤ (x 2).val ∧ (x 2).val < cc0_transform_47 (grid0.coords t) 2 * 256 + 256; rw [h]; simp; omega

theorem final47 (c : Dev nD) : (dats m hO 0 c).arrAt 47 (cfgM m hO).N = G47 m c :=
  (dats m hO 0 c).arrAt_eq_of_cover 47 (G47 m c) (fun t _ => flushed47 m hO c t) (covered47 m hO)

/-! ## Window 48 -/

/-- The result array. -/
def G48 (c : Dev nD) : Vec Ideal S2x16x2x80x512 .bf16 := Cert.PprojRefIdeal.Hand.v75 (ZT m c)

theorem val48 (c : Dev nD) (t : Fin (cfgM m hO).N) (hd : Fin 2) (r : Fin 80) (n : Fin 256) :
    ((dats m hO 0 c).after 48 t : Vec Ideal S1x1x2x80x256 .bf16) (ix5 0 0 hd r n) = G48 m c (ix5 ⟨t.val / 32, by have := lt64 m hO t; omega⟩ ⟨t.val % 32 / 2, by have := lt64 m hO t; omega⟩ hd r ⟨t.val % 32 % 2 * 256 + n.val, by have := lt64 m hO t; omega⟩) := by
  rw [after0_48]
  unfold outsAt0
  dsimp only
  rw [View.read_writes_junk_eq_canon]
  refine (out48 (hc := cover0_48 m hO c t) ..).trans ?_
  unfold G48
  rw [Cert.PprojRefIdeal.Hand.v75_apply]
  by_cases hr : r.val < 64
  · rw [dif_pos hr, dif_pos hr]
    refine (yb_apply m hO c t _ _).trans (congrArg (ZT m c) ?_)
    congr 1 <;> (apply Fin.ext; dsimp only; omega)
  · rw [dif_neg hr, dif_neg hr]

theorem flushed48 (c : Dev nD) (t : Fin (cfgM m hO).N) :
    (dats m hO 0 c).flushed 48 t = (((cfgM m hO).win 48).blk t).view.read (Elt Ideal) (G48 m c) := by
  funext (x : S1x1x2x80x256.Idx)
  obtain ⟨hd, r, n, rfl⟩ : ∃ (hd : Fin 2) (r : Fin 80) (n : Fin 256), x = ix5 0 0 hd r n := by
    have h0 : x 0 = (0 : Fin 1) := Fin.eq_zero (x 0)
    have h1 : x 1 = (0 : Fin 1) := Fin.eq_zero (x 1)
    refine ⟨x 2, x 3, x 4, ?_⟩
    refine (eq_ix5 x).trans ?_
    rw [h0, h1]
  refine Eq.trans ?_ (View.read_apply ..).symm
  show ((dats m hO 0 c).after 48 t : Vec Ideal S1x1x2x80x256 .bf16) (ix5 0 0 hd r n) = _
  rw [val48]
  refine congrArg (G48 m c) (funext fun a => Fin.ext ?_)
  have h := idx48 t
  match a with
  | ⟨0, _⟩ => show t.val / 32 = cc0_transform_48 (grid0.coords t) 0 * 1 + 1 * 0; rw [h]; simp
  | ⟨1, _⟩ => show t.val % 32 / 2 = cc0_transform_48 (grid0.coords t) 1 * 1 + 1 * 0; rw [h]; simp
  | ⟨2, _⟩ => show hd.val = cc0_transform_48 (grid0.coords t) 2 * 2 + 1 * hd.val; rw [h]; simp
  | ⟨3, _⟩ => show r.val = cc0_transform_48 (grid0.coords t) 3 * 80 + 1 * r.val; rw [h]; simp
  | ⟨4, _⟩ => show t.val % 32 % 2 * 256 + n.val = cc0_transform_48 (grid0.coords t) 4 * 256 + 1 * n.val; rw [h]; simp

theorem covered48 (x : S2x16x2x80x512.Idx) : ∃ t : Fin (cfgM m hO).N, ((cfgM m hO).win 48).flush t = true ∧ x ∈ (((cfgM m hO).win 48).blk t).view.set := by
  have h0 : (x 0).val < 2 := (x 0).isLt
  have h1 : (x 1).val < 16 := (x 1).isLt
  have h2 : (x 2).val < 2 := (x 2).isLt
  have h3 : (x 3).val < 80 := (x 3).isLt
  have h4 : (x 4).val < 512 := (x 4).isLt
  have hN : (cfgM m hO).N = 64 := N_0
  obtain ⟨t, ht⟩ : ∃ t : Fin (cfgM m hO).N, t.val = (x 0).val * 32 + (x 1).val * 2 + (x 4).val / 256 := ⟨⟨(x 0).val * 32 + (x 1).val * 2 + (x 4).val / 256, by omega⟩, rfl⟩
  refine ⟨t, flush0_48 _ _, ?_⟩
  have h := idx48 t
  show x ∈ ((View.whole main_v10_8).slice (((cfgM m hO).win 48).rect t)).set
  refine Eq.mpr (congrArg (x ∈ ·) (View.set_slice_whole ..)) ?_
  refine Rect.mem_set_unit.mpr ?_
  intro a
  match a with
  | ⟨0, _⟩ => show cc0_transform_48 (grid0.coords t) 0 * 1 ≤ (x 0).val ∧ (x 0).val < cc0_transform_48 (grid0.coords t) 0 * 1 + 1; rw [h]; simp; omega
  | ⟨1, _⟩ => show cc0_transform_48 (grid0.coords t) 1 * 1 ≤ (x 1).val ∧ (x 1).val < cc0_transform_48 (grid0.coords t) 1 * 1 + 1; rw [h]; simp; omega
  | ⟨2, _⟩ => show cc0_transform_48 (grid0.coords t) 2 * 2 ≤ (x 2).val ∧ (x 2).val < cc0_transform_48 (grid0.coords t) 2 * 2 + 2; rw [h]; simp; omega
  | ⟨3, _⟩ => show cc0_transform_48 (grid0.coords t) 3 * 80 ≤ (x 3).val ∧ (x 3).val < cc0_transform_48 (grid0.coords t) 3 * 80 + 80; rw [h]; simp; omega
  | ⟨4, _⟩ => show cc0_transform_48 (grid0.coords t) 4 * 256 ≤ (x 4).val ∧ (x 4).val < cc0_transform_48 (grid0.coords t) 4 * 256 + 256; rw [h]; simp; omega

theorem final48 (c : Dev nD) : (dats m hO 0 c).arrAt 48 (cfgM m hO).N = G48 m c :=
  (dats m hO 0 c).arrAt_eq_of_cover 48 (G48 m c) (fun t _ => flushed48 m hO c t) (covered48 m hO)

/-! ## Window 50 -/

/-- The result array. -/
def G50 (c : Dev nD) : Vec Ideal S2x64x2x80x128 .bf16 := Cert.PprojRefIdeal.Hand.v83 (ZT m c)

theorem val50 (c : Dev nD) (t : Fin (cfgM m hO).N) (ch : Fin 2) (hd : Fin 2) (r : Fin 80) (n : Fin 128) :
    ((dats m hO 0 c).after 50 t : Vec Ideal S1x2x2x80x128 .bf16) (ix5 0 ch hd r n) = G50 m c (ix5 ⟨t.val / 32, by have := lt64 m hO t; omega⟩ ⟨t.val % 32 * 2 + ch.val, by have := lt64 m hO t; omega⟩ hd r n) := by
  rw [after0_50]
  unfold outsAt0
  dsimp only
  rw [View.read_writes_junk_eq_canon]
  refine (out50 (hc := cover0_50 m hO c t) ..).trans ?_
  unfold G50
  rw [Cert.PprojRefIdeal.Hand.v83_apply]
  by_cases hr : r.val < 64
  · rw [dif_pos hr, dif_pos hr]
    refine (yb_apply m hO c t _ _).trans (congrArg (ZT m c) ?_)
    congr 1 <;> (apply Fin.ext; dsimp only; omega)
  · rw [dif_neg hr, dif_neg hr]

theorem flushed50 (c : Dev nD) (t : Fin (cfgM m hO).N) :
    (dats m hO 0 c).flushed 50 t = (((cfgM m hO).win 50).blk t).view.read (Elt Ideal) (G50 m c) := by
  funext (x : S1x2x2x80x128.Idx)
  obtain ⟨ch, hd, r, n, rfl⟩ : ∃ (ch : Fin 2) (hd : Fin 2) (r : Fin 80) (n : Fin 128), x = ix5 0 ch hd r n := by
    have h0 : x 0 = (0 : Fin 1) := Fin.eq_zero (x 0)
    refine ⟨x 1, x 2, x 3, x 4, ?_⟩
    refine (eq_ix5 x).trans ?_
    rw [h0]
  refine Eq.trans ?_ (View.read_apply ..).symm
  show ((dats m hO 0 c).after 50 t : Vec Ideal S1x2x2x80x128 .bf16) (ix5 0 ch hd r n) = _
  rw [val50]
  refine congrArg (G50 m c) (funext fun a => Fin.ext ?_)
  have h := idx50 t
  match a with
  | ⟨0, _⟩ => show t.val / 32 = cc0_transform_50 (grid0.coords t) 0 * 1 + 1 * 0; rw [h]; simp
  | ⟨1, _⟩ => show t.val % 32 * 2 + ch.val = cc0_transform_50 (grid0.coords t) 1 * 2 + 1 * ch.val; rw [h]; simp
  | ⟨2, _⟩ => show hd.val = cc0_transform_50 (grid0.coords t) 2 * 2 + 1 * hd.val; rw [h]; simp
  | ⟨3, _⟩ => show r.val = cc0_transform_50 (grid0.coords t) 3 * 80 + 1 * r.val; rw [h]; simp
  | ⟨4, _⟩ => show n.val = cc0_transform_50 (grid0.coords t) 4 * 128 + 1 * n.val; rw [h]; simp

theorem covered50 (x : S2x64x2x80x128.Idx) : ∃ t : Fin (cfgM m hO).N, ((cfgM m hO).win 50).flush t = true ∧ x ∈ (((cfgM m hO).win 50).blk t).view.set := by
  have h0 : (x 0).val < 2 := (x 0).isLt
  have h1 : (x 1).val < 64 := (x 1).isLt
  have h2 : (x 2).val < 2 := (x 2).isLt
  have h3 : (x 3).val < 80 := (x 3).isLt
  have h4 : (x 4).val < 128 := (x 4).isLt
  have hN : (cfgM m hO).N = 64 := N_0
  obtain ⟨t, ht⟩ : ∃ t : Fin (cfgM m hO).N, t.val = (x 0).val * 32 + (x 1).val / 2 := ⟨⟨(x 0).val * 32 + (x 1).val / 2, by omega⟩, rfl⟩
  refine ⟨t, flush0_50 _ _, ?_⟩
  have h := idx50 t
  show x ∈ ((View.whole main_v10_10).slice (((cfgM m hO).win 50).rect t)).set
  refine Eq.mpr (congrArg (x ∈ ·) (View.set_slice_whole ..)) ?_
  refine Rect.mem_set_unit.mpr ?_
  intro a
  match a with
  | ⟨0, _⟩ => show cc0_transform_50 (grid0.coords t) 0 * 1 ≤ (x 0).val ∧ (x 0).val < cc0_transform_50 (grid0.coords t) 0 * 1 + 1; rw [h]; simp; omega
  | ⟨1, _⟩ => show cc0_transform_50 (grid0.coords t) 1 * 2 ≤ (x 1).val ∧ (x 1).val < cc0_transform_50 (grid0.coords t) 1 * 2 + 2; rw [h]; simp; omega
  | ⟨2, _⟩ => show cc0_transform_50 (grid0.coords t) 2 * 2 ≤ (x 2).val ∧ (x 2).val < cc0_transform_50 (grid0.coords t) 2 * 2 + 2; rw [h]; simp; omega
  | ⟨3, _⟩ => show cc0_transform_50 (grid0.coords t) 3 * 80 ≤ (x 3).val ∧ (x 3).val < cc0_transform_50 (grid0.coords t) 3 * 80 + 80; rw [h]; simp; omega
  | ⟨4, _⟩ => show cc0_transform_50 (grid0.coords t) 4 * 128 ≤ (x 4).val ∧ (x 4).val < cc0_transform_50 (grid0.coords t) 4 * 128 + 128; rw [h]; simp; omega

theorem final50 (c : Dev nD) : (dats m hO 0 c).arrAt 50 (cfgM m hO).N = G50 m c :=
  (dats m hO 0 c).arrAt_eq_of_cover 50 (G50 m c) (fun t _ => flushed50 m hO c t) (covered50 m hO)

end Cert.PprojIdeal.Hand

end
-- ==== Proof.PprojClaims.lean ====
/- The five claims about the in-projections of the prompt's rows. -/
module

public import proofs.«01_k».proof.Defs
public import proofs.«01_k».proof.Proof.PprojPre
public import proofs.«01_k».proof.Proof.PprojOk
public import proofs.«01_k».proof.Proof.PprojIdealOk
public import proofs.«01_k».proof.Proof.PprojValA
public import proofs.«01_k».proof.Proof.PprojValB
public import proofs.«01_k».proof.Proof.PprojValC
public import proofs.«01_k».proof.Proof.Gen.PprojRefIdeal.Run
public import Idealize.ShloMosaic.Lib.Quiescent
public import Idealize.ShloMosaic.Lib.Decide

@[expose] public section

noncomputable section

open Idealize.ShloMosaic Idealize.ShloMosaic.TcCoe Idealize.SL.Sem

/-- The shapes that the mask's broadcasts relate. -/
instance Cert.On_but_cache.Hand.facts : Cert.On_but_cache.Facts := by constructor <;> decide

namespace Cert.Proof.PprojClaims

theorem frame_p : Cert.quiescent_Pproj := fun m ρ h => Cert.Pproj.Hand.frame m ρ (Cert.Pproj.Hand.ok_of_pre m h)
theorem frame_pi : Cert.quiescent_PprojIdeal := fun m ρ h => Cert.PprojIdeal.Hand.frame m ρ (Cert.PprojIdeal.Hand.ok_of_pre m h)
theorem frame_ri : Cert.quiescent_PprojRefIdeal := fun m ρ _ =>
  (θ_run Cert.PprojRefIdeal.defs _ _).mono (fun r h => ⟨fun c => (h c).2.2.2.2.2.2.2.2.2.2.2.2.2, sem_eq_zero_of_no_sems (by decide) r.2⟩)
    (Cert.PprojRefIdeal.Value.run (F := Ideal) m ρ)
theorem preserves : Cert.preserves_Pproj_PprojIdeal := trivial

section

open Cert.PprojRefIdeal.Hand

/-- The reference's transposed projections, of arguments equal to the kernel's. -/
theorem zt_eq {m : (ℓ : Loc Cert.PprojIdeal.nD Cert.PprojIdeal.τ Cert.PprojIdeal.sig) → Buf (Elt Ideal) ℓ} {c : Dev Cert.PprojIdeal.nD} (x : FVec Ideal Cert.PprojRefIdeal.S16384x1024 .f32) (sh sc : FVec Ideal Cert.PprojRefIdeal.S2x1x1024 .f32) (g : FVec Ideal Cert.PprojRefIdeal.S1x1024 .f32) (w : FVec Ideal Cert.PprojRefIdeal.S1312x1024 .bf16)
    (h1 : x = m ((c.tc : Thread Cert.PprojIdeal.nD Cert.PprojIdeal.τ).loc Cert.PprojIdeal.main_arg1)) (h2 : sh = m ((c.tc : Thread Cert.PprojIdeal.nD Cert.PprojIdeal.τ).loc Cert.PprojIdeal.main_arg2)) (h3 : sc = m ((c.tc : Thread Cert.PprojIdeal.nD Cert.PprojIdeal.τ).loc Cert.PprojIdeal.main_arg3)) (h4 : g = m ((c.tc : Thread Cert.PprojIdeal.nD Cert.PprojIdeal.τ).loc Cert.PprojIdeal.main_arg4)) (hw : w = m ((c.tc : Thread Cert.PprojIdeal.nD Cert.PprojIdeal.τ).loc Cert.PprojIdeal.main_arg6)) :
    zt (hmod x g sc sh) w = Cert.PprojIdeal.Hand.ZT m c := by
  subst h1 h2 h3 h4 hw; rfl

theorem zn_eq {m : (ℓ : Loc Cert.PprojIdeal.nD Cert.PprojIdeal.τ Cert.PprojIdeal.sig) → Buf (Elt Ideal) ℓ} {c : Dev Cert.PprojIdeal.nD} (x : FVec Ideal Cert.PprojRefIdeal.S16384x1024 .f32) (sh sc : FVec Ideal Cert.PprojRefIdeal.S2x1x1024 .f32) (g : FVec Ideal Cert.PprojRefIdeal.S1x1024 .f32) (w : FVec Ideal Cert.PprojRefIdeal.S1024x1024 .bf16)
    (h1 : x = m ((c.tc : Thread Cert.PprojIdeal.nD Cert.PprojIdeal.τ).loc Cert.PprojIdeal.main_arg1)) (h2 : sh = m ((c.tc : Thread Cert.PprojIdeal.nD Cert.PprojIdeal.τ).loc Cert.PprojIdeal.main_arg2)) (h3 : sc = m ((c.tc : Thread Cert.PprojIdeal.nD Cert.PprojIdeal.τ).loc Cert.PprojIdeal.main_arg3)) (h4 : g = m ((c.tc : Thread Cert.PprojIdeal.nD Cert.PprojIdeal.τ).loc Cert.PprojIdeal.main_arg4)) (hw : w = m ((c.tc : Thread Cert.PprojIdeal.nD Cert.PprojIdeal.τ).loc Cert.PprojIdeal.main_arg5)) :
    zn (hmod x g sc sh) w = Cert.PprojIdeal.Hand.ZN m c := by
  subst h1 h2 h3 h4 hw; rfl

end

/-- Both programs end with the same cuts of the same two projections; of the compressed rows of the cache nothing is said. -/
theorem algebraic : Cert.algebraic_PprojIdeal_PprojRefIdeal_on_but_cache := fun m ρ m' ρ' hp hag =>
  have hO := Cert.PprojIdeal.Hand.ok_of_pre m hp
  have et (c : Dev Cert.PprojIdeal.nD) := zt_eq (m := m) (c := c) _ _ _ _ _ (hag c).2.1 (hag c).2.2.1 (hag c).2.2.2.1 (hag c).2.2.2.2.1 (hag c).2.2.2.2.2.2.1
  have en (c : Dev Cert.PprojIdeal.nD) := zn_eq (m := m) (c := c) _ _ _ _ _ (hag c).2.1 (hag c).2.2.1 (hag c).2.2.2.1 (hag c).2.2.2.2.1 (hag c).2.2.2.2.2.1
  ⟨Cert.PprojIdeal.Hand.G40 m, Cert.PprojIdeal.Hand.G41 m, Cert.PprojIdeal.Hand.G42 m, Cert.PprojIdeal.Hand.G43 m, Cert.PprojIdeal.Hand.G44 m, Cert.PprojIdeal.Hand.G45 m, Cert.PprojIdeal.Hand.G46 m, Cert.PprojIdeal.Hand.G47 m, Cert.PprojIdeal.Hand.G48 m, Cert.PprojIdeal.Hand.G49 m, Cert.PprojIdeal.Hand.G50 m, Cert.PprojIdeal.Hand.G51 m, fun c => m ((c.tc : Thread Cert.PprojIdeal.nD Cert.PprojIdeal.τ).loc Cert.PprojIdeal.main_v10_12),
    (θ_run _ _ _).mono (fun _ h c => ⟨fun i _ => congrFun (((h.2 c).1 40).trans (Cert.PprojIdeal.Hand.final40 m hO c)) i, fun i _ => congrFun (((h.2 c).1 41).trans (Cert.PprojIdeal.Hand.final41 m hO c)) i, fun i _ => congrFun (((h.2 c).1 42).trans (Cert.PprojIdeal.Hand.final42 m hO c)) i, fun i _ => congrFun (((h.2 c).1 43).trans (Cert.PprojIdeal.Hand.final43 m hO c)) i, fun i _ => congrFun (((h.2 c).1 44).trans (Cert.PprojIdeal.Hand.final44 m hO c)) i, fun i _ => congrFun (((h.2 c).1 45).trans (Cert.PprojIdeal.Hand.final45 m hO c)) i, fun i _ => congrFun (((h.2 c).1 46).trans (Cert.PprojIdeal.Hand.final46 m hO c)) i, fun i _ => congrFun (((h.2 c).1 47).trans (Cert.PprojIdeal.Hand.final47 m hO c)) i, fun i _ => congrFun (((h.2 c).1 48).trans (Cert.PprojIdeal.Hand.final48 m hO c)) i, fun i _ => congrFun (((h.2 c).1 49).trans (Cert.PprojIdeal.Hand.final49 m hO c)) i, fun i _ => congrFun (((h.2 c).1 50).trans (Cert.PprojIdeal.Hand.final50 m hO c)) i, fun i _ => congrFun (((h.2 c).1 51).trans (Cert.PprojIdeal.Hand.final51 m hO c)) i,
      fun i h => absurd (show (0#1 : BitVec 1) = 1#1 from h) (by decide), h.1 c⟩) (θ_run_and (Cert.PprojIdeal.Hand.unchanged m ρ hO) (Cert.PprojIdeal.Hand.run_main m ρ hO)),
    (θ_run _ _ _).mono (fun _ h c => ⟨fun i _ => congrFun ((h c).1.trans (congrArg Cert.PprojRefIdeal.Hand.v32 (et c))) i,
      fun i _ => congrFun ((h c).2.1.trans (congrArg Cert.PprojRefIdeal.Hand.v33 (et c))) i,
      fun i _ => congrFun ((h c).2.2.1.trans (congrArg Cert.PprojRefIdeal.Hand.v34 (et c))) i,
      fun i _ => congrFun ((h c).2.2.2.1.trans (congrArg Cert.PprojRefIdeal.Hand.v60 (en c))) i,
      fun i _ => congrFun ((h c).2.2.2.2.1.trans (congrArg Cert.PprojRefIdeal.Hand.v63 (en c))) i,
      fun i _ => congrFun ((h c).2.2.2.2.2.1.trans (congrArg Cert.PprojRefIdeal.Hand.v64 (en c))) i,
      fun i _ => congrFun ((h c).2.2.2.2.2.2.1.trans (congrArg Cert.PprojRefIdeal.Hand.v67 (et c))) i,
      fun i _ => congrFun ((h c).2.2.2.2.2.2.2.1.trans (congrArg Cert.PprojRefIdeal.Hand.v68 (en c))) i,
      fun i _ => congrFun ((h c).2.2.2.2.2.2.2.2.1.trans (congrArg Cert.PprojRefIdeal.Hand.v75 (et c))) i,
      fun i _ => congrFun ((h c).2.2.2.2.2.2.2.2.2.1.trans (congrArg Cert.PprojRefIdeal.Hand.v76 (en c))) i,
      fun i _ => congrFun ((h c).2.2.2.2.2.2.2.2.2.2.1.trans (congrArg Cert.PprojRefIdeal.Hand.v83 (et c))) i,
      fun i _ => congrFun ((h c).2.2.2.2.2.2.2.2.2.2.2.1.trans (congrArg Cert.PprojRefIdeal.Hand.v89 (et c))) i,
      fun i h => absurd (show (0#1 : BitVec 1) = 1#1 from h) (by decide), (h c).2.2.2.2.2.2.2.2.2.2.2.2.2⟩) (Cert.PprojRefIdeal.Value.run (F := Ideal) m' ρ')⟩

end Cert.Proof.PprojClaims

end
-- ==== Proof.SmlpVal.lean ====
/- The feed-forward sub-layer of the sample rows: what the kernel and the reference compute, entry by entry. -/
module

public import proofs.«01_k».proof.Proof.Gen.SmlpIdeal.Value
public import proofs.«01_k».proof.Proof.Gen.SmlpRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

/-! ## The kernel's payloads -/

namespace Cert.SmlpIdeal.Hand
open Cert.SmlpIdeal Cert.SmlpIdeal.Gen Cert.SmlpIdeal.Value Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

/-- The sub-layer's result on the sample rows, each with its own modulation. -/
def smlpOut (x : Vec Ideal ⟨2, ![128, 1024]⟩ .f32) (sh sc gt : Vec Ideal ⟨3, ![1, 128, 1024]⟩ .f32) (g1 g2 : Vec Ideal ⟨2, ![1, 1024]⟩ .f32)
    (w1 : Vec Ideal ⟨2, ![1024, 4096]⟩ .bf16) (w2 : Vec Ideal ⟨2, ![4096, 1024]⟩ .bf16) (r : Fin 128) (j : Fin 1024) : EReal :=
  mlpRow (fun k => x (ix2 r k)) (fun k => sh (ix3 0 r k)) (fun k => sc (ix3 0 r k)) (fun k => gt (ix3 0 r k)) (fun k => g1 (ix2 0 k))
    (fun k => g2 (ix2 0 k)) (fun a b => w1 (ix2 a b)) (fun a b => w2 (ix2 a b)) j

theorem pay2_apply (v0 : Vec Ideal S128x1024 .f32) (v1 : Vec Ideal S1x1024 .f32) (v14 v19 : Vec Ideal S1x128x1024 .f32)
    (i : Fin 128) (j : Fin 1024) : k0_pay2 v0 v1 v14 v19 (ix2 i j)
      = modRow (fun k => v0 (ix2 i k)) (fun k => v1 (ix2 0 k)) (fun k => v14 (ix3 0 i k)) (fun k => v19 (ix3 0 i k)) j := by
  unfold k0_pay2
  dsimp only
  pointwise
  rfl

theorem pay3_apply (v0 : Vec Ideal S128x1024 .f32) (v1 : Vec Ideal S1x1024 .f32) (v14 v19 : Vec Ideal S1x128x1024 .f32)
    (v24 v30 : Vec Ideal S1024x1024 .bf16) (i : Fin 128) (j : Fin 1024) : k0_pay3 v0 v1 v14 v19 v24 v30 (ix2 i j)
      = ∑ k, hid (fun a => k0_pay2 v0 v1 v14 v19 (ix2 i a)) (fun a => v24 (ix2 a k)) * v30 (ix2 k j) := by
  unfold k0_pay3
  generalize k0_pay2 v0 v1 v14 v19 = h
  pointwise
  rfl

/-- The accumulator after all four quarters; the second quarter's product starts at zero. -/
theorem pay4_apply (v22 : FVec Ideal S128x1024 .bf16) (v32 : FVec Ideal S128x1024 .f32) (v33 v39 v42 v48 v51 v57 : Vec Ideal S1024x1024 .bf16)
    (i : Fin 128) (j : Fin 1024) : k0_pay4 v22 v32 v33 (constant S128x1024 .f32 0x00000000#32) v39 v42 v48 v51 v57 (ix2 i j)
      = v32 (ix2 i j) + (∑ k, hid (fun a => v22 (ix2 i a)) (fun a => v33 (ix2 a k)) * v39 (ix2 k j))
        + (∑ k, hid (fun a => v22 (ix2 i a)) (fun a => v42 (ix2 a k)) * v48 (ix2 k j))
        + (∑ k, hid (fun a => v22 (ix2 i a)) (fun a => v51 (ix2 a k)) * v57 (ix2 k j)) := by
  unfold k0_pay4
  pointwise
  rfl

theorem pay1_apply (v0 : Vec Ideal S128x1024 .f32) (v22 : FVec Ideal S128x1024 .bf16) (v32 q : FVec Ideal S128x1024 .f32)
    (v33 v39 v42 v48 v51 v57 : Vec Ideal S1024x1024 .bf16) (v60 : FVec Ideal S1x128x1024 .f32) (v62 : Vec Ideal S1x1024 .f32)
    (i : Fin 128) (j : Fin 1024) :
    k0_pay1 v0 (k0_pay4 v22 v32 v33 q v39 v42 v48 v51 v57) (k0_pay5 v60) v62 (k0_pay6 v22 v32 v33 q v39 v42 v48 v51 v57) (Scalar.ofBits .f32 0x358637BD#32) (ix2 i j)
      = v0 (ix2 i j) + v60 (ix3 0 i j) * (nrm (fun k => k0_pay4 v22 v32 v33 q v39 v42 v48 v51 v57 (ix2 i k)) j * v62 (ix2 0 j)) := by
  unfold k0_pay1 k0_pay6 k0_pay5
  generalize k0_pay4 v22 v32 v33 q v39 v42 v48 v51 v57 = f
  dsimp only
  pointwise
  rfl

/-- The four quarters loaded from the weights add up to the whole feed-forward product. -/
theorem acc_eq (x0 : Vec Ideal S128x1024 .f32) (x4 : Vec Ideal S1x1024 .f32) (x2 x1 : Vec Ideal S1x128x1024 .f32)
    (x6 : Vec Ideal S1024x4096 .bf16) (x7 : Vec Ideal S4096x1024 .bf16) (i : Fin 128) (j : Fin 1024) :
    k0_pay4 (k0_pay2 x0 x4 x2 x1) (k0_pay3 x0 x4 x2 x1 (View.ld x6 r0_3) (View.ld x7 r0_4)) (View.ld x6 r0_5) (constant S128x1024 .f32 0x00000000#32)
      (View.ld x7 r0_6) (View.ld x6 r0_7) (View.ld x7 r0_8) (View.ld x6 r0_9) (View.ld x7 r0_10) (ix2 i j)
      = ffn (modRow (fun k => x0 (ix2 i k)) (fun k => x4 (ix2 0 k)) (fun k => x2 (ix3 0 i k)) (fun k => x1 (ix3 0 i k)))
        (fun a b => x6 (ix2 a b)) (fun a b => x7 (ix2 a b)) j := by
  rw [pay4_apply, pay3_apply]
  simp only [pay2_apply]
  rw [ffn, ← sum_quarters, zero_add]
  have h (o : Nat) (ho : ∀ k : Fin 1024, o + k.val < 4096) (inb inb') (k j : Fin 1024) (w : Fin 1024 → EReal) :
      hid w (fun a => View.ld x6 (Rect.unit (s := S1024x4096) ![0, o] S1024x1024.size inb) (ix2 a k))
        * View.ld x7 (Rect.unit (s := S4096x1024) ![o, 0] S1024x1024.size inb') (ix2 k j)
      = hid w (fun a => x6 (ix2 a ⟨o + k.val, ho k⟩)) * x7 (ix2 ⟨o + k.val, ho k⟩ j) := by
    have e6 (a : Fin 1024) : View.ld x6 (Rect.unit (s := S1024x4096) ![0, o] S1024x1024.size inb) (ix2 a k) = x6 (ix2 a ⟨o + k.val, ho k⟩) := by
      show x6 _ = _
      refine congrArg x6 (funext fun q => Fin.ext ?_)
      match q with
      | ⟨0, _⟩ => show 0 + 1 * a.val = a.val; omega
      | ⟨1, _⟩ => show o + 1 * k.val = o + k.val; omega
    have e7 : View.ld x7 (Rect.unit (s := S4096x1024) ![o, 0] S1024x1024.size inb') (ix2 k j) = x7 (ix2 ⟨o + k.val, ho k⟩ j) := by
      show x7 _ = _
      refine congrArg x7 (funext fun q => Fin.ext ?_)
      match q with
      | ⟨0, _⟩ => show o + 1 * k.val = o + k.val; omega
      | ⟨1, _⟩ => show 0 + 1 * j.val = j.val; omega
    simp only [e6, e7]
  have h0 := h 0 (fun k => by omega)
  simp only [Nat.zero_add] at h0
  simp only [h0, h 1024 (fun k => by omega), h 2048 (fun k => by omega), h 3072 (fun k => by omega)]

/-- What the kernel leaves in its result: the feed-forward sub-layer on each row. -/
theorem G_apply (x0 : Vec Ideal S128x1024 .f32) (x1 x2 x3 : Vec Ideal S1x128x1024 .f32) (x4 x5 : Vec Ideal S1x1024 .f32)
    (x6 : Vec Ideal S1024x4096 .bf16) (x7 : Vec Ideal S4096x1024 .bf16) (i : Fin 128) (j : Fin 1024) :
    G8 x0 x1 x2 x3 x4 x5 x6 x7 (ix2 i j) = smlpOut x0 x1 x2 x3 x4 x5 x6 x7 i j := by
  have e8 : k0_pay8 x0 x1 x2 x3 x4 x5 x6 x7 = k0_pay2 x0 x4 x2 x1 := by
    unfold k0_pay8
    simp only [View.ld_unit_zero (S := S128x1024) hz2, View.ld_unit_zero (S := S1x1024) hz2, View.ld_unit_zero (S := S1x128x1024) hz3]
  have e9 : k0_pay9 x0 x1 x2 x3 x4 x5 x6 x7 = k0_pay3 x0 x4 x2 x1 (View.ld x6 r0_3) (View.ld x7 r0_4) := by
    unfold k0_pay9
    simp only [View.ld_unit_zero (S := S128x1024) hz2, View.ld_unit_zero (S := S1x1024) hz2, View.ld_unit_zero (S := S1x128x1024) hz3]
  have e7 : k0_pay7 x0 x1 x2 x3 x4 x5 x6 x7 = constant (F := Ideal) S128x1024 .f32 0x00000000#32 := rfl
  show k0_pay1 _ _ _ _ _ _ _ = _
  rw [pay1_apply, e7, e8, e9]
  simp only [acc_eq]
  rfl

end Cert.SmlpIdeal.Hand

/-! ## The reference's result -/

namespace Cert.SmlpRefIdeal.Hand
open Cert.SmlpRefIdeal Cert.SmlpRefIdeal.Gen Cert.SmlpRefIdeal.Value Cert.Spec Cert.SmlpIdeal.Hand

/-- The reference's `rms_norm` on the rows. -/
def rms (x : FVec Ideal S128x1024 .f32) (g : FVec Ideal S1x1024 .f32) : FVec Ideal S128x1024 .f32 :=
  mulf (mulf x (broadcastInDim S128x1024 ![0, 1] bcast_S128x1_S128x1024_0_1 (Host.rsqrt (addf (Host.divf (broadcastInDim S128x1 ![0] bcast_S128_S128x1_0
    (Host.reduceAdd (mulf x x) (constant S_ .f32 0x00000000#32) reducesTo_S128x1024_S128_d1 h_S_)) (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 (shapeCast _ g shapeCasts_S1x1024_S1024)))

theorem rms_apply (x : FVec Ideal S128x1024 .f32) (g : FVec Ideal S1x1024 .f32) (r : Fin 128) (j : Fin 1024) :
    rms x g (ix2 r j) = nrm (fun k => x (ix2 r k)) j * g (ix2 0 j) := by
  unfold rms
  pointwise
  rfl

/-- The reference's modulated normalization. -/
def hmod (x : FVec Ideal S128x1024 .f32) (g : FVec Ideal S1x1024 .f32) (sc sh : FVec Ideal S1x128x1024 .f32) : FVec Ideal S128x1024 .f32 :=
  addf (mulf (rms x g) (addf (broadcastInDim S128x1024 ![] bcast_S_S128x1024 (constant S_ .f32 0x3F800000#32)) (shapeCast _ sc shapeCasts_S1x128x1024_S128x1024)))
    (shapeCast _ sh shapeCasts_S1x128x1024_S128x1024)

theorem hmod_apply (x : FVec Ideal S128x1024 .f32) (g : FVec Ideal S1x1024 .f32) (sc sh : FVec Ideal S1x128x1024 .f32) (r : Fin 128) (j : Fin 1024) :
    hmod x g sc sh (ix2 r j) = modRow (fun k => x (ix2 r k)) (fun k => g (ix2 0 k)) (fun k => sc (ix3 0 r k)) (fun k => sh (ix3 0 r k)) j := by
  unfold hmod
  pointwise
  simp only [rms_apply]
  rfl

/-- The reference's two products around the squared rectifier. -/
def ff (h : FVec Ideal S128x1024 .f32) (w1 : FVec Ideal S1024x4096 .bf16) (w2 : FVec Ideal S4096x1024 .bf16) : FVec Ideal S128x1024 .f32 :=
  have a := maximumf (Host.dotGeneral dot_S128x1024_S1024x4096_S128x4096_1_0_0_1_n_n none h (extf .f32 w1 bitsLt_bf16_f32))
    (broadcastInDim S128x4096 ![] bcast_S_S128x4096 (constant S_ .f32 0x00000000#32))
  Host.dotGeneral dot_S128x4096_S4096x1024_S128x1024_1_0_0_1_n_n none (mulf a a) (extf .f32 w2 bitsLt_bf16_f32)

theorem ff_apply (h : FVec Ideal S128x1024 .f32) (w1 : FVec Ideal S1024x4096 .bf16) (w2 : FVec Ideal S4096x1024 .bf16) (r : Fin 128) (j : Fin 1024) :
    ff h w1 w2 (ix2 r j) = ffn (fun k => h (ix2 r k)) (fun i k => w1 (ix2 i k)) (fun k i => w2 (ix2 k i)) j := by
  unfold ff
  pointwise
  rfl

/-- The reference's result as a function of its arguments. -/
def outR (x : FVec Ideal S128x1024 .f32) (sh sc gt : FVec Ideal S1x128x1024 .f32) (g1 g2 : FVec Ideal S1x1024 .f32)
    (w1 : FVec Ideal S1024x4096 .bf16) (w2 : FVec Ideal S4096x1024 .bf16) : FVec Ideal S128x1024 .f32 :=
  addf x (mulf (shapeCast _ gt shapeCasts_S1x128x1024_S128x1024) (rms (ff (hmod x g1 sc sh) w1 w2) g2))

theorem outR_apply (x : FVec Ideal S128x1024 .f32) (sh sc gt : FVec Ideal S1x128x1024 .f32) (g1 g2 : FVec Ideal S1x1024 .f32)
    (w1 : FVec Ideal S1024x4096 .bf16) (w2 : FVec Ideal S4096x1024 .bf16) (r : Fin 128) (j : Fin 1024) :
    outR x sh sc gt g1 g2 w1 w2 (ix2 r j) = smlpOut x sh sc gt g1 g2 w1 w2 r j := by
  unfold outR
  pointwise
  simp only [rms_apply, ff_apply, hmod_apply]
  rfl

theorem res_eq (m : (ℓ : Loc nD τ sig) → Buf (Elt Ideal) ℓ) (c : Dev nD) :
    res_out0 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.SmlpRefIdeal.Hand

end
-- ==== Proof.SmlpClaims.lean ====
/- The five claims about the feed-forward sub-layer of the sample rows. -/
module

public import proofs.«01_k».proof.Defs
public import proofs.«01_k».proof.Proof.Gen.Smlp.Frame
public import proofs.«01_k».proof.Proof.SmlpVal
public import Idealize.ShloMosaic.Lib.Quiescent

@[expose] public section

noncomputable section

open Idealize.ShloMosaic Idealize.ShloMosaic.TcCoe Idealize.SL.Sem

namespace Cert.Proof.SmlpClaims

theorem frame_p : Cert.quiescent_Smlp := fun m ρ _ => Cert.Smlp.Gen.frame m ρ
theorem frame_pi : Cert.quiescent_SmlpIdeal := fun m ρ _ => Cert.SmlpIdeal.Gen.frame m ρ
theorem frame_ri : Cert.quiescent_SmlpRefIdeal := fun m ρ _ =>
  (θ_run Cert.SmlpRefIdeal.defs _ _).mono (fun r h => ⟨fun c => (h c).2, sem_eq_zero_of_no_sems (by decide) r.2⟩)
    (Cert.SmlpRefIdeal.Value.run (F := Ideal) m ρ)
theorem preserves : Cert.preserves_Smlp_SmlpIdeal := trivial

/-- Both programs end with the feed-forward sub-layer of the sample rows, of the same arguments. -/
theorem algebraic : Cert.algebraic_SmlpIdeal_SmlpRefIdeal := fun m ρ m' ρ' _ hag =>
  ⟨_, Cert.SmlpIdeal.Value.run m ρ,
    (θ_run _ _ _).mono (fun _ h c => ⟨(h c).1.trans (by
      funext x
      obtain ⟨r, j, rfl⟩ : ∃ (r : Fin 128) (j : Fin 1024), x = ix2 r j := ⟨x 0, x 1, eq_ix2 x⟩
      refine (congrFun (Cert.SmlpRefIdeal.Hand.res_eq m' c) (ix2 r j)).trans ((Cert.SmlpRefIdeal.Hand.outR_apply _ _ _ _ _ _ _ _ r j).trans ?_)
      obtain ⟨h0, h1, h2, h3, h4, h5, h6, h7⟩ := hag c
      rw [h0, h1, h2, h3, h4, h5, h6, h7]
      exact (Cert.SmlpIdeal.Hand.G_apply _ _ _ _ _ _ _ _ r j).symm), (h c).2⟩) (Cert.SmlpRefIdeal.Value.run (F := Ideal) m' ρ')⟩

end Cert.Proof.SmlpClaims

end
-- ==== Proof.SmergeVal.lean ====
/- The merge of the two mixers' sample rows: what the kernel and the reference compute, entry by entry. -/
module

public import proofs.«01_k».proof.Proof.Gen.SmergeIdeal.Value
public import proofs.«01_k».proof.Proof.Gen.SmergeRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

/-! ## The kernel's payloads -/

namespace Cert.SmergeIdeal.Hand
open Cert.SmergeIdeal Cert.SmergeIdeal.Gen Cert.SmergeIdeal.Value Cert.Spec

/-- The merge's result on the sample rows, each with its own modulation. -/
def smergeOut (x : Vec Ideal ⟨2, ![128, 1024]⟩ .f32) (sh sc gt : Vec Ideal ⟨3, ![1, 128, 1024]⟩ .f32) (g1 g2 : Vec Ideal ⟨2, ![1, 1024]⟩ .f32)
    (on op : Vec Ideal ⟨2, ![128, 512]⟩ .bf16) (wg : Vec Ideal ⟨2, ![2048, 1024]⟩ .bf16) (un up : Vec Ideal ⟨2, ![512, 1024]⟩ .bf16)
    (wo : Vec Ideal ⟨2, ![1024, 1024]⟩ .bf16) (r : Fin 128) (j : Fin 1024) : EReal :=
  mergeRow (fun k => x (ix2 r k)) (fun k => sh (ix3 0 r k)) (fun k => sc (ix3 0 r k)) (fun k => gt (ix3 0 r k)) (fun k => g1 (ix2 0 k))
    (fun k => g2 (ix2 0 k)) (fun k => on (ix2 r k)) (fun k => op (ix2 r k))
    (fun a b => wg (ix2 a b)) (fun a b => un (ix2 a b)) (fun a b => up (ix2 a b)) (fun a b => wo (ix2 a b)) j

theorem pay2_apply (v0 : Vec Ideal S128x1024 .f32) (v1 : Vec Ideal S1x1024 .f32) (v14 v19 : Vec Ideal S1x128x1024 .f32)
    (v23 : Vec Ideal S2048x1024 .bf16) (i : Fin 128) (e : Fin 2048) : k0_pay2 v0 v1 v14 v19 v23 (ix2 i e)
      = sgm (∑ k, modRow (fun k => v0 (ix2 i k)) (fun k => v1 (ix2 0 k)) (fun k => v14 (ix3 0 i k)) (fun k => v19 (ix3 0 i k)) k * v23 (ix2 e k)) := by
  unfold k0_pay2
  dsimp only
  pointwise
  rfl

theorem pay3_apply (v0 : Vec Ideal S128x1024 .f32) (v1 : Vec Ideal S1x1024 .f32) (v14 v19 : Vec Ideal S1x128x1024 .f32)
    (v23 : Vec Ideal S2048x1024 .bf16) (v27 : Vec Ideal S128x512 .bf16) (v28 : Vec Ideal S512x1024 .bf16) (i : Fin 128) (j : Fin 1024) :
    k0_pay3 v0 v1 v14 v19 v23 v27 v28 (ix2 i j)
      = k0_pay2 v0 v1 v14 v19 v23 (ix2 i ⟨j.val, by omega⟩) * (∑ k, v27 (ix2 i k) * v28 (ix2 k j)) := by
  unfold k0_pay3
  generalize k0_pay2 v0 v1 v14 v19 v23 = w
  pointwise
  try rfl

theorem pay4_apply (v0 : Vec Ideal S128x1024 .f32) (v1 : Vec Ideal S1x1024 .f32) (v14 v19 : Vec Ideal S1x128x1024 .f32)
    (v23 : Vec Ideal S2048x1024 .bf16) (i : Fin 128) (j : Fin 1024) :
    k0_pay4 v0 v1 v14 v19 v23 (ix2 i j) = k0_pay2 v0 v1 v14 v19 v23 (ix2 i ⟨1024 + j.val, by omega⟩) := by
  unfold k0_pay4
  generalize k0_pay2 v0 v1 v14 v19 v23 = w
  pointwise
  try rfl

theorem pay1_apply (v0 : Vec Ideal S128x1024 .f32) (v30 v31 : FVec Ideal S128x1024 .f32) (v32 : Vec Ideal S128x512 .bf16)
    (v33 : Vec Ideal S512x1024 .bf16) (v38 : Vec Ideal S1024x1024 .bf16) (v40 : Vec Ideal S1x128x1024 .f32) (v42 : Vec Ideal S1x1024 .f32)
    (i : Fin 128) (j : Fin 1024) :
    k0_pay1 v0 v30 v31 v32 v33 v38 v40 v42 (ix2 i j)
      = v0 (ix2 i j) + v40 (ix3 0 i j) * (nrm (fun e => ∑ k, (v30 (ix2 i k) + v31 (ix2 i k) * (∑ q, v32 (ix2 i q) * v33 (ix2 q k))) * v38 (ix2 k e)) j
          * v42 (ix2 0 j)) := by
  unfold k0_pay1
  dsimp only
  pointwise
  rfl

/-- What the kernel leaves in its result: the merge on each row. -/
theorem G_apply (x0 : Vec Ideal S128x1024 .f32) (x1 x2 x3 : Vec Ideal S1x128x1024 .f32) (x4 x5 : Vec Ideal S1x1024 .f32)
    (x6 x7 : Vec Ideal S128x512 .bf16) (x8 : Vec Ideal S2048x1024 .bf16) (x9 x10 : Vec Ideal S512x1024 .bf16) (x11 : Vec Ideal S1024x1024 .bf16)
    (i : Fin 128) (j : Fin 1024) :
    G12 x0 x1 x2 x3 x4 x5 x6 x7 x8 x9 x10 x11 (ix2 i j) = smergeOut x0 x1 x2 x3 x4 x5 x6 x7 x8 x9 x10 x11 i j := by
  show k0_pay1 _ _ _ _ _ _ _ _ _ = _
  rw [pay1_apply]
  simp only [pay3_apply, pay4_apply, pay2_apply]
  rfl

end Cert.SmergeIdeal.Hand

/-! ## The reference's result -/

namespace Cert.SmergeRefIdeal.Hand
open Cert.SmergeRefIdeal Cert.SmergeRefIdeal.Gen Cert.SmergeRefIdeal.Value Cert.Spec Cert.SmergeIdeal.Hand

/-- The reference's `rms_norm` on the rows. -/
def rms (x : FVec Ideal S128x1024 .f32) (g : FVec Ideal S1x1024 .f32) : FVec Ideal S128x1024 .f32 :=
  mulf (mulf x (broadcastInDim S128x1024 ![0, 1] bcast_S128x1_S128x1024_0_1 (Host.rsqrt (addf (Host.divf (broadcastInDim S128x1 ![0] bcast_S128_S128x1_0
    (Host.reduceAdd (mulf x x) (constant S_ .f32 0x00000000#32) reducesTo_S128x1024_S128_d1 h_S_)) (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 (shapeCast _ g shapeCasts_S1x1024_S1024)))

theorem rms_apply (x : FVec Ideal S128x1024 .f32) (g : FVec Ideal S1x1024 .f32) (r : Fin 128) (j : Fin 1024) :
    rms x g (ix2 r j) = nrm (fun k => x (ix2 r k)) j * g (ix2 0 j) := by
  unfold rms
  pointwise
  rfl

/-- The reference's modulated normalization. -/
def hmod (x : FVec Ideal S128x1024 .f32) (g : FVec Ideal S1x1024 .f32) (sc sh : FVec Ideal S1x128x1024 .f32) : FVec Ideal S128x1024 .f32 :=
  addf (mulf (rms x g) (addf (broadcastInDim S128x1024 ![] bcast_S_S128x1024 (constant S_ .f32 0x3F800000#32)) (shapeCast _ sc shapeCasts_S1x128x1024_S128x1024)))
    (shapeCast _ sh shapeCasts_S1x128x1024_S128x1024)

theorem hmod_apply (x : FVec Ideal S128x1024 .f32) (g : FVec Ideal S1x1024 .f32) (sc sh : FVec Ideal S1x128x1024 .f32) (r : Fin 128) (j : Fin 1024) :
    hmod x g sc sh (ix2 r j) = modRow (fun k => x (ix2 r k)) (fun k => g (ix2 0 k)) (fun k => sc (ix3 0 r k)) (fun k => sh (ix3 0 r k)) j := by
  unfold hmod
  pointwise
  simp only [rms_apply]
  rfl

/-- The merge gate. -/
def gateR (h : FVec Ideal S128x1024 .f32) (w : FVec Ideal S2048x1024 .bf16) : FVec Ideal S128x2048 .f32 :=
  Host.divf (broadcastInDim S128x2048 ![] bcast_S_S128x2048 (constant S_ .f32 0x3F800000#32))
    (addf (broadcastInDim S128x2048 ![] bcast_S_S128x2048 (constant S_ .f32 0x3F800000#32)) (Host.exp (Host.negf
      (Host.dotGeneral dot_S128x1024_S2048x1024_S128x2048_1_1_0_0_n_n none h (extf .f32 w bitsLt_bf16_f32)))))

theorem gateR_apply (h : FVec Ideal S128x1024 .f32) (w : FVec Ideal S2048x1024 .bf16) (r : Fin 128) (e : Fin 2048) :
    gateR h w (ix2 r e) = sgm (∑ k, h (ix2 r k) * w (ix2 e k)) := by
  unfold gateR
  pointwise
  rfl

/-- A mixer's rows raised to the model width. -/
def upR (o : FVec Ideal S128x512 .bf16) (w : FVec Ideal S512x1024 .bf16) : FVec Ideal S128x1024 .f32 :=
  Host.dotGeneral dot_S128x512_S512x1024_S128x1024_1_0_0_1_n_n none (extf .f32 o bitsLt_bf16_f32) (extf .f32 w bitsLt_bf16_f32)

theorem upR_apply (o : FVec Ideal S128x512 .bf16) (w : FVec Ideal S512x1024 .bf16) (r : Fin 128) (j : Fin 1024) :
    upR o w (ix2 r j) = ∑ k, o (ix2 r k) * w (ix2 k j) := by
  unfold upR
  pointwise
  try rfl

/-- The mixed rows through the output weight. -/
def mixR (g : FVec Ideal S128x2048 .f32) (a p : FVec Ideal S128x1024 .f32) (w : FVec Ideal S1024x1024 .bf16) : FVec Ideal S128x1024 .f32 :=
  Host.dotGeneral dot_S128x1024_S1024x1024_S128x1024_1_0_0_1_n_n none
    (addf (mulf (extractStridedSlice S128x1024 ![0, 0] g slices_S128x2048_S128x1024_0_0) a)
      (mulf (extractStridedSlice S128x1024 ![0, 1024] g slices_S128x2048_S128x1024_0_1024) p)) (extf .f32 w bitsLt_bf16_f32)

theorem mixR_apply (g : FVec Ideal S128x2048 .f32) (a p : FVec Ideal S128x1024 .f32) (w : FVec Ideal S1024x1024 .bf16)
    (r : Fin 128) (j : Fin 1024) : mixR g a p w (ix2 r j)
      = ∑ k : Fin 1024, (g (ix2 r ⟨k.val, by omega⟩) * a (ix2 r k) + g (ix2 r ⟨1024 + k.val, by omega⟩) * p (ix2 r k)) * w (ix2 k j) := by
  unfold mixR
  pointwise
  try rfl

/-- The reference's result as a function of its arguments. -/
def outR (x : FVec Ideal S128x1024 .f32) (sh sc gt : FVec Ideal S1x128x1024 .f32) (g1 g2 : FVec Ideal S1x1024 .f32) (on op : FVec Ideal S128x512 .bf16)
    (wg : FVec Ideal S2048x1024 .bf16) (un up : FVec Ideal S512x1024 .bf16) (wo : FVec Ideal S1024x1024 .bf16) : FVec Ideal S128x1024 .f32 :=
  addf x (mulf (shapeCast _ gt shapeCasts_S1x128x1024_S128x1024) (rms (mixR (gateR (hmod x g1 sc sh) wg) (upR on un) (upR op up) wo) g2))

theorem outR_apply (x : FVec Ideal S128x1024 .f32) (sh sc gt : FVec Ideal S1x128x1024 .f32) (g1 g2 : FVec Ideal S1x1024 .f32) (on op : FVec Ideal S128x512 .bf16)
    (wg : FVec Ideal S2048x1024 .bf16) (un up : FVec Ideal S512x1024 .bf16) (wo : FVec Ideal S1024x1024 .bf16) (r : Fin 128) (j : Fin 1024) :
    outR x sh sc gt g1 g2 on op wg un up wo (ix2 r j) = smergeOut x sh sc gt g1 g2 on op wg un up wo r j := by
  unfold outR
  pointwise
  simp only [rms_apply, mixR_apply, gateR_apply, upR_apply, hmod_apply]
  rfl

theorem res_eq (m : (ℓ : Loc nD τ sig) → Buf (Elt Ideal) ℓ) (c : Dev nD) :
    res_out0 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := rfl

end Cert.SmergeRefIdeal.Hand

end
-- ==== Proof.SmergeClaims.lean ====
/- The five claims about the merge of the two mixers' sample rows. -/
module

public import proofs.«01_k».proof.Defs
public import proofs.«01_k».proof.Proof.Gen.Smerge.Frame
public import proofs.«01_k».proof.Proof.SmergeVal
public import Idealize.ShloMosaic.Lib.Quiescent

@[expose] public section

noncomputable section

open Idealize.ShloMosaic Idealize.ShloMosaic.TcCoe Idealize.SL.Sem

namespace Cert.Proof.SmergeClaims

theorem frame_p : Cert.quiescent_Smerge := fun m ρ _ => Cert.Smerge.Gen.frame m ρ
theorem frame_pi : Cert.quiescent_SmergeIdeal := fun m ρ _ => Cert.SmergeIdeal.Gen.frame m ρ
theorem frame_ri : Cert.quiescent_SmergeRefIdeal := fun m ρ _ =>
  (θ_run Cert.SmergeRefIdeal.defs _ _).mono (fun r h => ⟨fun c => (h c).2, sem_eq_zero_of_no_sems (by decide) r.2⟩)
    (Cert.SmergeRefIdeal.Value.run (F := Ideal) m ρ)
theorem preserves : Cert.preserves_Smerge_SmergeIdeal := trivial

/-- Both programs end with the merge of the two mixers' sample rows, of the same arguments. -/
theorem algebraic : Cert.algebraic_SmergeIdeal_SmergeRefIdeal := fun m ρ m' ρ' _ hag =>
  ⟨_, Cert.SmergeIdeal.Value.run m ρ,
    (θ_run _ _ _).mono (fun _ h c => ⟨(h c).1.trans (by
      funext x
      obtain ⟨r, j, rfl⟩ : ∃ (r : Fin 128) (j : Fin 1024), x = ix2 r j := ⟨x 0, x 1, eq_ix2 x⟩
      refine (congrFun (Cert.SmergeRefIdeal.Hand.res_eq m' c) (ix2 r j)).trans ((Cert.SmergeRefIdeal.Hand.outR_apply _ _ _ _ _ _ _ _ _ _ _ _ r j).trans ?_)
      obtain ⟨h0, h1, h2, h3, h4, h5, h6, h7, h8, h9, h10, h11⟩ := hag c
      rw [h0, h1, h2, h3, h4, h5, h6, h7, h8, h9, h10, h11]
      exact (Cert.SmergeIdeal.Hand.G_apply _ _ _ _ _ _ _ _ _ _ _ _ r j).symm), (h c).2⟩) (Cert.SmergeRefIdeal.Value.run (F := Ideal) m' ρ')⟩

end Cert.Proof.SmergeClaims

end
-- ==== Proof.AdaVal.lean ====
/- The modulation of the rows: what the kernel and the reference compute from the conditioning, entry by entry. -/
module

public import proofs.«01_k».proof.Proof.Gen.AdaIdeal.Value
public import proofs.«01_k».proof.Proof.Gen.AdaRefIdeal.Run
public import proofs.«01_k».proof.Proof.Spec
public import Idealize.ShloMosaic.Lib.Pointwise

@[expose] public section

set_option maxRecDepth 16384

noncomputable section
open Idealize.ShloMosaic Idealize.ShloMosaic.TcCoe Idealize.SL.Sem

namespace Cert.AdaIdeal.Hand
open Cert.AdaIdeal Cert.AdaIdeal.Gen Cert.Spec
open Idealize.ShloMosaic.Pipeline (Dat)

/-- One entry of the modulation: the conditioning row times its logistic, through the weight, plus the bias. -/
def adaOut (x : Vec Ideal ⟨2, ![136, 1024]⟩ .f32) (w : Vec Ideal ⟨2, ![1024, 6144]⟩ .f32) (b : Vec Ideal ⟨2, ![1, 6144]⟩ .f32)
    (r : Fin 136) (j : Fin 6144) : EReal :=
  (∑ k, x (ix2 r k) * sgm (x (ix2 r k)) * w (ix2 k j)) + b (ix2 0 j)

theorem hz2 : (![0, 0] : Fin 2 → Nat) = fun _ => 0 := funext fun a => by fin_cases a <;> rfl

theorem out_apply (x0 : Vec Ideal S136x1024 .f32) (x1 : Vec Ideal S1024x1024 .f32) (x2 : Vec Ideal S1x1024 .f32)
    (i : Fin 136) (j : Fin 1024) : out0_3 x0 x1 x2 (ix2 i j)
      = (∑ k, x0 (ix2 i k) * sgm (x0 (ix2 i k)) * x1 (ix2 k j)) + x2 (ix2 0 j) := by
  unfold out0_3
  rw [View.canon_unit_zero hz2]
  simp only [View.ld_unit_zero (S := S136x1024) hz2, View.ld_unit_zero (S := S1x1024) hz2, View.ld_unit_zero (S := S1024x1024) hz2]
  unfold k0_pay1
  pointwise
  rfl

variable (m : (ℓ : Loc nD τ sig) → Buf (Elt Ideal) ℓ) (ρ : Dev nD → PrngReg)

/-- Every window's block index at every grid point. -/
theorem idx : ∀ t : Fin grid0.N, win0_0.index t = ![0, 0] ∧ win0_1.index t = ![0, t.val]
    ∧ win0_2.index t = ![0, t.val] ∧ win0_3.index t = ![0, t.val] := by
  decide +kernel

theorem lt6 (t : Fin cfg0.N) : t.val < 6 := by have := t.isLt; have hN : cfg0.N = 6 := N_0; omega

/-- The array column under column `j` of block `t`. -/
abbrev col (t : Fin cfg0.N) (j : Fin 1024) : Fin 6144 := ⟨t.val * 1024 + j.val, by have := lt6 t; omega⟩

theorem blk0 (c : Dev nD) (t : Fin cfg0.N) : (iblk m c 0 t : Vec Ideal S136x1024 .f32) = m ((c : Thread nD τ).loc main_arg0) := by
  funext x
  unfold iblk
  rw [View.read_apply]
  refine congrArg (m (c.tc.loc main_arg0)) (funext fun a => Fin.ext ?_)
  have h := (idx t).1
  match a with
  | ⟨0, _⟩ => show win0_0.index t 0 * 136 + 1 * (x 0).val = (x 0).val; rw [h]; simp
  | ⟨1, _⟩ => show win0_0.index t 1 * 1024 + 1 * (x 1).val = (x 1).val; rw [h]; simp

theorem blk1 (c : Dev nD) (t : Fin cfg0.N) (i : Fin 1024) (j : Fin 1024) :
    (iblk m c 1 t : Vec Ideal S1024x1024 .f32) (ix2 i j) = (m ((c : Thread nD τ).loc main_arg1) : Vec Ideal S1024x6144 .f32) (ix2 i (col t j)) := by
  unfold iblk
  rw [View.read_apply]
  refine congrArg (m (c.tc.loc main_arg1)) (funext fun a => Fin.ext ?_)
  have h := (idx t).2.1
  match a with
  | ⟨0, _⟩ => show win0_1.index t 0 * 1024 + 1 * i.val = i.val; rw [h]; simp
  | ⟨1, _⟩ => show win0_1.index t 1 * 1024 + 1 * j.val = t.val * 1024 + j.val; rw [h]; simp

theorem blk2 (c : Dev nD) (t : Fin cfg0.N) (j : Fin 1024) :
    (iblk m c 2 t : Vec Ideal S1x1024 .f32) (ix2 0 j) = (m ((c : Thread nD τ).loc main_arg2) : Vec Ideal S1x6144 .f32) (ix2 0 (col t j)) := by
  unfold iblk
  rw [View.read_apply]
  refine congrArg (m (c.tc.loc main_arg2)) (funext fun a => Fin.ext ?_)
  have h := (idx t).2.2.1
  match a with
  | ⟨0, _⟩ => show win0_2.index t 0 * 1 + 1 * 0 = 0; rw [h]; simp
  | ⟨1, _⟩ => show win0_2.index t 1 * 1024 + 1 * j.val = t.val * 1024 + j.val; rw [h]; simp

/-- The result array: the modulation of each conditioning row. -/
abbrev G (c : Dev nD) : Buf (Elt Ideal) ((c : Thread nD τ).loc main_v0) := fun x : S136x6144.Idx =>
  adaOut (m ((c : Thread nD τ).loc main_arg0)) (m ((c : Thread nD τ).loc main_arg1)) (m ((c : Thread nD τ).loc main_arg2)) (x 0) (x 1)

theorem flushed_eq (c : Dev nD) (t : Fin cfg0.N) :
    (dats m 0 c).flushed 3 t = ((cfg0.win 3).blk t).view.read (Elt Ideal) (G m c) := by
  rw [Value.flushed3]
  funext x
  obtain ⟨i, j, rfl⟩ : ∃ (i : Fin 136) (j : Fin 1024), x = ix2 i j := ⟨x 0, x 1, eq_ix2 x⟩
  rw [View.read_apply]
  refine (out_apply _ _ _ i j).trans ?_
  simp only [blk0, blk1, blk2]
  have h := (idx t).2.2.2
  show G m c (ix2 i (col t j)) = _
  refine congrArg (G m c) (funext fun a => Fin.ext ?_)
  match a with
  | ⟨0, _⟩ => show i.val = win0_3.index t 0 * 136 + 1 * i.val; rw [h]; simp
  | ⟨1, _⟩ => show t.val * 1024 + j.val = win0_3.index t 1 * 1024 + 1 * j.val; rw [h]; simp

theorem cover (x : S136x6144.Idx) : ∃ t : Fin cfg0.N, (cfg0.win 3).flush t = true ∧ x ∈ ((cfg0.win 3).blk t).view.set := by
  have h0 : (x 0).val < 136 := (x 0).isLt
  have h1 : (x 1).val < 6144 := (x 1).isLt
  have hN : cfg0.N = 6 := N_0
  obtain ⟨t, ht⟩ : ∃ t : Fin cfg0.N, t.val = (x 1).val / 1024 := ⟨⟨(x 1).val / 1024, by omega⟩, rfl⟩
  refine ⟨t, flush0_3 _, ?_⟩
  show x ∈ ((View.whole main_v0).slice (win0_3.rect t)).set
  rw [View.set_slice_whole, Rect.mem_set_unit]
  have h := (idx t).2.2.2
  intro a
  match a with
  | ⟨0, _⟩ => show win0_3.index t 0 * 136 ≤ (x 0).val ∧ (x 0).val < win0_3.index t 0 * 136 + 136; rw [h]; simp; omega
  | ⟨1, _⟩ => show win0_3.index t 1 * 1024 ≤ (x 1).val ∧ (x 1).val < win0_3.index t 1 * 1024 + 1024; rw [h]; simp; omega

theorem final (c : Dev nD) : (dats m 0 c).arrAt 3 cfg0.N = G m c :=
  (dats m 0 c).arrAt_eq_of_cover 3 (G m c) (fun t _ => flushed_eq m c t) cover

end Cert.AdaIdeal.Hand

/-! ## The reference's result -/

namespace Cert.AdaRefIdeal.Hand
open Cert.AdaRefIdeal Cert.AdaRefIdeal.Gen Cert.Spec Cert.AdaIdeal.Hand

/-- The reference's result as a function of its arguments. -/
def outR (x : FVec Ideal S136x1024 .f32) (w : FVec Ideal S1024x6144 .f32) (b : FVec Ideal S1x6144 .f32) : FVec Ideal S136x6144 .f32 :=
  addf (Host.dotGeneral dot_S136x1024_S1024x6144_S136x6144_1_0_0_1_n_n none (mulf x (Host.divf (broadcastInDim S136x1024 ![] bcast_S_S136x1024 (constant S_ .f32 0x3F800000#32))
    (addf (broadcastInDim S136x1024 ![] bcast_S_S136x1024 (constant S_ .f32 0x3F800000#32)) (Host.exp (Host.negf x))))) w)
    (broadcastInDim S136x6144 ![0, 1] bcast_S1x6144_S136x6144_0_1 (broadcastInDim S1x6144 ![1] bcast_S6144_S1x6144_1 (shapeCast _ b shapeCasts_S1x6144_S6144)))

theorem outR_apply (x : FVec Ideal S136x1024 .f32) (w : FVec Ideal S1024x6144 .f32) (b : FVec Ideal S1x6144 .f32) (r : Fin 136) (j : Fin 6144) :
    outR x w b (ix2 r j) = adaOut x w b r j := by
  unfold outR
  pointwise
  rfl

end Cert.AdaRefIdeal.Hand

end
-- ==== Proof.AdaClaims.lean ====
/- The five claims about the modulation of the rows. -/
module

public import proofs.«01_k».proof.Defs
public import proofs.«01_k».proof.Proof.Gen.Ada.Frame
public import proofs.«01_k».proof.Proof.AdaVal
public import Idealize.ShloMosaic.Lib.Quiescent

@[expose] public section

noncomputable section

open Idealize.ShloMosaic Idealize.ShloMosaic.TcCoe Idealize.SL.Sem

namespace Cert.Proof.AdaClaims

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)
theorem preserves : Cert.preserves_Ada_AdaIdeal := trivial

/-- Both programs end with the modulation of the same conditioning. -/
theorem algebraic : Cert.algebraic_AdaIdeal_AdaRefIdeal := fun m ρ m' ρ' _ hag =>
  ⟨fun c => Cert.AdaIdeal.Hand.G m c,
    (θ_run _ _ _).mono (fun _ h c => ⟨(h c).1.trans (Cert.AdaIdeal.Hand.final m c), (h c).2⟩) (Cert.AdaIdeal.Value.run_blocks m ρ),
    (θ_run _ _ _).mono (fun _ h c => ⟨(h c).1.trans (by
      funext x
      obtain ⟨r, j, rfl⟩ : ∃ (r : Fin 136) (j : Fin 6144), x = ix2 r j := ⟨x 0, x 1, eq_ix2 x⟩
      refine (Cert.AdaRefIdeal.Hand.outR_apply _ _ _ r j).trans ?_
      obtain ⟨h0, h1, h2⟩ := hag c
      rw [h0, h1, h2]
      rfl), (h c).2⟩) (Cert.AdaRefIdeal.Value.run (F := Ideal) m' ρ')⟩

end Cert.Proof.AdaClaims

end
-- ==== Proof.lean ====
/- The proof of the claim: each conjunct from its module. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal
public import proofs.«01_k».proof.Proof.Gen.Sproj
public import proofs.«01_k».proof.Proof.Gen.Sproj.Skeleton
public import proofs.«01_k».proof.Proof.Gen.Sproj.Launch
public import proofs.«01_k».proof.Proof.Gen.Sproj.Points
public import proofs.«01_k».proof.Proof.Gen.Sproj.Frame
public import proofs.«01_k».proof.Proof.Gen.SprojIdeal
public import proofs.«01_k».proof.Proof.Gen.SprojIdeal.Skeleton
public import proofs.«01_k».proof.Proof.Gen.SprojIdeal.Launch
public import proofs.«01_k».proof.Proof.Gen.SprojIdeal.Points
public import proofs.«01_k».proof.Proof.Gen.SprojIdeal.Frame
public import proofs.«01_k».proof.Proof.Gen.SprojIdeal.Value
public import proofs.«01_k».proof.Proof.Gen.SprojRefIdeal.Run
public import proofs.«01_k».proof.Proof.Gen.SprojRefIdeal
public import proofs.«01_k».proof.Proof.Gen.Pproj
public import proofs.«01_k».proof.Proof.Gen.Pproj.Skeleton
public import proofs.«01_k».proof.Proof.Gen.Pproj.Launch
public import proofs.«01_k».proof.Proof.Gen.Pproj.Points
public import proofs.«01_k».proof.Proof.Gen.PprojIdeal
public import proofs.«01_k».proof.Proof.Gen.PprojIdeal.Skeleton
public import proofs.«01_k».proof.Proof.Gen.PprojIdeal.Launch
public import proofs.«01_k».proof.Proof.Gen.PprojIdeal.Points
public import proofs.«01_k».proof.Proof.Gen.PprojRefIdeal.Run
public import proofs.«01_k».proof.Proof.Gen.PprojRefIdeal
public import proofs.«01_k».proof.Proof.Gen.Smlp
public import proofs.«01_k».proof.Proof.Gen.Smlp.Skeleton
public import proofs.«01_k».proof.Proof.Gen.Smlp.Launch
public import proofs.«01_k».proof.Proof.Gen.Smlp.Points
public import proofs.«01_k».proof.Proof.Gen.Smlp.Frame
public import proofs.«01_k».proof.Proof.Gen.SmlpIdeal
public import proofs.«01_k».proof.Proof.Gen.SmlpIdeal.Skeleton
public import proofs.«01_k».proof.Proof.Gen.SmlpIdeal.Launch
public import proofs.«01_k».proof.Proof.Gen.SmlpIdeal.Points
public import proofs.«01_k».proof.Proof.Gen.SmlpIdeal.Frame
public import proofs.«01_k».proof.Proof.Gen.SmlpIdeal.Value
public import proofs.«01_k».proof.Proof.Gen.SmlpRefIdeal.Run
public import proofs.«01_k».proof.Proof.Gen.SmlpRefIdeal
public import proofs.«01_k».proof.Proof.Gen.Smerge
public import proofs.«01_k».proof.Proof.Gen.Smerge.Skeleton
public import proofs.«01_k».proof.Proof.Gen.Smerge.Launch
public import proofs.«01_k».proof.Proof.Gen.Smerge.Points
public import proofs.«01_k».proof.Proof.Gen.Smerge.Frame
public import proofs.«01_k».proof.Proof.Gen.SmergeIdeal
public import proofs.«01_k».proof.Proof.Gen.SmergeIdeal.Skeleton
public import proofs.«01_k».proof.Proof.Gen.SmergeIdeal.Launch
public import proofs.«01_k».proof.Proof.Gen.SmergeIdeal.Points
public import proofs.«01_k».proof.Proof.Gen.SmergeIdeal.Frame
public import proofs.«01_k».proof.Proof.Gen.SmergeIdeal.Value
public import proofs.«01_k».proof.Proof.Gen.SmergeRefIdeal.Run
public import proofs.«01_k».proof.Proof.Gen.SmergeRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal
public import proofs.«01_k».proof.Proof.MlpClaims
public import proofs.«01_k».proof.Proof.MergeClaims
public import proofs.«01_k».proof.Proof.SprojClaims
public import proofs.«01_k».proof.Proof.PprojClaims
public import proofs.«01_k».proof.Proof.SmlpClaims
public import proofs.«01_k».proof.Proof.SmergeClaims
public import proofs.«01_k».proof.Proof.AdaClaims
public import Idealize.ShloMosaic.Adequacy
public import Idealize.ShloMosaic.Init

@[expose] public section

noncomputable section

namespace Cert.Proof

open Idealize.ShloMosaic Idealize.SL.Sem Cert.Mlp

theorem claim : Cert.Claim :=
  ⟨Cert.Mlp.Gen.facts, Cert.MlpIdeal.Gen.facts, Cert.MlpRefIdeal.Gen.facts,
   Cert.Merge.Gen.facts, Cert.MergeIdeal.Gen.facts, Cert.MergeRefIdeal.Gen.facts,
   Cert.Sproj.Gen.facts, Cert.SprojIdeal.Gen.facts, Cert.SprojRefIdeal.Gen.facts,
   Cert.Pproj.Gen.facts, Cert.PprojIdeal.Gen.facts, Cert.PprojRefIdeal.Gen.facts,
   Cert.Smlp.Gen.facts, Cert.SmlpIdeal.Gen.facts, Cert.SmlpRefIdeal.Gen.facts,
   Cert.Smerge.Gen.facts, Cert.SmergeIdeal.Gen.facts, Cert.SmergeRefIdeal.Gen.facts,
   Cert.Ada.Gen.facts, Cert.AdaIdeal.Gen.facts, Cert.AdaRefIdeal.Gen.facts,
   Cert.Pre_pages_exist.Hand.facts, Cert.On_but_cache.Hand.facts, MlpClaims.frame_p,
   MlpClaims.frame_pi, MlpClaims.frame_ri, MergeClaims.frame_p,
   MergeClaims.frame_pi, MergeClaims.frame_ri, SprojClaims.frame_p,
   SprojClaims.frame_pi, SprojClaims.frame_ri, PprojClaims.frame_p,
   PprojClaims.frame_pi, PprojClaims.frame_ri, SmlpClaims.frame_p,
   SmlpClaims.frame_pi, SmlpClaims.frame_ri, SmergeClaims.frame_p,
   SmergeClaims.frame_pi, SmergeClaims.frame_ri, AdaClaims.frame_p,
   AdaClaims.frame_pi, AdaClaims.frame_ri, MlpClaims.preserves,
   MlpClaims.algebraic, MergeClaims.preserves, MergeClaims.algebraic,
   SprojClaims.preserves, SprojClaims.algebraic, PprojClaims.preserves,
   PprojClaims.algebraic, SmlpClaims.preserves, SmlpClaims.algebraic,
   SmergeClaims.preserves, SmergeClaims.algebraic, AdaClaims.preserves,
   AdaClaims.algebraic⟩

end Cert.Proof

end
